-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S3x1024x1024 : Shape := ⟨3, ![3, 1024, 1024]⟩
abbrev S2x1024x1024 : Shape := ⟨3, ![2, 1024, 1024]⟩
abbrev S3x2 : Shape := ⟨2, ![3, 2]⟩
abbrev S2 : Shape := ⟨1, ![2]⟩
abbrev S4 : Shape := ⟨1, ![4]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .bf16⟩
  | .hbm, ⟨3, _⟩ => ⟨S4096x2048, .f32⟩
  | .local _ .vmem, ⟨0, _⟩ => ⟨S1024x2048, .f32⟩
  | .local _ .vmem, ⟨1, _⟩ => ⟨S4096x2048, .bf16⟩
  | .local _ .vmem, ⟨2, _⟩ => ⟨S3x1024x1024, .bf16⟩
  | .local _ .vmem, ⟨3, _⟩ => ⟨S3x1024x1024, .bf16⟩
  | .local _ .vmem, ⟨4, _⟩ => ⟨S2x1024x1024, .f32⟩
  | .local _ .vmem, ⟨5, _⟩ => ⟨S2x1024x1024, .bf16⟩
  | .local _ .vmem, ⟨6, _⟩ => ⟨S1024x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_208 : BitVec 32 := 16#32
  let v216 : BitVec 32 := Scalar.addi v2 c16_i32_208
  let c4_i32_209 : BitVec 32 := 4#32
  let v217 : BitVec 32 := Scalar.remsi v216 c4_i32_209
  let c1024_i32_210 : BitVec 32 := 1024#32
  let v218 : BitVec 32 := Scalar.muli v217 c1024_i32_210
  let c0_i32_215 : BitVec 32 := 0#32
  ![v218.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_224 : BitVec 32 := 1#32
  let v235 : BitVec 32 := Scalar.subi v2 c1_i32_224
  let c16_i32_225 : BitVec 32 := 16#32
  let v236 : BitVec 32 := Scalar.addi v235 c16_i32_225
  let c4_i32_226 : BitVec 32 := 4#32
  let v237 : BitVec 32 := Scalar.remsi v236 c4_i32_226
  let c1024_i32_227 : BitVec 32 := 1024#32
  let v238 : BitVec 32 := Scalar.muli v237 c1024_i32_227
  let c0_i32_232 : BitVec 32 := 0#32
  ![v238.toNat, 0]
def k0_off3 (d0 : Dev nD) (c0_i32_247 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_244 : BitVec 32 := 16#32
  let v255 : BitVec 32 := Scalar.addi v2 c16_i32_244
  let c4_i32_245 : BitVec 32 := 4#32
  let v256 : BitVec 32 := Scalar.remsi v255 c4_i32_245
  let c1024_i32_246 : BitVec 32 := 1024#32
  let v257 : BitVec 32 := Scalar.muli v256 c1024_i32_246
  let v258 : BitVec 32 := Scalar.addi v257 c0_i32_247
  let v259 : Index := Scalar.indexCast v258
  let c0_248 : Index := 0#32
  ![v259.toNat, 0]
def k0_off4 (d0 : Dev nD) (c0_i32_8 : BitVec 32) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi v2 c0_i32_8
  let c16_i32 : BitVec 32 := 16#32
  let v13 : BitVec 32 := Scalar.addi v12 c16_i32
  let c4_i32_9 : BitVec 32 := 4#32
  let v14 : BitVec 32 := Scalar.remsi v13 c4_i32_9
  let c1024_i32 : BitVec 32 := 1024#32
  let v15 : BitVec 32 := Scalar.muli v14 c1024_i32
  let v16 : BitVec 32 := Scalar.addi v15 c0_i32_10
  let c0_i32_259 : BitVec 32 := 0#32
  ![v16.toNat, 0]
def k0_dev3 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_255 : BitVec 32 := 1#32
  let v263 : BitVec 32 := Scalar.muli v6 c1_i32_255
  let v264 : BitVec 32 := Scalar.addi c0_i32_256 v263
  v264.toNat
def k0_dev4 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_275 : BitVec 32 := 1#32
  let v285 : BitVec 32 := Scalar.muli v6 c1_i32_275
  let v286 : BitVec 32 := Scalar.addi c0_i32_276 v285
  v286.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_289 : BitVec 32 := 16#32
  let v305 : BitVec 32 := Scalar.addi v2 c16_i32_289
  let c4_i32_290 : BitVec 32 := 4#32
  let v306 : BitVec 32 := Scalar.remsi v305 c4_i32_290
  let c1024_i32_291 : BitVec 32 := 1024#32
  let v307 : BitVec 32 := Scalar.muli v306 c1024_i32_291
  let v308 : Index := Scalar.indexCast v307
  let c1024_292 : Index := 1024#32
  ![v308.toNat, 1024]
def k0_off6 (d0 : Dev nD) (c0_i32_15 : BitVec 32) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v22 : BitVec 32 := Scalar.addi v2 c0_i32_15
  let c16_i32_16 : BitVec 32 := 16#32
  let v23 : BitVec 32 := Scalar.addi v22 c16_i32_16
  let c4_i32_17 : BitVec 32 := 4#32
  let v24 : BitVec 32 := Scalar.remsi v23 c4_i32_17
  let c1024_i32_18 : BitVec 32 := 1024#32
  let v25 : BitVec 32 := Scalar.muli v24 c1024_i32_18
  let v26 : BitVec 32 := Scalar.addi v25 c0_i32_19
  let c1024_i32_302 : BitVec 32 := 1024#32
  ![v26.toNat, 1024]
def k0_dev5 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_298 : BitVec 32 := 1#32
  let v312 : BitVec 32 := Scalar.muli v4 c1_i32_298
  let v313 : BitVec 32 := Scalar.addi c0_i32_299 v312
  v313.toNat
def k0_dev6 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_308 : BitVec 32 := 1#32
  let v321 : BitVec 32 := Scalar.muli v4 c1_i32_308
  let v322 : BitVec 32 := Scalar.addi c0_i32_309 v321
  v322.toNat
def k0_off7 (d0 : Dev nD) (c1_i32_318 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v335 : BitVec 32 := Scalar.addi v2 c1_i32_318
  let c16_i32_319 : BitVec 32 := 16#32
  let v336 : BitVec 32 := Scalar.addi v335 c16_i32_319
  let c4_i32_320 : BitVec 32 := 4#32
  let v337 : BitVec 32 := Scalar.remsi v336 c4_i32_320
  let c1024_i32_321 : BitVec 32 := 1024#32
  let v338 : BitVec 32 := Scalar.muli v337 c1024_i32_321
  let c0_i32_326 : BitVec 32 := 0#32
  ![v338.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_327 : BitVec 32 := 1#32
  let v344 : BitVec 32 := Scalar.subi v2 c1_i32_327
  let c16_i32_339 : BitVec 32 := 16#32
  let v356 : BitVec 32 := Scalar.addi v344 c16_i32_339
  let c4_i32_340 : BitVec 32 := 4#32
  let v357 : BitVec 32 := Scalar.remsi v356 c4_i32_340
  let c1024_i32_341 : BitVec 32 := 1024#32
  let v358 : BitVec 32 := Scalar.muli v357 c1024_i32_341
  let v359 : Index := Scalar.indexCast v358
  let c0_342 : Index := 0#32
  ![v359.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_327 : BitVec 32 := 1#32
  let v344 : BitVec 32 := Scalar.subi v2 c1_i32_327
  let c16_i32_349 : BitVec 32 := 16#32
  let v368 : BitVec 32 := Scalar.addi v344 c16_i32_349
  let c4_i32_350 : BitVec 32 := 4#32
  let v369 : BitVec 32 := Scalar.remsi v368 c4_i32_350
  let c1024_i32_351 : BitVec 32 := 1024#32
  let v370 : BitVec 32 := Scalar.muli v369 c1024_i32_351
  let v371 : Index := Scalar.indexCast v370
  let c1024_352 : Index := 1024#32
  ![v371.toNat, 1024]
def k0_off10 (d0 : Dev nD) (c1_i32_367 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v389 : BitVec 32 := Scalar.addi v2 c1_i32_367
  let c16_i32_380 : BitVec 32 := 16#32
  let v401 : BitVec 32 := Scalar.addi v389 c16_i32_380
  let c4_i32_381 : BitVec 32 := 4#32
  let v402 : BitVec 32 := Scalar.remsi v401 c4_i32_381
  let c1024_i32_382 : BitVec 32 := 1024#32
  let v403 : BitVec 32 := Scalar.muli v402 c1024_i32_382
  let v404 : Index := Scalar.indexCast v403
  let c0_383 : Index := 0#32
  ![v404.toNat, 0]
def k0_off11 (d0 : Dev nD) (c1_i32_367 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v389 : BitVec 32 := Scalar.addi v2 c1_i32_367
  let c16_i32_390 : BitVec 32 := 16#32
  let v413 : BitVec 32 := Scalar.addi v389 c16_i32_390
  let c4_i32_391 : BitVec 32 := 4#32
  let v414 : BitVec 32 := Scalar.remsi v413 c4_i32_391
  let c1024_i32_392 : BitVec 32 := 1024#32
  let v415 : BitVec 32 := Scalar.muli v414 c1024_i32_392
  let v416 : Index := Scalar.indexCast v415
  let c1024_393 : Index := 1024#32
  ![v416.toNat, 1024]
def k0_off12 (d0 : Dev nD) (c0_i32_445 : BitVec 32) (c0_i32_450 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v468 : BitVec 32 := Scalar.subi v2 c0_i32_445
  let c1_i32_446 : BitVec 32 := 1#32
  let v469 : BitVec 32 := Scalar.subi v468 c1_i32_446
  let c16_i32_447 : BitVec 32 := 16#32
  let v470 : BitVec 32 := Scalar.addi v469 c16_i32_447
  let c4_i32_448 : BitVec 32 := 4#32
  let v471 : BitVec 32 := Scalar.remsi v470 c4_i32_448
  let c1024_i32_449 : BitVec 32 := 1024#32
  let v472 : BitVec 32 := Scalar.muli v471 c1024_i32_449
  let v473 : BitVec 32 := Scalar.addi v472 c0_i32_450
  let v474 : Index := Scalar.indexCast v473
  let c0_451 : Index := 0#32
  ![v474.toNat, 0]
def k0_dev7 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_461 : BitVec 32 := 1#32
  let v483 : BitVec 32 := Scalar.muli v6 c1_i32_461
  let v484 : BitVec 32 := Scalar.addi c0_i32_462 v483
  v484.toNat
def k0_off13 (d0 : Dev nD) (c0_i32_485 : BitVec 32) (c0_i32_490 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v504 : BitVec 32 := Scalar.addi v2 c0_i32_485
  let c1_i32_486 : BitVec 32 := 1#32
  let v505 : BitVec 32 := Scalar.addi v504 c1_i32_486
  let c16_i32_487 : BitVec 32 := 16#32
  let v506 : BitVec 32 := Scalar.addi v505 c16_i32_487
  let c4_i32_488 : BitVec 32 := 4#32
  let v507 : BitVec 32 := Scalar.remsi v506 c4_i32_488
  let c1024_i32_489 : BitVec 32 := 1024#32
  let v508 : BitVec 32 := Scalar.muli v507 c1024_i32_489
  let v509 : BitVec 32 := Scalar.addi v508 c0_i32_490
  let v510 : Index := Scalar.indexCast v509
  let c1024_491 : Index := 1024#32
  ![v510.toNat, 1024]
def k0_dev8 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_501 : BitVec 32 := 1#32
  let v519 : BitVec 32 := Scalar.muli v4 c1_i32_501
  let v520 : BitVec 32 := Scalar.addi c0_i32_502 v519
  v520.toNat
def k0_dev9 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_541 : BitVec 32 := 1#32
  let v555 : BitVec 32 := Scalar.muli v6 c1_i32_541
  let v556 : BitVec 32 := Scalar.addi c0_i32_542 v555
  v556.toNat
def k0_dev10 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_581 : BitVec 32 := 1#32
  let v591 : BitVec 32 := Scalar.muli v4 c1_i32_581
  let v592 : BitVec 32 := Scalar.addi c0_i32_582 v591
  v592.toNat
def k0_dev11 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_621 : BitVec 32 := 1#32
  let v627 : BitVec 32 := Scalar.muli v6 c1_i32_621
  let v628 : BitVec 32 := Scalar.addi c0_i32_622 v627
  v628.toNat
def k0_dev12 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_661 : BitVec 32 := 1#32
  let v663 : BitVec 32 := Scalar.muli v4 c1_i32_661
  let v664 : BitVec 32 := Scalar.addi c0_i32_662 v663
  v664.toNat
def k0_dev13 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_701 : BitVec 32 := 1#32
  let v699 : BitVec 32 := Scalar.muli v6 c1_i32_701
  let v700 : BitVec 32 := Scalar.addi c0_i32_702 v699
  v700.toNat
def k0_dev14 (d0 : Dev nD) : Nat :=
  let c0_i32_742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_741 : BitVec 32 := 1#32
  let v735 : BitVec 32 := Scalar.muli v4 c1_i32_741
  let v736 : BitVec 32 := Scalar.addi c0_i32_742 v735
  v736.toNat
def k0_off14 (d0 : Dev nD) (c0_i32_32 : BitVec 32) (c0_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v38 : BitVec 32 := Scalar.addi v2 c1_i32_31
  let v39 : BitVec 32 := Scalar.subi v38 c0_i32_32
  let c16_i32_33 : BitVec 32 := 16#32
  let v40 : BitVec 32 := Scalar.addi v39 c16_i32_33
  let c4_i32_34 : BitVec 32 := 4#32
  let v41 : BitVec 32 := Scalar.remsi v40 c4_i32_34
  let c1024_i32_35 : BitVec 32 := 1024#32
  let v42 : BitVec 32 := Scalar.muli v41 c1024_i32_35
  let v43 : BitVec 32 := Scalar.addi v42 c0_i32_36
  let c0_i32_781 : BitVec 32 := 0#32
  ![v43.toNat, 0]
def k0_dev15 (d0 : Dev nD) : Nat :=
  let c0_i32_780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_779 : BitVec 32 := 1#32
  let v771 : BitVec 32 := Scalar.muli v6 c1_i32_779
  let v772 : BitVec 32 := Scalar.addi c0_i32_780 v771
  v772.toNat
def k0_off15 (d0 : Dev nD) (c0_i32_56 : BitVec 32) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_55 : BitVec 32 := 1#32
  let v62 : BitVec 32 := Scalar.subi v2 c1_i32_55
  let v63 : BitVec 32 := Scalar.addi v62 c0_i32_56
  let c16_i32_57 : BitVec 32 := 16#32
  let v64 : BitVec 32 := Scalar.addi v63 c16_i32_57
  let c4_i32_58 : BitVec 32 := 4#32
  let v65 : BitVec 32 := Scalar.remsi v64 c4_i32_58
  let c1024_i32_59 : BitVec 32 := 1024#32
  let v66 : BitVec 32 := Scalar.muli v65 c1024_i32_59
  let v67 : BitVec 32 := Scalar.addi v66 c0_i32_60
  let c1024_i32_819 : BitVec 32 := 1024#32
  ![v67.toNat, 1024]
def k0_dev16 (d0 : Dev nD) : Nat :=
  let c0_i32_818 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_817 : BitVec 32 := 1#32
  let v806 : BitVec 32 := Scalar.muli v4 c1_i32_817
  let v807 : BitVec 32 := Scalar.addi c0_i32_818 v806
  v807.toNat
def k0_dev17 (d0 : Dev nD) : Nat :=
  let c0_i32_856 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_855 : BitVec 32 := 1#32
  let v841 : BitVec 32 := Scalar.muli v6 c1_i32_855
  let v842 : BitVec 32 := Scalar.addi c0_i32_856 v841
  v842.toNat
def k0_dev18 (d0 : Dev nD) : Nat :=
  let c0_i32_894 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_893 : BitVec 32 := 1#32
  let v876 : BitVec 32 := Scalar.muli v4 c1_i32_893
  let v877 : BitVec 32 := Scalar.addi c0_i32_894 v876
  v877.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_897 : BitVec 32 := 1#32
  let v884 : BitVec 32 := Scalar.addi v2 c1_i32_897
  let c16_i32_898 : BitVec 32 := 16#32
  let v885 : BitVec 32 := Scalar.addi v884 c16_i32_898
  let c4_i32_899 : BitVec 32 := 4#32
  let v886 : BitVec 32 := Scalar.remsi v885 c4_i32_899
  let c1024_i32_900 : BitVec 32 := 1024#32
  let v887 : BitVec 32 := Scalar.muli v886 c1024_i32_900
  let c0_i32_902 : BitVec 32 := 0#32
  ![v887.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_904 : BitVec 32 := 1#32
  let v892 : BitVec 32 := Scalar.subi v2 c1_i32_904
  let c16_i32_905 : BitVec 32 := 16#32
  let v893 : BitVec 32 := Scalar.addi v892 c16_i32_905
  let c4_i32_906 : BitVec 32 := 4#32
  let v894 : BitVec 32 := Scalar.remsi v893 c4_i32_906
  let c1024_i32_907 : BitVec 32 := 1024#32
  let v895 : BitVec 32 := Scalar.muli v894 c1024_i32_907
  let c1024_i32_909 : BitVec 32 := 1024#32
  ![v895.toNat, 1024]
def k0_dev19 (d0 : Dev nD) : Nat :=
  let c0_i32_924 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_923 : BitVec 32 := 1#32
  let v906 : BitVec 32 := Scalar.muli v6 c1_i32_923
  let v907 : BitVec 32 := Scalar.addi c0_i32_924 v906
  v907.toNat
def k0_dev20 (d0 : Dev nD) : Nat :=
  let c0_i32_948 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_947 : BitVec 32 := 1#32
  let v929 : BitVec 32 := Scalar.muli v4 c1_i32_947
  let v930 : BitVec 32 := Scalar.addi c0_i32_948 v929
  v930.toNat
def k0_dev21 (d0 : Dev nD) : Nat :=
  let c0_i32_972 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_971 : BitVec 32 := 1#32
  let v952 : BitVec 32 := Scalar.muli v6 c1_i32_971
  let v953 : BitVec 32 := Scalar.addi c0_i32_972 v952
  v953.toNat
def k0_dev22 (d0 : Dev nD) : Nat :=
  let c0_i32_999 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_998 : BitVec 32 := 1#32
  let v979 : BitVec 32 := Scalar.muli v4 c1_i32_998
  let v980 : BitVec 32 := Scalar.addi c0_i32_999 v979
  v980.toNat
def k0_dev23 (d0 : Dev nD) : Nat :=
  let c0_i32_1026 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1025 : BitVec 32 := 1#32
  let v1006 : BitVec 32 := Scalar.muli v6 c1_i32_1025
  let v1007 : BitVec 32 := Scalar.addi c0_i32_1026 v1006
  v1007.toNat
def k0_dev24 (d0 : Dev nD) : Nat :=
  let c0_i32_1053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1052 : BitVec 32 := 1#32
  let v1033 : BitVec 32 := Scalar.muli v4 c1_i32_1052
  let v1034 : BitVec 32 := Scalar.addi c0_i32_1053 v1033
  v1034.toNat
def k0_dev25 (d0 : Dev nD) : Nat :=
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1079 : BitVec 32 := 1#32
  let v1060 : BitVec 32 := Scalar.muli v6 c1_i32_1079
  let v1061 : BitVec 32 := Scalar.addi c0_i32_1080 v1060
  v1061.toNat
def k0_dev26 (d0 : Dev nD) : Nat :=
  let c0_i32_1107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1106 : BitVec 32 := 1#32
  let v1087 : BitVec 32 := Scalar.muli v4 c1_i32_1106
  let v1088 : BitVec 32 := Scalar.addi c0_i32_1107 v1087
  v1088.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cells.lean ====
/- The ring of four devices, the semaphores the kernel counts on, and what a device owes at each moment.

   Two rings run at once. In direction 0 a device sends to the device after it, in direction 1 to the device before it;
   direction 0 carries the left half of the columns, direction 1 the right half. A chunk of 1024 rows moves six times in
   each direction: three times to be summed (transfers 0, 1, 2) and three times to be handed round (3, 4, 5); each time
   in two pieces of 512 rows. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit tileCredit_pos)

/-! ## The ring -/

/-- The device that direction `d` sends to from `c`. -/
def nx (d : Fin 2) (c : Dev nD) : Dev nD := if d = 0 then c + 1 else c + 3
/-- The device whose copies in direction `d` arrive at `c`. -/
def fr (d : Fin 2) (c : Dev nD) : Dev nD := if d = 0 then c + 3 else c + 1

theorem fr_nx (d : Fin 2) (c : Dev nD) : fr d (nx d c) = c := by revert d c; decide
theorem nx_fr (d : Fin 2) (c : Dev nD) : nx d (fr d c) = c := by revert d c; decide
theorem nx_inj (d : Fin 2) : Function.Injective (nx d) := by revert d; decide

/-- The chunk of rows that device `c` sends in transfer `k` of direction `d`. -/
def ck (d : Fin 2) (c : Dev nD) (k : ℕ) : Fin 4 := (fr d)^[k] c

theorem ck_zero (d : Fin 2) (c : Dev nD) : ck d c 0 = c := rfl
theorem ck_one (d : Fin 2) (c : Dev nD) : ck d c 1 = fr d c := rfl
/-- What `c` sends in transfer `k` is what the next device receives in it, and passes on in transfer `k + 1`. -/
theorem ck_nx (d : Fin 2) (c : Dev nD) (k : ℕ) : ck d (nx d c) (k + 1) = ck d c k := by
  unfold ck; rw [Function.iterate_succ_apply, fr_nx]
theorem ck_four (d : Fin 2) (c : Dev nD) : ck d c 4 = ck d c 0 := by revert d c; decide
theorem ck_five (d : Fin 2) (c : Dev nD) : ck d c 5 = ck d c 1 := by revert d c; decide
theorem ck_six (d : Fin 2) (c : Dev nD) : ck d c 6 = ck d c 2 := by revert d c; decide

/-! ## The semaphores -/

/-- The semaphores of one device: the barrier's; for each direction, transfer and half the one its copy's source counts
    and the one its target counts; the two of the loads of `x`; the four of the stores of the result. -/
inductive Cell where
  | bar
  | snd (d : Fin 2) (t : Fin 6) (j : Fin 2)
  | rcv (d : Fin 2) (t : Fin 6) (j : Fin 2)
  | xl (s : Fin 2)
  | st (k : Fin 4)
  deriving DecidableEq

/-- The position of a transfer's source semaphore among the 55. -/
def sndIx (d : Fin 2) (t : Fin 6) (j : Fin 2) : ℕ := 1 + 12 * d.val + 24 * (t.val / 3) + 2 * (t.val % 3) + j.val
theorem sndIx_lt (d : Fin 2) (t : Fin 6) (j : Fin 2) : sndIx d t j + 6 < 55 := by revert d t j; decide

/-- The semaphore as the program names it. -/
def Cell.sem : Cell → SemLoc sig
  | .bar => .reg (0 : Sem sig)
  | .snd d t j => .dma (⟨sndIx d t j, (Nat.lt_of_le_of_lt (Nat.le_add_right _ 6) (sndIx_lt d t j))⟩ : Fin 55)
  | .rcv d t j => .dma (⟨sndIx d t j + 6, sndIx_lt d t j⟩ : Fin 55)
  | .xl s => .dma (⟨49 + s.val, by omega⟩ : Fin 55)
  | .st k => .dma (⟨51 + k.val, by omega⟩ : Fin 55)

/-- The semaphore numbered `n`, read back; number 0 is the window's own and none of these. -/
def kindIx (n : ℕ) : Option Cell :=
  if n = 0 then none
  else if n < 49 then
    let b := (n - 1) / 6
    let r := (n - 1) % 6
    let d : Fin 2 := ⟨b % 4 / 2, by omega⟩
    let t : Fin 6 := ⟨(3 * (b / 4) + r / 2) % 6, by omega⟩
    let j : Fin 2 := ⟨r % 2, by omega⟩
    some (if b % 2 = 0 then .snd d t j else .rcv d t j)
  else if n < 51 then some (.xl ⟨(n - 49) % 2, by omega⟩)
  else some (.st ⟨(n - 51) % 4, by omega⟩)

def kind : SemLoc sig → Option Cell
  | .reg s => if s = (0 : Sem sig) then some .bar else none
  | .dma s => kindIx (s : Fin 55).val

theorem kind_sem (x : Cell) : kind x.sem = some x := by
  cases x with
  | bar => rfl
  | snd d t j => revert d t j; decide
  | rcv d t j => revert d t j; decide
  | xl s => revert s; decide
  | st k => revert k; decide

theorem sem_inj : Function.Injective Cell.sem := fun a b h => by
  have := kind_sem a; rw [h, kind_sem] at this; exact (Option.some.inj this).symm

/-- The semaphore `x` of device `c`. -/
abbrev cell (c : Dev nD) (x : Cell) : GSem nD τ sig := ((c : Thread nD τ), x.sem)

theorem cell_inj {c c' : Dev nD} {x x' : Cell} (h : cell c x = cell c' x') : c = c' ∧ x = x' := by
  have h1 := congrArg Prod.fst h
  have h2 := congrArg Prod.snd h
  exact ⟨congrArg Prod.fst h1, sem_inj h2⟩

/-! ## Amounts -/

/-- What a copy of 512 rows by 1024 columns of the working type pays, -/
def nP : ℕ := tileCredit S512x1024 .bf16
/-- one of 1024 rows of it, -/
def nB : ℕ := tileCredit S1024x1024 .bf16
/-- and one of 1024 rows of `x`. -/
def nX : ℕ := tileCredit S1024x1024 .f32

theorem nP_pos : 0 < nP := tileCredit_pos _ _ (by decide)
theorem nB_pos : 0 < nB := tileCredit_pos _ _ (by decide)
theorem nX_pos : 0 < nX := tileCredit_pos _ _ (by decide)

/-- What one payment to semaphore `x` amounts to in its `r`-th use. -/
def amt : Cell → ℕ → ℕ
  | .bar, _ => 1
  | .snd .., _ => nP
  | .rcv .., _ => nP
  | .xl _, _ => nX
  | .st k, r => if r = 0 ∧ k.val < 2 then nB else nP

theorem amt_pos (x : Cell) (r : ℕ) : 0 < amt x r := by
  cases x with
  | bar => exact Nat.one_pos
  | snd d t j => exact nP_pos
  | rcv d t j => exact nP_pos
  | xl s => exact nX_pos
  | st k =>
    show 0 < if r = 0 ∧ k.val < 2 then nB else nP
    split
    · exact nB_pos
    · exact nP_pos

/-- How often semaphore `x` is used. -/
def uses : Cell → ℕ
  | .xl _ => 2
  | .st k => if k.val < 2 then 4 else 3
  | _ => 1

/-! ## Levels: a wait may only be owed something that is paid later than what is waited for -/

def lvl : Cell → ℕ
  | .bar => 1
  | .rcv _ t _ => 2 + t.val
  | _ => 0

def L (g : GSem nD τ sig) : Finset Unit := if g.1.2 = .tc then {()} else ∅
def lv (g : GSem nD τ sig) (_ : Unit) : ℕ := match kind g.2 with | some x => lvl x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) : lv (cell c x) () = lvl x := by
  show (match kind x.sem with | some x => lvl x | none => 0) = _
  rw [kind_sem]

/-! ## What a device owes -/

/-- What a device pays to its neighbours, in the order in which it does: direction and semaphore. -/
def plan : List (Fin 2 × Cell) :=
  [(1, .bar), (0, .bar),
   (0, .rcv 0 0 0), (0, .rcv 0 0 1), (1, .rcv 1 0 0), (1, .rcv 1 0 1),
   (0, .rcv 0 1 0), (1, .rcv 1 1 0), (0, .rcv 0 1 1), (1, .rcv 1 1 1),
   (0, .rcv 0 2 0), (1, .rcv 1 2 0), (0, .rcv 0 2 1), (1, .rcv 1 2 1),
   (0, .rcv 0 3 0), (1, .rcv 1 3 0), (0, .rcv 0 3 1), (1, .rcv 1 3 1),
   (0, .rcv 0 4 0), (1, .rcv 1 4 0), (0, .rcv 0 4 1), (1, .rcv 1 4 1),
   (0, .rcv 0 5 0), (1, .rcv 1 5 0), (0, .rcv 0 5 1), (1, .rcv 1 5 1)]

/-- What is owed for the payments `l` of device `c`. -/
def owed (c : Dev nD) : List (Fin 2 × Cell) → CellTallies nD τ sig Unit
  | [] => 0
  | i :: l => owed c l + tallyAt (cell (nx i.1 c) i.2) () (amt i.2 0)

theorem owed_cons (c : Dev nD) (i : Fin 2 × Cell) (l : List (Fin 2 × Cell)) :
    owed c (i :: l) = owed c l + tallyAt (cell (nx i.1 c) i.2) () (amt i.2 0) := rfl

/-- Something owed is owed to a neighbour, for one of the payments. -/
theorem owed_pos (c : Dev nD) (l : List (Fin 2 × Cell)) (g : GSem nD τ sig) (u : Unit) (h : 0 < owed c l g u) :
    ∃ i ∈ l, g = cell (nx i.1 c) i.2 := by
  induction l with
  | nil => exact absurd h (Nat.lt_irrefl 0)
  | cons i l ih =>
    rw [owed_cons, Pi.add_apply, Finsupp.add_apply, tallyAt_apply] at h
    by_cases hg : g = cell (nx i.1 c) i.2 ∧ u = ()
    · exact ⟨i, List.mem_cons_self, hg.1⟩
    · rw [if_neg hg, Nat.add_zero] at h
      obtain ⟨i', hi', e⟩ := ih h
      exact ⟨i', List.mem_cons_of_mem _ hi', e⟩

end Cert.KernelIdeal.Ring

end
-- ==== Proof.Steps.lean ====
/- One memory operation of the kernel at a time, over memrefs owned at named contents: a load of a rectangle, a store to
   one, and how a rectangle of a memref is cut into parts and put together again. -/
module

public import proofs.«01_k».proof.Proof.Cells

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the pipeline around the kernel and those of the kernel's own semaphores. -/
abbrev UU : Type := UR sig nD τ × URounds (GSem nD τ sig) (Fin 2)

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

abbrev 𝒱₀ : Variants := Variants.none

instance nonempty_elt (e : EltTy) : Nonempty (Elt F e) := by
  cases e <;> first | exact ⟨(0 : BitVec _)⟩ | exact ⟨FloatOps.ofBits _ 0⟩

/-- Device `c` runs the program `p` to a result and a state in which `Q` holds of it. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem runs_ret {α : Type} (c : Dev nD) (a : α) (Q : α → sProp 𝕄) : Q a ⊢ Runs (F := F) c (.ret a) Q := by
  show _ ⊢ wp _ _ _ _ _
  rw [wp_ret]
  iintro H
  imodintro
  iexact H

/-- A memref held whole, at contents not named. -/
def Any {sp : Space} {sh : Shape} {e : EltTy} (c : Dev nD) (M : Memref sig .tc sp sh e) : sProp 𝕄 :=
  iprop(∃ X, owns (Val := Elt F) (c : Thread nD τ) M fullShare X)

instance any_storable {sp : Space} {sh : Shape} {e : EltTy} (c : Dev nD) (M : Memref sig .tc sp sh e) :
    BI.Storable (upEmb : UEmb _ 𝕄) (Any (F := F) c M) := by unfold Any; infer_instance

theorem any_of_owns {sp : Space} {sh : Shape} {e : EltTy} (c : Dev nD) (M : Memref sig .tc sp sh e) (X : sh.Idx → Elt F e) :
    (owns (c : Thread nD τ) M fullShare X : sProp 𝕄) ⊢ Any c M := by
  unfold Any; iintro H; iexists X; iexact H

section Mem

variable {α : Type} {sp : CoreSpace} {sh : Shape} {e : EltTy} (c : Dev nD) (M : Memref sig .tc sp sh e)

/-- A load of a rectangle that is owned. -/
theorem load_owns {off off' size : Fin sh.rank → ℕ} (hoff : off = off') (p p') (hs) (q : PosShare TreeShare)
    (X : (Rect.unit off' size p').shape.Idx → Elt F e) {hl : M.view.LoadsAt (Rect.unit off size p).toLoadRect}
    {k : ((Rect.unit off size p).shape.Idx → Elt F e) → Prog (TpuEff nD τ sig (Elt F) Λ₀ .tc) α} {Q : α → sProp 𝕄} :
    owns (c : Thread nD τ) (M.slice (Rect.unit off' size p') hs) q X
      ⊢ iprop((owns (c : Thread nD τ) (M.slice (Rect.unit off' size p') hs) q X -∗ Runs c (k X) Q)
        -∗ Runs c (.op (.load M (Rect.unit off size p).toLoadRect hl) k) Q) := by
  subst hoff
  unfold owns
  iintro ⟨%f, %hf, H⟩ Hk
  subst hf
  iapply (wp_load_rect 𝒱₀ (c : Thread nD τ) none Set.univ (m := M) (r := Rect.unit off size p) (hl := hl) (Q := Q)
    (S := (M.slice (Rect.unit off size p) hs).view.set) (q := q) (f := f) (Finset.Subset.refl _)) $$ H
  iintro H
  iapply Hk
  iexists f
  isplitr; · ipureintro; rfl
  iexact H

/-- A load of a rectangle inside one that is owned. -/
theorem load_sub (R r : Rect sh) (hs) (g : r.shape.Idx → R.shape.Idx) (hg : ∀ i, r.emb i = R.emb (g i)) (q : PosShare TreeShare)
    (X : R.shape.Idx → Elt F e) {hl : M.view.LoadsAt r.toLoadRect}
    {k : (r.shape.Idx → Elt F e) → Prog (TpuEff nD τ sig (Elt F) Λ₀ .tc) α} {Q : α → sProp 𝕄} :
    owns (c : Thread nD τ) (M.slice R hs) q X
      ⊢ iprop((owns (c : Thread nD τ) (M.slice R hs) q X -∗ Runs c (k fun i => X (g i)) Q)
        -∗ Runs c (.op (.load M r.toLoadRect hl) k) Q) := by
  unfold owns
  iintro ⟨%f, %hf, H⟩ Hk
  subst hf
  have hsub : (M.access r).set ⊆ (M.slice R hs).view.set := by
    intro i hi
    obtain ⟨x, -, hx⟩ := Finset.mem_map.mp hi
    refine Finset.mem_map.mpr ⟨g x, Finset.mem_univ _, ?_⟩
    rw [← hx]
    show M.view.emb (R.emb (g x)) = M.view.emb (r.emb x)
    rw [hg]
  have hread : (M.access r).read (Elt F) f = fun i => (M.slice R hs).view.read (Elt F) f (g i) := by
    funext i
    show M.view.read (Elt F) f (r.emb i) = M.view.read (Elt F) f (R.emb (g i))
    rw [hg]
  iapply (wp_load_rect 𝒱₀ (c : Thread nD τ) none Set.univ (m := M) (r := r) (hl := hl) (Q := Q)
    (S := (M.slice R hs).view.set) (q := q) (f := f) hsub) $$ H
  iintro H
  rw [hread]
  iapply Hk
  iexists f
  isplitr; · ipureintro; rfl
  iexact H

/-- A load of a rectangle of a memref that is owned whole. -/
theorem load_whole (r : Rect sh) (q : PosShare TreeShare) (X : sh.Idx → Elt F e) {hl : M.view.LoadsAt r.toLoadRect}
    {k : (r.shape.Idx → Elt F e) → Prog (TpuEff nD τ sig (Elt F) Λ₀ .tc) α} {Q : α → sProp 𝕄} :
    owns (c : Thread nD τ) M q X
      ⊢ iprop((owns (c : Thread nD τ) M q X -∗ Runs c (k fun i => X (r.emb i)) Q)
        -∗ Runs c (.op (.load M r.toLoadRect hl) k) Q) := by
  unfold owns
  iintro ⟨%f, %hf, H⟩ Hk
  subst hf
  have hsub : (M.access r).set ⊆ M.view.set := View.set_slice_subset _ _
  iapply (wp_load_rect 𝒱₀ (c : Thread nD τ) none Set.univ (m := M) (r := r) (hl := hl) (Q := Q)
    (S := M.view.set) (q := q) (f := f) hsub) $$ H
  iintro H
  iapply Hk
  iexists f
  isplitr; · ipureintro; rfl
  iexact H

/-- A load of a rectangle held at contents not named, whose value is not used. -/
theorem load_any {off off' size : Fin sh.rank → ℕ} (hoff : off = off') (p p') (hs)
    {hl : M.view.LoadsAt (Rect.unit off size p).toLoadRect}
    {k : ((Rect.unit off size p).shape.Idx → Elt F e) → Prog (TpuEff nD τ sig (Elt F) Λ₀ .tc) α} {Q : α → sProp 𝕄} :
    Any c (M.slice (Rect.unit off' size p') hs)
      ⊢ iprop((∀ X, Any c (M.slice (Rect.unit off' size p') hs) -∗ Runs c (k X) Q)
        -∗ Runs c (.op (.load M (Rect.unit off size p).toLoadRect hl) k) Q) := by
  unfold Any
  iintro ⟨%X, H⟩ Hk
  iapply (load_owns c M hoff p p' hs fullShare X) $$ H
  iintro H
  iapply Hk $$ %X
  iexists X; iexact H

/-- A store to a rectangle. -/
theorem store_any {off off' size : Fin sh.rank → ℕ} (hoff : off = off') (p p') (hs)
    (w : (Rect.unit off size p).shape.Idx → Elt F e) {hx : (M.access (Rect.unit off size p)).Stores Finset.univ}
    {hm : (Finset.univ : Finset (Rect.unit off size p).shape.Idx) = Finset.univ ∨ ∀ a, (Rect.unit off size p).stride a = 1}
    {k : PUnit → Prog (TpuEff nD τ sig (Elt F) Λ₀ .tc) α} {Q : α → sProp 𝕄} :
    Any c (M.slice (Rect.unit off' size p') hs)
      ⊢ iprop((owns (c : Thread nD τ) (M.slice (Rect.unit off' size p') hs) fullShare w -∗ Runs c (k ⟨⟩) Q)
        -∗ Runs c (.op (.store M (Rect.unit off size p) w Finset.univ hx hm) k) Q) := by
  subst hoff
  unfold Any owns
  iintro ⟨%X, %f, -, H⟩ Hk
  iapply (wp_store 𝒱₀ (c : Thread nD τ) none Set.univ (m := M) (r := Rect.unit off size p) (w := w) (hx := hx) (hm := hm) (Q := Q)
    (S := (M.slice (Rect.unit off size p) hs).view.set) (f := f) (Finset.Subset.refl _)) $$ H
  iintro H
  iapply Hk
  iexists ((M.access (Rect.unit off size p)).write (Elt F) f w Finset.univ)
  isplitr; · ipureintro; exact View.read_write_univ f w
  iexact H

end Mem

section Cut

variable {sp : Space} {sh : Shape} {e : EltTy} (c : Dev nD) (M : Memref sig .tc sp sh e)

/-- A rectangle of a rectangle is the rectangle of the whole at the same places. -/
theorem owns_nested {off off' off'' size size' : Fin sh.rank → ℕ} (p hs) (p' : ∀ a, off' a + size' a ≤ (Rect.unit (s := sh) off size p).shape.size a)
    (hs') (h : ∀ a, off'' a = off a + off' a) (p'' hs'') (q : PosShare TreeShare) (X : (⟨sh.rank, size'⟩ : Shape).Idx → Elt F e) :
    (owns (c : Thread nD τ) ((M.slice (Rect.unit off size p) hs).slice (Rect.unit off' size' p') hs') q X : sProp 𝕄)
      = owns (c : Thread nD τ) (M.slice (Rect.unit off'' size' p'') hs'') q X := by
  have hemb (i : (⟨sh.rank, size'⟩ : Shape).Idx) :
      (Rect.unit off size p).emb ((Rect.unit (s := (Rect.unit off size p).shape) off' size' p').emb i) = (Rect.unit off'' size' p'').emb i := by
    funext a; apply Fin.ext
    show off a + 1 * (off' a + 1 * (i a).val) = off'' a + 1 * (i a).val
    rw [h a]; omega
  have hset : ((M.slice (Rect.unit off size p) hs).slice (Rect.unit off' size' p') hs').view.set
      = (M.slice (Rect.unit off'' size' p'') hs'').view.set := by
    refine congrArg (fun g => Finset.map g Finset.univ) (Function.Embedding.ext fun i => ?_)
    exact congrArg M.view.emb (hemb i)
  have hread (f : M.view.ty.Contents (Elt F)) :
      ((M.slice (Rect.unit off size p) hs).slice (Rect.unit off' size' p') hs').view.read (Elt F) f
      = (M.slice (Rect.unit off'' size' p'') hs'').view.read (Elt F) f := by
    funext i; exact congrArg (M.view.read (Elt F) f) (hemb i)
  unfold owns
  refine congrArg _ (funext fun f => ?_)
  rw [hread f, hset]

/-- A memref with axes of size one dropped is the memref, its contents at the same positions. -/
theorem owns_squeeze {sh' : Shape} (hq : sh.Squeezes sh') (q : PosShare TreeShare) (X : sh'.Idx → Elt F e) :
    (owns (c : Thread nD τ) (M.squeeze sh' hq) q X : sProp 𝕄)
      = owns (c : Thread nD τ) M q (fun i => X ((Shape.reshapeEquiv hq.numel_eq).symm i)) := by
  have hset : (M.squeeze sh' hq).view.set = M.view.set := View.set_reshape _ _
  have hread (f : M.view.ty.Contents (Elt F)) : (M.squeeze sh' hq).view.read (Elt F) f = X
      ↔ M.view.read (Elt F) f = fun i => X ((Shape.reshapeEquiv hq.numel_eq).symm i) := by
    constructor
    · intro h; funext i
      rw [← h]
      show _ = M.view.read (Elt F) f (Shape.reshapeEquiv hq.numel_eq ((Shape.reshapeEquiv hq.numel_eq).symm i))
      rw [Equiv.apply_symm_apply]
    · intro h; funext i
      show M.view.read (Elt F) f (Shape.reshapeEquiv hq.numel_eq i) = X i
      rw [h]; exact congrArg X (Equiv.symm_apply_apply _ _)
  unfold owns
  refine congrArg _ (funext fun f => ?_)
  rw [show ((M.squeeze sh' hq).view.read (Elt F) f = X) = _ from propext (hread f), hset]

/-- A share of a memref in two halves. -/
theorem owns_halve (X : sh.Idx → Elt F e) :
    (owns (c : Thread nD τ) M fullShare X : sProp 𝕄)
      ⊢ iprop(owns (c : Thread nD τ) M fullShare.left X ∗ owns (c : Thread nD τ) M fullShare.right X) := by
  unfold owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-- And back. -/
theorem owns_unhalve (X : sh.Idx → Elt F e) :
    iprop(owns (c : Thread nD τ) M fullShare.left X ∗ owns (c : Thread nD τ) M fullShare.right X)
      ⊢ (owns (c : Thread nD τ) M fullShare X : sProp 𝕄) := by
  unfold owns
  iintro ⟨⟨%f, %hf, H1⟩, ⟨%g, %hg, H2⟩⟩
  have hfg : ∀ i ∈ M.view.set, g i = f i := by
    intro i hi
    obtain ⟨x, -, rfl⟩ := Finset.mem_map.mp hi
    have := congrFun (hg.trans hf.symm) x
    exact (cast_inj _).mp this
  ihave H2 := (Entails.of_eq (pointsTo_congr (q := fullShare.right) hfg)) $$ H2
  iexists f
  isplitr; · ipureintro; exact hf
  iapply (pointsTo_share (PosShare.mem_left_op_right fullShare)).2
  isplitl [H1]; · iexact H1
  iexact H2

end Cut

end Cert.KernelIdeal.Ring

end
-- ==== Proof.Memory.lean ====
/- The pieces of the buffers that the kernel moves and computes on, and what they hold.

   The array that a device sums into has 4096 rows and 2048 columns: four chunks of 1024 rows (one per device), each in
   two pieces of 512 rows, and two directions, one to each half of the columns. -/
module

public import proofs.«01_k».proof.Proof.Steps
public import Idealize.ShloMosaic.Lib.ValueIdxCore

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The memrefs -/

/-- The sums being formed; -/
abbrev resM : Memref sig .tc .vmem S4096x2048 .bf16 := Memref.whole cc0_scratch0
/-- the result; -/
abbrev outM : Memref sig .tc .hbm S4096x2048 .bf16 := Memref.whole main_v1
/-- this device's columns of `x`; -/
abbrev xM : Memref sig .tc .hbm S4096x1024 .f32 := Memref.whole main_arg0
/-- this device's rows of the weights; -/
abbrev wM : Memref sig .tc .vmem S1024x2048 .f32 := Memref.whole cc0_stg0_0
/-- where the summands of a direction arrive; -/
abbrev slotM (d : Fin 2) : Memref sig .tc .vmem S3x1024x1024 .bf16 :=
  if d = 0 then Memref.whole cc0_scratch1 else Memref.whole cc0_scratch2
/-- two chunks of `x`, as loaded and in the working type; the weights in the working type. -/
abbrev xbufM : Memref sig .tc .vmem S2x1024x1024 .f32 := Memref.whole cc0_scratch3
abbrev xhM : Memref sig .tc .vmem S2x1024x1024 .bf16 := Memref.whole cc0_scratch4
abbrev whM : Memref sig .tc .vmem S1024x2048 .bf16 := Memref.whole cc0_scratch5

/-! ## The pieces -/

def pieceOff (q : Fin 4) (j d : Fin 2) : Fin 2 → ℕ := ![1024 * q.val + 512 * j.val, 1024 * d.val]
theorem pieceOff_inb (q : Fin 4) (j d : Fin 2) : ∀ a, pieceOff q j d a + S512x1024.size a ≤ S4096x2048.size a := by
  revert q j d; decide
def boxOff (q : Fin 4) (d : Fin 2) : Fin 2 → ℕ := ![1024 * q.val, 1024 * d.val]
theorem boxOff_inb (q : Fin 4) (d : Fin 2) : ∀ a, boxOff q d a + S1024x1024.size a ≤ S4096x2048.size a := by
  revert q d; decide
def slotOff (t : Fin 3) (j : Fin 2) : Fin 3 → ℕ := ![t.val, 512 * j.val, 0]
theorem slotOff_inb (t : Fin 3) (j : Fin 2) : ∀ a, slotOff t j a + S1x512x1024.size a ≤ S3x1024x1024.size a := by
  revert t j; decide
def chunkOff (q : Fin 4) : Fin 2 → ℕ := ![1024 * q.val, 0]
theorem chunkOff_inb (q : Fin 4) : ∀ a, chunkOff q a + S1024x1024.size a ≤ S4096x1024.size a := by
  revert q; decide
def pairOff (s : Fin 2) : Fin 3 → ℕ := ![s.val, 0, 0]
theorem pairOff_inb (s : Fin 2) : ∀ a, pairOff s a + S1x1024x1024.size a ≤ S2x1024x1024.size a := by
  revert s; decide
def colOff (d : Fin 2) : Fin 2 → ℕ := ![0, 1024 * d.val]
theorem colOff_inb (d : Fin 2) : ∀ a, colOff d a + S1024x1024.size a ≤ S1024x2048.size a := by
  revert d; decide
def rowOff (j : Fin 2) : Fin 2 → ℕ := ![512 * j.val, 0]
theorem rowOff_inb (j : Fin 2) : ∀ a, rowOff j a + S512x1024.size a ≤ S1024x1024.size a := by
  revert j; decide
def rowOff3 (j : Fin 2) : Fin 3 → ℕ := ![0, 512 * j.val, 0]
theorem rowOff3_inb (j : Fin 2) : ∀ a, rowOff3 j a + S1x512x1024.size a ≤ S1x1024x1024.size a := by
  revert j; decide

/-- The piece of chunk `q`, half `j`, direction `d`. -/
abbrev piece {sp : Space} (M : Memref sig .tc sp S4096x2048 .bf16) (q : Fin 4) (j d : Fin 2) : Memref sig .tc sp S512x1024 .bf16 :=
  M.slice (Rect.unit (s := S4096x2048) (pieceOff q j d) S512x1024.size (pieceOff_inb q j d)) (fun _ => rfl)
/-- Both pieces of chunk `q`, direction `d`. -/
abbrev box {sp : Space} (M : Memref sig .tc sp S4096x2048 .bf16) (q : Fin 4) (d : Fin 2) : Memref sig .tc sp S1024x1024 .bf16 :=
  M.slice (Rect.unit (s := S4096x2048) (boxOff q d) S1024x1024.size (boxOff_inb q d)) (fun _ => rfl)
/-- Where the summand of transfer `t`, half `j` arrives; -/
abbrev slotBox (d : Fin 2) (t : Fin 3) (j : Fin 2) : Memref sig .tc .vmem S1x512x1024 .bf16 :=
  (slotM d).slice (Rect.unit (s := S3x1024x1024) (slotOff t j) S1x512x1024.size (slotOff_inb t j)) (fun _ => rfl)
abbrev slot (d : Fin 2) (t : Fin 3) (j : Fin 2) : Memref sig .tc .vmem S512x1024 .bf16 :=
  (slotBox d t j).squeeze S512x1024 squeezes_S1x512x1024_S512x1024
/-- Chunk `q` of `x`, and the two places it is loaded to. -/
abbrev chunk (q : Fin 4) : Memref sig .tc .hbm S1024x1024 .f32 :=
  xM.slice (Rect.unit (s := S4096x1024) (chunkOff q) S1024x1024.size (chunkOff_inb q)) (fun _ => rfl)
abbrev xbox (s : Fin 2) : Memref sig .tc .vmem S1x1024x1024 .f32 :=
  xbufM.slice (Rect.unit (s := S2x1024x1024) (pairOff s) S1x1024x1024.size (pairOff_inb s)) (fun _ => rfl)
abbrev xslot (s : Fin 2) : Memref sig .tc .vmem S1024x1024 .f32 :=
  (xbox s).squeeze S1024x1024 squeezes_S1x1024x1024_S1024x1024
abbrev xhbox (s : Fin 2) : Memref sig .tc .vmem S1x1024x1024 .bf16 :=
  xhM.slice (Rect.unit (s := S2x1024x1024) (pairOff s) S1x1024x1024.size (pairOff_inb s)) (fun _ => rfl)
/-- The weights' columns of direction `d`. -/
abbrev wcol (d : Fin 2) : Memref sig .tc .vmem S1024x1024 .bf16 :=
  whM.slice (Rect.unit (s := S1024x2048) (colOff d) S1024x1024.size (colOff_inb d)) (fun _ => rfl)

/-! ## Values -/

section Values

variable {α : Type}

/-- The 512 rows of half `j`. -/
def rows (j : Fin 2) (Y : S1024x1024.Idx → α) : S512x1024.Idx → α :=
  fun i => Y ((Rect.unit (s := S1024x1024) (rowOff j) S512x1024.size (rowOff_inb j)).emb i)
def rows3 (j : Fin 2) (Y : S1x1024x1024.Idx → α) : S1x512x1024.Idx → α :=
  fun i => Y ((Rect.unit (s := S1x1024x1024) (rowOff3 j) S1x512x1024.size (rowOff3_inb j)).emb i)
/-- With an axis of size one in front. -/
def unsq (Y : S512x1024.Idx → α) : S1x512x1024.Idx → α :=
  fun i => Y ((Shape.reshapeEquiv squeezes_S1x512x1024_S512x1024.numel_eq).symm i)
def unsqX (Y : S1024x1024.Idx → α) : S1x1024x1024.Idx → α :=
  fun i => Y ((Shape.reshapeEquiv squeezes_S1x1024x1024_S1024x1024.numel_eq).symm i)

end Values

variable (xs : Dev nD → S4096x1024.Idx → Elt F .f32) (ws : Dev nD → S1024x2048.Idx → Elt F .f32)

/-- Chunk `q` of device `c`'s columns of `x`, as loaded, -/
def xin (c : Dev nD) (q : Fin 4) : S1024x1024.Idx → Elt F .f32 :=
  fun i => xs c ((Rect.unit (s := S4096x1024) (chunkOff q) S1024x1024.size (chunkOff_inb q)).emb i)
/-- and in the working type. -/
def xh (c : Dev nD) (q : Fin 4) : S1x1024x1024.Idx → Elt F .bf16 := k0_pay2 (unsqX (xin xs c q))
/-- Device `c`'s weights for direction `d`, in the working type. -/
def wh (c : Dev nD) (d : Fin 2) : S1024x1024.Idx → Elt F .bf16 :=
  k0_pay1 fun i => ws c ((Rect.unit (s := S1024x2048) (colOff d) S1024x1024.size (colOff_inb d)).emb i)
/-- What device `c` contributes to chunk `q`, all 1024 rows; -/
def prod (c : Dev nD) (q : Fin 4) (d : Fin 2) : S1024x1024.Idx → Elt F .bf16 := k0_pay6 (xh xs c q) (wh ws c d)
/-- half `j` of it. A device's own chunk is multiplied by halves in direction 0. -/
def part (c : Dev nD) (q : Fin 4) (j d : Fin 2) : S512x1024.Idx → Elt F .bf16 :=
  if q = c ∧ d = 0 then k0_pay3 (rows3 j (xh xs c q)) (wh ws c d) else rows j (prod xs ws c q d)
/-- The sum of chunk `q` over the first `k + 1` devices it passes. -/
def val (d : Fin 2) (q : Fin 4) (j : Fin 2) : ℕ → S512x1024.Idx → Elt F .bf16
  | 0 => part xs ws q q j d
  | k + 1 => k0_pay18 (part xs ws ((nx d)^[k + 1] q) q j d) (unsq (val d q j k))

theorem part_own (c : Dev nD) (j : Fin 2) : part xs ws c c j 0 = k0_pay3 (rows3 j (xh xs c c)) (wh ws c 0) := if_pos ⟨rfl, rfl⟩
theorem part_of_ne (c : Dev nD) (q : Fin 4) (j d : Fin 2) (h : ¬ (q = c ∧ d = 0)) : part xs ws c q j d = rows j (prod xs ws c q d) := if_neg h
theorem nx_ck (d : Fin 2) (c : Dev nD) (k : ℕ) : (nx d)^[k] (ck d c k) = c := by
  unfold ck
  induction k with
  | zero => rfl
  | succ k ih => rw [Function.iterate_succ_apply, Function.iterate_succ_apply', nx_fr, ih]
/-- Device `c` adds what it contributes to what arrived. -/
theorem val_step (d : Fin 2) (c : Dev nD) (j : Fin 2) (k : ℕ) :
    val xs ws d (ck d c (k + 1)) j (k + 1) = k0_pay18 (part xs ws c (ck d c (k + 1)) j d) (unsq (val xs ws d (ck d c (k + 1)) j k)) := by
  rw [val, nx_ck]

/-! ## Cutting and joining -/

theorem rows_disjoint (j j' : Fin 2) (h : j ≠ j') :
    Disjoint (Rect.unit (s := S1024x1024) (rowOff j) S512x1024.size (rowOff_inb j)).set
      (Rect.unit (s := S1024x1024) (rowOff j') S512x1024.size (rowOff_inb j')).set :=
  Rect.unit_disjoint (0 : Fin 2) (by revert j j'; decide)

theorem rows_cover : (Finset.univ : Finset (Fin 2)).biUnion
    (fun j => (Rect.unit (s := S1024x1024) (rowOff j) S512x1024.size (rowOff_inb j)).set) = Finset.univ := by
  refine Finset.eq_univ_iff_forall.mpr fun i => Finset.mem_biUnion.mpr ?_
  have h0 : (i (0 : Fin 2)).val < 1024 := (i (0 : Fin 2)).isLt
  have h1 : (i (1 : Fin 2)).val < 1024 := (i (1 : Fin 2)).isLt
  refine ⟨⟨(i (0 : Fin 2)).val / 512, by omega⟩, Finset.mem_univ _, Rect.mem_set_unit.mpr (Fin.forall_fin_two.mpr ⟨?_, ?_⟩)⟩
  · show 512 * ((i (0 : Fin 2)).val / 512) ≤ _ ∧ _ < 512 * ((i (0 : Fin 2)).val / 512) + 512; omega
  · show 0 ≤ _ ∧ _ < 0 + 1024; omega

theorem box_piece {sp : Space} (M : Memref sig .tc sp S4096x2048 .bf16) (c : Dev nD) (q : Fin 4) (d j : Fin 2) (sh : PosShare TreeShare)
    (X : S512x1024.Idx → Elt F .bf16) :
    (owns (c : Thread nD τ) ((box M q d).slice (Rect.unit (s := S1024x1024) (rowOff j) S512x1024.size (rowOff_inb j)) (fun _ => rfl)) sh X : sProp 𝕄)
      = owns (c : Thread nD τ) (piece M q j d) sh X :=
  owns_nested c M _ _ _ _ (by revert q j d; decide) _ _ sh X

/-- A box is its two pieces. -/
theorem box_split {sp : Space} (M : Memref sig .tc sp S4096x2048 .bf16) (c : Dev nD) (q : Fin 4) (d : Fin 2) (sh : PosShare TreeShare)
    (X : S1024x1024.Idx → Elt F .bf16) :
    (owns (c : Thread nD τ) (box M q d) sh X : sProp 𝕄)
      ⊢ iprop(owns (c : Thread nD τ) (piece M q 0 d) sh (rows 0 X) ∗ owns (c : Thread nD τ) (piece M q 1 d) sh (rows 1 X)) := by
  refine (owns_rects (c : Thread nD τ) (box M q d) sh
    (fun j : Fin 2 => Rect.unit (s := S1024x1024) (rowOff j) S512x1024.size (rowOff_inb j)) (fun _ _ => rfl) rows_disjoint rows_cover X).trans ?_
  rw [BI.bigSep_fin_two]
  exact Entails.of_eq (congrArg₂ _ (box_piece M c q d 0 sh _) (box_piece M c q d 1 sh _))

theorem box_join {sp : Space} (M : Memref sig .tc sp S4096x2048 .bf16) (c : Dev nD) (q : Fin 4) (d : Fin 2) (sh : PosShare TreeShare)
    (X : S1024x1024.Idx → Elt F .bf16) :
    iprop(owns (c : Thread nD τ) (piece M q 0 d) sh (rows 0 X) ∗ owns (c : Thread nD τ) (piece M q 1 d) sh (rows 1 X))
      ⊢ (owns (c : Thread nD τ) (box M q d) sh X : sProp 𝕄) := by
  refine BIBase.Entails.trans ?_ (owns_of_rects (c : Thread nD τ) (box M q d) sh
    (fun j : Fin 2 => Rect.unit (s := S1024x1024) (rowOff j) S512x1024.size (rowOff_inb j)) (fun _ _ => rfl) rows_disjoint rows_cover X)
  rw [BI.bigSep_fin_two]
  exact Entails.of_eq (congrArg₂ _ (box_piece M c q d 0 sh (rows 0 X)).symm (box_piece M c q d 1 sh (rows 1 X)).symm)

/-- Two halves as one block of rows. -/
def glue (A : Fin 2 → S512x1024.Idx → Elt F .bf16) : S1024x1024.Idx → Elt F .bf16 := fun i =>
  A ⟨(i (0 : Fin 2)).val / 512, by have h : (i (0 : Fin 2)).val < 1024 := (i (0 : Fin 2)).isLt; omega⟩
    (Idealize.ShloMosaic.ValueIdx.ix2 ⟨(i (0 : Fin 2)).val % 512, Nat.mod_lt _ (by decide)⟩ (i (1 : Fin 2)))

theorem rows_glue (A : Fin 2 → S512x1024.Idx → Elt F .bf16) (j : Fin 2) : rows j (glue A) = A j := by
  funext i
  have h0 : (i (0 : Fin 2)).val < 512 := (i (0 : Fin 2)).isLt
  unfold rows glue
  have e0 : ((Rect.unit (s := S1024x1024) (rowOff j) S512x1024.size (rowOff_inb j)).emb i (0 : Fin 2)).val = 512 * j.val + 1 * (i (0 : Fin 2)).val := rfl
  have e1 : (Rect.unit (s := S1024x1024) (rowOff j) S512x1024.size (rowOff_inb j)).emb i (1 : Fin 2) = i (1 : Fin 2) :=
    Fin.ext (by show 0 + 1 * (i (1 : Fin 2)).val = _; omega)
  congr 1
  · congr 1; show _ / 512 = j.val; rw [e0]; omega
  · funext a; revert a
    refine Fin.forall_fin_two.mpr ⟨?_, ?_⟩
    · apply Fin.ext; show _ % 512 = _; rw [e0]; omega
    · exact e1

end Cert.KernelIdeal.Ring

end
-- ==== Proof.Schedule.lean ====
/- What each semaphore's payments hand over.

   A copy to a neighbour hands over the piece that arrived and, with it, places that later copies may overwrite: the
   places from which the same chunk was sent on before. By the time a chunk is complete the device that completed it so
   holds the three places, one on each other device, to which the complete chunk has to go. -/
module

public import proofs.«01_k».proof.Proof.Memory

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Transfer number `t`, and the place in which it arrives. -/
def tr (t : ℕ) : Fin 6 := ⟨t % 6, Nat.mod_lt _ (by decide)⟩
def sl (t : ℕ) : Fin 3 := ⟨t % 3, Nat.mod_lt _ (by decide)⟩

/-- A piece of the sums of device `e` that may be overwritten. -/
def hole (e : Dev nD) (q : Fin 4) (j d : Fin 2) : sProp 𝕄 := Any (F := F) e (piece resM q j d)

/-- The places that come to `r` with transfer `t`. -/
def chain (d j : Fin 2) (t : ℕ) (r : Dev nD) : sProp 𝕄 :=
  match t with
  | 0 => hole (fr d r) (ck d r 1) j d
  | 1 => iprop(hole (F := F) (fr d r) (ck d r 2) j d ∗ hole (fr d (fr d r)) (ck d r 2) j d)
  | 2 => iprop(hole (F := F) (fr d r) (ck d r 3) j d ∗ hole (F := F) (fr d (fr d r)) (ck d r 3) j d ∗ hole (fr d (fr d (fr d r))) (ck d r 3) j d)
  | 3 => iprop(hole (F := F) (fr d (fr d r)) (ck d r 4) j d ∗ hole (fr d (fr d (fr d r))) (ck d r 4) j d)
  | 4 => hole (fr d (fr d (fr d r))) (ck d r 5) j d
  | _ => iprop(emp)

/-- What a device holds of such places before it sends transfer `t`. -/
def before (d j : Fin 2) (t : ℕ) (c : Dev nD) : sProp 𝕄 :=
  match t with
  | 0 => iprop(emp)
  | t + 1 => chain d j t c

/-- The device hands these on together with the place it sends from. -/
theorem chain_rs (d j : Fin 2) (t : ℕ) (ht : t < 3) (c : Dev nD) :
    iprop(before d j t c ∗ hole c (ck d c t) j d) ⊢ (chain d j t (nx d c) : sProp 𝕄) := by
  match t, ht with
  | 0, _ =>
    show iprop(emp ∗ hole c (ck d c 0) j d) ⊢ hole (fr d (nx d c)) (ck d (nx d c) (0 + 1)) j d
    rw [ck_nx, fr_nx]
    iintro ⟨-, H⟩; iexact H
  | 1, _ =>
    show iprop(hole (fr d c) (ck d c 1) j d ∗ hole c (ck d c 1) j d)
      ⊢ iprop(hole (fr d (nx d c)) (ck d (nx d c) (1 + 1)) j d ∗ hole (fr d (fr d (nx d c))) (ck d (nx d c) (1 + 1)) j d)
    rw [ck_nx, fr_nx]
    iintro ⟨H1, H2⟩; isplitl [H2] <;> iassumption
  | 2, _ =>
    show iprop((hole (fr d c) (ck d c 2) j d ∗ hole (fr d (fr d c)) (ck d c 2) j d) ∗ hole c (ck d c 2) j d)
      ⊢ iprop(hole (fr d (nx d c)) (ck d (nx d c) (2 + 1)) j d ∗ hole (fr d (fr d (nx d c))) (ck d (nx d c) (2 + 1)) j d
        ∗ hole (fr d (fr d (fr d (nx d c)))) (ck d (nx d c) (2 + 1)) j d)
    rw [ck_nx, fr_nx]
    iintro ⟨⟨H1, H2⟩, H3⟩
    isplitl [H3]; · iexact H3
    isplitl [H1] <;> iassumption

theorem fr_three (d : Fin 2) (c : Dev nD) : fr d (fr d (fr d c)) = nx d c := by revert d c; decide

/-- A complete chunk goes to the place that was first sent from. -/
theorem chain_ag (d j : Fin 2) (t : ℕ) (h3 : 3 ≤ t) (h6 : t < 6) (c : Dev nD) :
    (before d j t c : sProp 𝕄) ⊢ iprop(hole (nx d c) (ck d c t) j d ∗ chain d j t (nx d c)) := by
  match t, h3, h6 with
  | 3, _, _ =>
    show iprop(hole (fr d c) (ck d c 3) j d ∗ hole (fr d (fr d c)) (ck d c 3) j d ∗ hole (fr d (fr d (fr d c))) (ck d c 3) j d)
      ⊢ iprop(hole (nx d c) (ck d c 3) j d
        ∗ hole (fr d (fr d (nx d c))) (ck d (nx d c) (3 + 1)) j d ∗ hole (fr d (fr d (fr d (nx d c)))) (ck d (nx d c) (3 + 1)) j d)
    rw [ck_nx, fr_nx, fr_three]
    iintro ⟨H1, H2, H3⟩
    isplitl [H3]; · iexact H3
    isplitl [H1] <;> iassumption
  | 4, _, _ =>
    show iprop(hole (fr d (fr d c)) (ck d c 4) j d ∗ hole (fr d (fr d (fr d c))) (ck d c 4) j d)
      ⊢ iprop(hole (nx d c) (ck d c 4) j d ∗ hole (fr d (fr d (fr d (nx d c)))) (ck d (nx d c) (4 + 1)) j d)
    rw [ck_nx, fr_nx, fr_three]
    iintro ⟨H1, H2⟩
    isplitl [H2] <;> iassumption
  | 5, _, _ =>
    show hole (fr d (fr d (fr d c))) (ck d c 5) j d ⊢ iprop(hole (nx d c) (ck d c 5) j d ∗ emp)
    rw [fr_three]
    iintro H; isplitl [H]; · iexact H
    iempintro

variable (xs : Dev nD → S4096x1024.Idx → Elt F .f32) (ws : Dev nD → S1024x2048.Idx → Elt F .f32)

/-- A device's complete piece; both of them. -/
abbrev full (d : Fin 2) (q : Fin 4) (j : Fin 2) : S512x1024.Idx → Elt F .bf16 := val xs ws d q j 3
def fullBox (d : Fin 2) (q : Fin 4) : S1024x1024.Idx → Elt F .bf16 := glue fun j => full xs ws d q j

/-- What device `e` meets at the barrier: the places at its neighbour to which it sends. -/
def barPay (e : Dev nD) (d : Fin 2) : sProp 𝕄 :=
  iprop((bigSep Finset.univ fun p : Fin 3 × Fin 2 => Any (F := F) (nx d e) (slot d p.1 p.2))
    ∗ bigSep Finset.univ fun p : Fin 6 × Fin 2 => reached ER (cell (nx d e) (.rcv d p.1 p.2)) 0)
/-- A summand is lost to its sender; of a complete piece the sender keeps half the right to read. -/
def sndPay (e : Dev nD) (d : Fin 2) (t : ℕ) (j : Fin 2) : sProp 𝕄 :=
  if t < 3 then iprop(emp) else owns (e : Thread nD τ) (piece resM (ck d e t) j d) fullShare.left (full xs ws d (ck d e t) j)
/-- What arrives. -/
def landed (e : Dev nD) (d : Fin 2) (t : ℕ) (j : Fin 2) : sProp 𝕄 :=
  if t < 3 then owns (e : Thread nD τ) (slot d (sl t) j) fullShare (val xs ws d (ck d e (t + 1)) j t)
  else owns (e : Thread nD τ) (piece resM (ck d e (t + 1)) j d) fullShare (full xs ws d (ck d e (t + 1)) j)
/-- The chunk of `x` loaded by the `r`-th use of place `s`. -/
def xq (e : Dev nD) (s : Fin 2) (r : ℕ) : Fin 4 := if r = 0 then (if s = 0 then e else e + 3) else (if s = 0 then e + 1 else e + 2)
def xlPay (e : Dev nD) (s : Fin 2) (r : ℕ) : sProp 𝕄 :=
  iprop(owns (e : Thread nD τ) (xslot s) fullShare (xin xs e (xq e s r)) ∗ owns (e : Thread nD τ) (chunk (xq e s r)) fullShare (xin xs e (xq e s r)))
/-- The direction, transfer and half of a store of 512 rows. -/
def stD (k : Fin 4) : Fin 2 := ⟨k.val % 2, Nat.mod_lt _ (by decide)⟩
def stT (k : Fin 4) (r : ℕ) : ℕ := if k.val < 2 then r + 3 else r + 4
def stJ (k : Fin 4) : Fin 2 := if k.val < 2 then 1 else 0
def stPay (e : Dev nD) (k : Fin 4) (r : ℕ) : sProp 𝕄 :=
  if r = 0 ∧ k.val < 2 then
    iprop(owns (e : Thread nD τ) (box outM (ck (stD k) e 3) (stD k)) fullShare (fullBox xs ws (stD k) (ck (stD k) e 3))
      ∗ owns (e : Thread nD τ) (box resM (ck (stD k) e 3) (stD k)) fullShare.right (fullBox xs ws (stD k) (ck (stD k) e 3)))
  else
    iprop(owns (e : Thread nD τ) (piece outM (ck (stD k) e (stT k r)) (stJ k) (stD k)) fullShare (full xs ws (stD k) (ck (stD k) e (stT k r)) (stJ k))
      ∗ owns (e : Thread nD τ) (piece resM (ck (stD k) e (stT k r)) (stJ k) (stD k)) fullShare.right (full xs ws (stD k) (ck (stD k) e (stT k r)) (stJ k)))

def pay (e : Dev nD) : Cell → ℕ → Fin 2 → sProp 𝕄
  | .bar, _, b => barPay e b
  | .snd d t j, _, _ => sndPay xs ws e d t.val j
  | .rcv d t j, _, _ => iprop(landed xs ws e d t.val j ∗ chain d j t.val e)
  | .xl s, r, _ => xlPay xs e s r
  | .st k, r, _ => stPay xs ws e k r

/-- A barrier is paid once from either side, every other semaphore by one copy per use. -/
def dutySet (x : Cell) : Finset (Fin 2) := if x = .bar then Finset.univ else {0}

def Rd : Rounds.Schedule (GSem nD τ sig) (Fin 2) 𝕄 where
  duties g r := if g.1.2 = .tc then (match kind g.2 with | some x => if r < uses x then dutySet x else ∅ | none => ∅) else ∅
  unitless _ := False
  amount g r _ := match kind g.2 with | some x => amt x r | none => 1
  payload g r b := match kind g.2 with | some x => pay xs ws g.1.1 x r b | none => iprop(emp)
  amount_pos g r _ _ := by
    split
    · exact amt_pos _ _
    · exact Nat.one_pos

instance hole_storable (e : Dev nD) (q : Fin 4) (j d : Fin 2) : BI.Storable (upEmb : UEmb _ 𝕄) (hole (F := F) e q j d) := by
  unfold hole; infer_instance
instance chain_storable (d j : Fin 2) (t : ℕ) (r : Dev nD) : BI.Storable (upEmb : UEmb _ 𝕄) (chain (F := F) d j t r) := by
  unfold chain; split <;> infer_instance
instance barPay_storable (e : Dev nD) (b : Fin 2) : BI.Storable (upEmb : UEmb _ 𝕄) (barPay (F := F) e b) := by
  unfold barPay; infer_instance
instance sndPay_storable (e : Dev nD) (d : Fin 2) (t : ℕ) (j : Fin 2) : BI.Storable (upEmb : UEmb _ 𝕄) (sndPay xs ws e d t j) := by
  unfold sndPay; split <;> infer_instance
instance landed_storable (e : Dev nD) (d : Fin 2) (t : ℕ) (j : Fin 2) : BI.Storable (upEmb : UEmb _ 𝕄) (landed xs ws e d t j) := by
  unfold landed; split <;> infer_instance
instance xlPay_storable (e : Dev nD) (s : Fin 2) (r : ℕ) : BI.Storable (upEmb : UEmb _ 𝕄) (xlPay xs e s r) := by
  unfold xlPay; infer_instance
instance stPay_storable (e : Dev nD) (k : Fin 4) (r : ℕ) : BI.Storable (upEmb : UEmb _ 𝕄) (stPay xs ws e k r) := by
  unfold stPay; split <;> infer_instance
instance pay_storable (e : Dev nD) (x : Cell) (r : ℕ) (b : Fin 2) : BI.Storable (upEmb : UEmb _ 𝕄) (pay xs ws e x r b) := by
  cases x with
  | bar => exact barPay_storable e b
  | snd d t j => exact sndPay_storable xs ws e d t.val j
  | rcv d t j => show BI.Storable _ iprop(landed xs ws e d t.val j ∗ chain d j t.val e); infer_instance
  | xl s => exact xlPay_storable xs e s r
  | st k => exact stPay_storable xs ws e k r

instance Rd_storable (g : GSem nD τ sig) (r : ℕ) (b : Fin 2) : BI.Storable (upEmb : UEmb _ 𝕄) ((Rd xs ws).payload g r b) := by
  show BI.Storable upEmb (match kind g.2 with | some x => pay xs ws g.1.1 x r b | none => iprop(emp))
  split <;> infer_instance

section Sched

variable (c : Dev nD) (x : Cell)

theorem duties_cell (r : ℕ) (h : r < uses x) : (Rd xs ws).duties (cell c x) r = dutySet x := by
  show (if (c : Thread nD τ).2 = .tc then (match kind x.sem with | some x => if r < uses x then dutySet x else ∅ | none => ∅) else ∅) = _
  rw [if_pos rfl, kind_sem]; exact if_pos h
theorem duties_later (r : ℕ) (h : uses x ≤ r) : (Rd xs ws).duties (cell c x) r = ∅ := by
  show (if (c : Thread nD τ).2 = .tc then (match kind x.sem with | some x => if r < uses x then dutySet x else ∅ | none => ∅) else ∅) = _
  rw [if_pos rfl, kind_sem]; exact if_neg (Nat.not_lt.mpr h)
theorem amount_cell (r : ℕ) (b : Fin 2) : (Rd xs ws).amount (cell c x) r b = amt x r := by
  show (match kind x.sem with | some x => amt x r | none => 1) = _
  rw [kind_sem]
theorem payload_cell (r : ℕ) (b : Fin 2) : (Rd xs ws).payload (cell c x) r b = pay xs ws c x r b := by
  show (match kind x.sem with | some x => pay xs ws c x r b | none => iprop(emp)) = _
  rw [kind_sem]

theorem dutySet_of_ne (hx : x ≠ .bar) : dutySet x = {0} := if_neg hx
theorem mem_dutySet (hx : x ≠ .bar) : (0 : Fin 2) ∈ dutySet x := by rw [dutySet_of_ne x hx]; exact Finset.mem_singleton_self _

theorem expect_cell (hx : x ≠ .bar) (r : ℕ) (h : r < uses x) : (Rd xs ws).expect (cell c x) r = amt x r := by
  unfold Schedule.expect Schedule.amountOf
  rw [duties_cell xs ws c x r h, dutySet_of_ne x hx, Finset.sum_singleton, amount_cell]
theorem expect_bar : (Rd xs ws).expect (cell c .bar) 0 = 2 := by
  unfold Schedule.expect Schedule.amountOf
  rw [duties_cell xs ws c .bar 0 Nat.one_pos, show dutySet .bar = Finset.univ from rfl, Fin.sum_univ_two, amount_cell, amount_cell]
  rfl
theorem rest_cell (hx : x ≠ .bar) (r : ℕ) (h : r < uses x) :
    bigSep ((Rd xs ws).duties (cell c x) r \ ∅) (fun b => (Rd xs ws).payload (cell c x) r b) = pay xs ws c x r 0 := by
  rw [Finset.sdiff_empty, duties_cell xs ws c x r h, dutySet_of_ne x hx, bigSep_singleton, payload_cell]
theorem rest_bar : bigSep ((Rd xs ws).duties (cell c .bar) 0 \ ∅) (fun b => (Rd xs ws).payload (cell c .bar) 0 b)
    = iprop(barPay (F := F) c 0 ∗ barPay c 1) := by
  rw [Finset.sdiff_empty, duties_cell xs ws c .bar 0 Nat.one_pos, show dutySet .bar = Finset.univ from rfl, BI.bigSep_fin_two,
    payload_cell, payload_cell]
  rfl

end Sched

/-! ## Levels -/

theorem mayWait (c : Dev nD) (x : Cell) (l : List (Fin 2 × Cell)) (h : ∀ i ∈ l, lvl x < lvl i.2) :
    (levAts L lv : sProp 𝕄) ⊢ MayWait (c : Thread nD τ) x.sem () (owed c l) :=
  MayOwe.of_cut (L := L) (lev := lv) (lvl x)
    (fun p hp => by rw [Finset.mem_singleton.mp hp, L_tc]; exact Finset.mem_singleton_self _)
    (fun g u hg => by
      obtain ⟨i, -, rfl⟩ := owed_pos c l g u hg
      rw [L_tc]; exact Finset.mem_singleton_self _)
    (fun p hp => by rw [Finset.mem_singleton.mp hp]; exact (lv_cell c x).le)
    (fun g u hg => by
      obtain ⟨i, hi, rfl⟩ := owed_pos c l g u hg
      exact (h i hi).trans_eq (lv_cell _ _).symm)

end Cert.KernelIdeal.Ring

end
-- ==== Proof.Comm.lean ====
/- The steps by which devices communicate: signals, waits, copies within a device and copies to a neighbour. -/
module

public import proofs.«01_k».proof.Proof.Schedule

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S4096x1024.Idx → Elt F .f32) (ws : Dev nD → S1024x2048.Idx → Elt F .f32)

/-! ## The semaphores all devices know of -/

/-- The semaphores other than the barrier's. -/
abbrev Tr : Type := Fin 2 × Fin 2 × Fin 6
abbrev Sc : Type := (Tr ⊕ Tr) ⊕ (Fin 2 ⊕ Fin 4)
def scCell : Sc → Cell
  | .inl (.inl p) => .snd p.1 p.2.2 p.2.1
  | .inl (.inr p) => .rcv p.1 p.2.2 p.2.1
  | .inr (.inl s) => .xl s
  | .inr (.inr k) => .st k
theorem scCell_inj : Function.Injective scCell := by
  rintro ((⟨d, j, t⟩ | ⟨d, j, t⟩) | (s | k)) ((⟨d', j', t'⟩ | ⟨d', j', t'⟩) | (s' | k')) h <;>
    simp only [scCell, Cell.snd.injEq, Cell.rcv.injEq, Cell.xl.injEq, Cell.st.injEq, reduceCtorEq] at h <;>
    simp_all
theorem scCell_ne (s : Sc) : scCell s ≠ .bar := by
  rcases s with ((_ | _) | (_ | _)) <;> simp [scCell]
theorem sc_of_ne (x : Cell) (h : x ≠ .bar) : ∃ s, scCell s = x := by
  cases x with
  | bar => exact absurd rfl h
  | snd d t j => exact ⟨.inl (.inl (d, j, t)), rfl⟩
  | rcv d t j => exact ⟨.inl (.inr (d, j, t)), rfl⟩
  | xl s => exact ⟨.inr (.inl s), rfl⟩
  | st k => exact ⟨.inr (.inr k), rfl⟩

def barEmb : Dev nD ↪ GSem nD τ sig := ⟨fun c => cell c .bar, fun _ _ h => (cell_inj h).1⟩
def scEmb : Dev nD × Sc ↪ GSem nD τ sig :=
  ⟨fun p => cell p.1 (scCell p.2), fun _ _ h => Prod.ext (cell_inj h).1 (scCell_inj (cell_inj h).2)⟩
abbrev barCells : Finset (GSem nD τ sig) := Finset.univ.map barEmb
abbrev scCells : Finset (GSem nD τ sig) := Finset.univ.map scEmb

theorem cell_mem (c : Dev nD) (x : Cell) : cell c x ∈ (barCells ∪ scCells : Finset (GSem nD τ sig)) := by
  by_cases h : x = .bar
  · subst h; exact Finset.mem_union_left _ (Finset.mem_map_of_mem barEmb (Finset.mem_univ c))
  · obtain ⟨s, rfl⟩ := sc_of_ne x h
    exact Finset.mem_union_right _ (Finset.mem_map_of_mem scEmb (Finset.mem_univ (c, s)))

/-- What every device may consult: the rules of all the semaphores, under one map of names; that the barrier is in use;
    the levels. -/
def records (κ : GSem nD τ sig → ℕ) : sProp 𝕄 :=
  iprop((bigSep (barCells ∪ scCells) fun g => cellInv ER (Rd xs ws) (κ g) g) ∗ (bigSep barCells fun g => reached ER g 0) ∗ levAts L lv)
instance records_persistent (κ : GSem nD τ sig → ℕ) : BI.Persistent (records xs ws κ) := by unfold records; infer_instance

theorem inv_at (κ : GSem nD τ sig → ℕ) (c : Dev nD) (x : Cell) : records xs ws κ ⊢ cellInv ER (Rd xs ws) (κ (cell c x)) (cell c x) := by
  unfold records
  iintro ⟨H, -, -⟩
  iapply (show (bigSep (barCells ∪ scCells) fun g => (cellInv ER (Rd xs ws) (κ g) g : sProp 𝕄)) ⊢ cellInv ER (Rd xs ws) (κ (cell c x)) (cell c x) from
    bigSep_elim (cell_mem c x)) $$ H
theorem bar_at (κ : GSem nD τ sig → ℕ) (c : Dev nD) : records xs ws κ ⊢ reached ER (cell c .bar) 0 := by
  unfold records
  iintro ⟨-, H, -⟩
  iapply (show (bigSep barCells fun g => (reached ER g 0 : sProp 𝕄)) ⊢ reached ER (cell c .bar) 0 from
    bigSep_elim (Finset.mem_map_of_mem barEmb (Finset.mem_univ c))) $$ H
theorem lev_at (κ : GSem nD τ sig → ℕ) : records xs ws κ ⊢ levAts L lv := by
  unfold records; iintro ⟨-, -, H⟩; iexact H

/-- Where device `c` stands with its semaphore `x`: before the `r`-th use. -/
def pos (c : Dev nD) (x : Cell) (r : ℕ) : sProp 𝕄 := iprop(atPos ER (cell c x) r ∅ 0 ∗ reached ER (cell c x) r)
/-- The `r`-th use of it is under way. -/
def busy (c : Dev nD) (x : Cell) (r : ℕ) : sProp 𝕄 := iprop(pos (F := F) c x r ∗ cred (tallyAt (cell c x) () (amt x r)))
/-- What is owed after the first `n` payments. -/
def debt (c : Dev nD) (n : ℕ) : sProp 𝕄 := iprop(∃ W, owes (c : Thread nD τ) (owed c (plan.drop n)) W)

section Steps

variable {α : Type} (κ : GSem nD τ sig → ℕ) (c : Dev nD)

/-- A wait on one of the device's own semaphores for the copy under way. -/
theorem wait_cell (x : Cell) (r n : ℕ) (hx : x ≠ .bar) (hr : r < uses x) (hl : ∀ i ∈ plan.drop n, lvl x < lvl i.2)
    {sp sp' : Space} {sh : Shape} {e : EltTy} {s : DmaSem sig} {src : Memref sig .tc sp sh e} {dst : Memref sig .tc sp' sh e} {h1 h2}
    (hs : SemLoc.dma s = x.sem) (hN : dst.view.dmaCredit = amt x r)
    {k : PUnit → Prog (TpuEff nD τ sig (Elt F) Λ₀ .tc) α} {Q : α → sProp 𝕄} :
    iprop(records xs ws κ ∗ debt c n ∗ busy c x r)
      ⊢ iprop((debt c n ∗ pos c x (r + 1) ∗ pay xs ws c x r 0 -∗ Runs c (k ⟨⟩) Q) -∗ Runs c (.op (.waitDma2 s src dst h1 h2) k) Q) := by
  unfold debt busy pos
  iintro ⟨#HR, ⟨%W, HO⟩, ⟨Hat, #Hre⟩, Hc⟩ Hk
  iapply (Rounds.wp_wait_rest_token 𝒱₀ ER (Rd xs ws) (c : Thread nD τ) none (sm := .dma s) (k' := dst.view.dmaCredit) (κ := κ (cell c x))
      (wpE_waitDma2_eq 𝒱₀ (c : Thread nD τ) none Set.univ) (Set.mem_univ _) () (O := owed c (plan.drop n)) (W := W) (R := r) (m := 0) (T := ∅)
      ((Nat.zero_add _).trans (by rw [hs, expect_cell xs ws c x hx r hr, hN]))) $$ [Hc HO Hat]
  · rw [hs, hN]
    isplitr; · iapply (inv_at xs ws κ c x); iexact HR
    isplitl [Hc]; · iexact Hc
    isplitl [HO]; · iexact HO
    isplitr; · iapply (mayWait c x _ hl); iapply (lev_at xs ws κ); iexact HR
    iexact Hat
  rw [hs]
  iintro ⟨HO, Hat, #Hre', Hpay⟩
  iapply Hk
  isplitl [HO]; · iexists _; iexact HO
  isplitl [Hat]
  · isplitl [Hat]; · iexact Hat
    iexact Hre'
  iapply (Entails.of_eq (rest_cell xs ws c x hx r hr)) $$ Hpay

/-- The wait for both neighbours at the barrier. -/
theorem wait_bar (n : ℕ) (hl : ∀ i ∈ plan.drop n, lvl .bar < lvl i.2)
    {k : PUnit → Prog (TpuEff nD τ sig (Elt F) Λ₀ .tc) α} {Q : α → sProp 𝕄} :
    iprop(records xs ws κ ∗ debt c n ∗ pos c .bar 0 ∗ cred (tallyAt (cell c .bar) () 2))
      ⊢ iprop((debt c n ∗ pos c .bar 1 ∗ barPay c 0 ∗ barPay c 1 -∗ Runs c (k ⟨⟩) Q) -∗ Runs c (.op (.semWait (0 : Sem sig) 2) k) Q) := by
  unfold debt pos
  iintro ⟨#HR, ⟨%W, HO⟩, ⟨Hat, #Hre⟩, Hc⟩ Hk
  iapply (Rounds.wp_wait_rest_token 𝒱₀ ER (Rd xs ws) (c : Thread nD τ) none (sm := .reg (0 : Sem sig)) (k' := 2) (κ := κ (cell c .bar))
      (wpE_semWait_eq 𝒱₀ (c : Thread nD τ) none Set.univ) (Set.mem_univ _) () (O := owed c (plan.drop n)) (W := W) (R := 0) (m := 0) (T := ∅)
      ((Nat.zero_add _).trans (expect_bar xs ws c).symm)) $$ [Hc HO Hat]
  · isplitr; · iapply (inv_at xs ws κ c .bar); iexact HR
    isplitl [Hc]; · iexact Hc
    isplitl [HO]; · iexact HO
    isplitr; · iapply (mayWait c .bar _ hl); iapply (lev_at xs ws κ); iexact HR
    iexact Hat
  iintro ⟨HO, Hat, #Hre', Hpay⟩
  iapply Hk
  isplitl [HO]; · iexists _; iexact HO
  isplitl [Hat]
  · isplitl [Hat]; · iexact Hat
    iexact Hre'
  iapply (show bigSep ((Rd xs ws).duties ((c : Thread nD τ), SemLoc.reg (0 : Sem sig)) 0 \ ∅)
      (fun b => (Rd xs ws).payload ((c : Thread nD τ), SemLoc.reg (0 : Sem sig)) 0 b) ⊢ iprop(barPay (F := F) c 0 ∗ barPay c 1) from
    Entails.of_eq (rest_bar xs ws c)) $$ Hpay

/-- A signal to the neighbour's barrier: it may now send. -/
theorem signal_bar (n : ℕ) (b : Fin 2) (e c' : Dev nD) (hc : c' = e) (he : nx b e = c)
    (ho : owed c (plan.drop n) = owed c (plan.drop (n + 1)) + tallyAt (cell e .bar) () 1)
    {k : PUnit → Prog (TpuEff nD τ sig (Elt F) Λ₀ .tc) α} {Q : α → sProp 𝕄} :
    iprop(records xs ws κ ∗ debt c n ∗ dutyTok ER (cell e .bar) 0 b
        ∗ (bigSep Finset.univ fun p : Fin 3 × Fin 2 => Any (F := F) c (slot b p.1 p.2))
        ∗ bigSep Finset.univ fun p : Fin 6 × Fin 2 => reached ER (cell c (.rcv b p.1 p.2)) 0)
      ⊢ iprop((debt c (n + 1) -∗ Runs c (k ⟨⟩) Q) -∗ Runs c (.op (.semSignal (Dev.tc c') (0 : Sem sig) 1) k) Q) := by
  subst hc; subst he
  unfold debt
  iintro ⟨#HR, ⟨%W, HO⟩, Ht, Hs, Hr⟩ Hk
  iapply (Rounds.wp_signal 𝒱₀ ER (Rd xs ws) (nx b c' : Thread nD τ) none (dst := (c' : Thread nD τ)) (sem := (0 : Sem sig)) (r := 0) (d := b)
      (κ := κ (cell c' .bar)) (k' := 1) (by
        rw [show ((c' : Thread nD τ), SemLoc.reg (0 : Sem sig)) = cell c' .bar from rfl, duties_cell xs ws c' .bar 0 Nat.one_pos]
        exact Finset.mem_univ b)
      (amount_cell xs ws c' .bar 0 b) () (owed (nx b c') (plan.drop (n + 1))) ho) $$ [HO Ht Hs Hr]
  · isplitr; · iapply (inv_at xs ws κ c' .bar); iexact HR
    isplitl [HO]; · iexact HO
    isplitl [Ht]; · iexact Ht
    isplitl [Hs Hr]
    · iapply (show barPay (F := F) c' b ⊢ (Rd xs ws).payload ((c' : Thread nD τ), SemLoc.reg (0 : Sem sig)) 0 b from Entails.of_eq (payload_cell xs ws c' .bar 0 b).symm)
      unfold barPay
      isplitl [Hs] <;> iassumption
    · iapply (bar_at xs ws κ c'); iexact HR
  iintro HO
  iapply Hk
  iexists W; iexact HO

/-- A copy within the device is started. -/
theorem copy_start (x : Cell) (r : ℕ) (hx : x ≠ .bar) (hr : r < uses x) {sp sp' : Space} {sh : Shape} {e : EltTy} {sem : SemLoc sig}
    {src : Memref sig .tc sp sh e} {dst : Memref sig .tc sp' sh e} {h1 h2 h3} (src' : Memref sig .tc sp sh e) (dst' : Memref sig .tc sp' sh e)
    (hsrc : src = src') (hdst : dst = dst') (hs : sem = x.sem) (hN : dst'.view.amount x.sem = amt x r)
    (q : PosShare TreeShare) (X : sh.Idx → Elt F e)
    (hpay : iprop(owns (c : Thread nD τ) dst' fullShare X ∗ owns (c : Thread nD τ) src' q X) ⊢ pay xs ws c x r 0)
    {k : PUnit → Prog (TpuEff nD τ sig (Elt F) Λ₀ .tc) α} {Q : α → sProp 𝕄} :
    iprop(records xs ws κ ∗ owns (c : Thread nD τ) src' q X ∗ Any c dst' ∗ dutyTok ER (cell c x) r 0 ∗ pos c x r)
      ⊢ iprop((busy c x r -∗ Runs c (k ⟨⟩) Q) -∗ Runs c (.op (.enqueueDma src (.here dst) sem h1 h2 h3) k) Q) := by
  subst hsrc; subst hdst; subst hs
  unfold Any pos
  iintro ⟨#HR, Hs, ⟨%Y, Hd⟩, Ht, ⟨Hat, #Hre⟩⟩ Hk
  unfold owns
  icases Hs with ⟨%fs, %hfs, Hs⟩
  icases Hd with ⟨%fd, -, Hd⟩
  iapply (wp_copy_pointsTo 𝒱₀ ER (Rd xs ws) (c : Thread nD τ) none (src := src) (dst := dst) (sem := x.sem) (q := q) (fs := fs) (fd := fd)
      (r := r) (d := 0) (κ := κ (cell c x)) (by
        rw [show ((c : Thread nD τ), x.sem) = cell c x from rfl, duties_cell xs ws c x r hr]; exact mem_dutySet x hx) () (amt x r) hN
      (amount_cell xs ws c x r 0)
      (by
        refine BIBase.Entails.trans ?_ (hpay.trans (Entails.of_eq (payload_cell xs ws c x r 0).symm))
        unfold owns
        iintro ⟨Hd, Hs⟩
        isplitl [Hd]
        · iexists (dst.view.write (Elt F) fd (src.view.read (Elt F) fs) Finset.univ)
          isplitr; · ipureintro; rw [View.read_write_univ, hfs]
          iexact Hd
        · iexists fs; isplitr; · ipureintro; exact hfs
          iexact Hs)) $$ [Hs Hd Ht]
  · isplitr; · iapply (inv_at xs ws κ c x); iexact HR
    isplitl [Hs]; · iexact Hs
    isplitl [Hd]; · iexact Hd
    isplitl [Ht]; · iexact Ht
    iexact Hre
  iintro Hc
  iapply Hk
  unfold busy pos
  isplitl [Hat]
  · isplitl [Hat]; · iexact Hat
    iexact Hre
  iexact Hc

/-- A copy to the neighbour of which the sender keeps the source (`q` of it, to come back with its own semaphore). -/
theorem send_keep (x y : Cell) (n : ℕ) (e : Dev nD) (hx : x ≠ .bar) (hy : y ≠ .bar) (hxr : 0 < uses x) (hyr : 0 < uses y)
    {sh : Shape} {et : EltTy} {sS sem : SemLoc sig} {c' : Dev nD}
    {src : Memref sig .tc .vmem sh et} {dst : Memref sig .tc .vmem sh et} {hsc} {h1 h2 h3} (src' dst' : Memref sig .tc .vmem sh et)
    (hsrc : src = src') (hdst : dst = dst') (hc : c' = e) (hsS : sS = x.sem) (hsem : sem = y.sem) (hN : dst'.view.amount y.sem = amt y 0)
    (hk : amt x 0 = amt y 0) (ho : owed c (plan.drop n) = owed c (plan.drop (n + 1)) + tallyAt (cell e y) () (amt y 0))
    (q : PosShare TreeShare) (X : sh.Idx → Elt F et) (R : sProp 𝕄)
    (hpay₁ : owns (c : Thread nD τ) src' q X ⊢ pay xs ws c x 0 0)
    (hpay₂ : iprop(owns (e : Thread nD τ) dst' fullShare X ∗ R) ⊢ pay xs ws e y 0 0)
    {k : PUnit → Prog (TpuEff nD τ sig (Elt F) Λ₀ .tc) α} {Q : α → sProp 𝕄} :
    iprop(records xs ws κ ∗ debt c n ∗ owns (c : Thread nD τ) src' q X ∗ Any e dst' ∗ R
        ∗ dutyTok ER (cell c x) 0 0 ∗ pos c x 0 ∗ dutyTok ER (cell e y) 0 0 ∗ reached ER (cell e y) 0)
      ⊢ iprop((debt c (n + 1) ∗ busy c x 0 -∗ Runs c (k ⟨⟩) Q)
        -∗ Runs c (.op (.enqueueDma src (.remote (Dev.tc c') dst sS hsc) sem h1 h2 h3) k) Q) := by
  subst hsrc; subst hdst; subst hsS; subst hsem; subst hc
  unfold Any debt pos
  iintro ⟨#HR, ⟨%W, HO⟩, Hs, ⟨%Y, Hd⟩, HF, Ht1, ⟨Hat, #Hre⟩, Ht2, #Hre2⟩ Hk
  unfold owns
  icases Hs with ⟨%fs, %hfs, Hs⟩
  icases Hd with ⟨%fd, -, Hd⟩
  iapply (wp_send_pointsTo_with 𝒱₀ ER (Rd xs ws) (c : Thread nD τ) none (c' := (c' : Thread nD τ)) (src := src) (dst := dst) (sS := x.sem) (sem := y.sem)
      (q := q) (fs := fs) (fd := fd) (F := R) (κ₁ := κ (cell c x)) (κ₂ := κ (cell c' y)) (r₁ := 0) (r₂ := 0) (d₁ := 0) (d₂ := 0)
      (by rw [show ((c : Thread nD τ), x.sem) = cell c x from rfl, duties_cell xs ws c x 0 hxr]; exact mem_dutySet x hx)
      (by rw [show ((c' : Thread nD τ), y.sem) = cell c' y from rfl, duties_cell xs ws c' y 0 hyr]; exact mem_dutySet y hy)
      () () (amt y 0) hN ((amount_cell xs ws c x 0 0).trans hk) (amount_cell xs ws c' y 0 0) (owed c (plan.drop (n + 1))) ho (W := W)
      (by
        refine BIBase.Entails.trans ?_ (hpay₁.trans (Entails.of_eq (payload_cell xs ws c x 0 0).symm))
        unfold owns
        iintro Hs
        iexists fs; isplitr; · ipureintro; exact hfs
        iexact Hs)
      (by
        refine BIBase.Entails.trans ?_ (hpay₂.trans (Entails.of_eq (payload_cell xs ws c' y 0 0).symm))
        unfold owns
        iintro ⟨Hd, HF⟩
        isplitl [Hd]
        · iexists (dst.view.write (Elt F) fd (src.view.read (Elt F) fs) Finset.univ)
          isplitr; · ipureintro; rw [View.read_write_univ, hfs]
          iexact Hd
        · iexact HF)) $$ [Hs Hd HF HO Ht1 Ht2]
  · isplitr; · iapply (inv_at xs ws κ c x); iexact HR
    isplitr; · iapply (inv_at xs ws κ c' y); iexact HR
    isplitl [Hs]; · iexact Hs
    isplitl [Hd HF]; · isplitl [Hd] <;> iassumption
    isplitl [HO]; · iexact HO
    isplitl [Ht1]; · iexact Ht1
    isplitr; · iexact Hre
    isplitl [Ht2]; · iexact Ht2
    iexact Hre2
  iintro ⟨Hc, HO⟩
  iapply Hk
  isplitl [HO]; · iexists W; iexact HO
  unfold busy pos
  isplitl [Hat]
  · isplitl [Hat]; · iexact Hat
    iexact Hre
  rw [hk]
  iexact Hc

/-- A copy to the neighbour with which the source is given up as well. -/
theorem send_give (x y : Cell) (n : ℕ) (e : Dev nD) (hx : x ≠ .bar) (hy : y ≠ .bar) (hxr : 0 < uses x) (hyr : 0 < uses y)
    {sh : Shape} {et : EltTy} {sS sem : SemLoc sig} {c' : Dev nD}
    {src : Memref sig .tc .vmem sh et} {dst : Memref sig .tc .vmem sh et} {hsc} {h1 h2 h3} (src' dst' : Memref sig .tc .vmem sh et)
    (hsrc : src = src') (hdst : dst = dst') (hc : c' = e) (hsS : sS = x.sem) (hsem : sem = y.sem) (hN : dst'.view.amount y.sem = amt y 0)
    (hk : amt x 0 = amt y 0) (ho : owed c (plan.drop n) = owed c (plan.drop (n + 1)) + tallyAt (cell e y) () (amt y 0))
    (X : sh.Idx → Elt F et) (R : sProp 𝕄)
    (hpay₁ : (emp : sProp 𝕄) ⊢ pay xs ws c x 0 0)
    (hpay₂ : iprop((owns (e : Thread nD τ) dst' fullShare X ∗ R) ∗ owns (c : Thread nD τ) src' fullShare X) ⊢ pay xs ws e y 0 0)
    {k : PUnit → Prog (TpuEff nD τ sig (Elt F) Λ₀ .tc) α} {Q : α → sProp 𝕄} :
    iprop(records xs ws κ ∗ debt c n ∗ owns (c : Thread nD τ) src' fullShare X ∗ Any e dst' ∗ R
        ∗ dutyTok ER (cell c x) 0 0 ∗ pos c x 0 ∗ dutyTok ER (cell e y) 0 0 ∗ reached ER (cell e y) 0)
      ⊢ iprop((debt c (n + 1) ∗ busy c x 0 -∗ Runs c (k ⟨⟩) Q)
        -∗ Runs c (.op (.enqueueDma src (.remote (Dev.tc c') dst sS hsc) sem h1 h2 h3) k) Q) := by
  subst hsrc; subst hdst; subst hsS; subst hsem; subst hc
  unfold Any debt pos
  iintro ⟨#HR, ⟨%W, HO⟩, Hs, ⟨%Y, Hd⟩, HF, Ht1, ⟨Hat, #Hre⟩, Ht2, #Hre2⟩ Hk
  unfold owns
  icases Hs with ⟨%fs, %hfs, Hs⟩
  icases Hd with ⟨%fd, -, Hd⟩
  iapply (wp_send_landing_pointsTo_with 𝒱₀ ER (Rd xs ws) (c : Thread nD τ) none (c' := (c' : Thread nD τ)) (src := src) (dst := dst) (sS := x.sem) (sem := y.sem)
      (q := fullShare) (fs := fs) (fd := fd) (F := R) (κ₁ := κ (cell c x)) (κ₂ := κ (cell c' y)) (r₁ := 0) (r₂ := 0) (d₁ := 0) (d₂ := 0)
      (by rw [show ((c : Thread nD τ), x.sem) = cell c x from rfl, duties_cell xs ws c x 0 hxr]; exact mem_dutySet x hx)
      (by rw [show ((c' : Thread nD τ), y.sem) = cell c' y from rfl, duties_cell xs ws c' y 0 hyr]; exact mem_dutySet y hy)
      () () (amt y 0) hN ((amount_cell xs ws c x 0 0).trans hk) (amount_cell xs ws c' y 0 0) (owed c (plan.drop (n + 1))) ho (W := W)
      (hpay₁.trans (Entails.of_eq (payload_cell xs ws c x 0 0).symm))
      (by
        refine BIBase.Entails.trans ?_ (hpay₂.trans (Entails.of_eq (payload_cell xs ws c' y 0 0).symm))
        unfold owns
        iintro ⟨⟨Hd, HF⟩, Hs⟩
        isplitr [Hs]
        · isplitl [Hd]
          · iexists (dst.view.write (Elt F) fd (src.view.read (Elt F) fs) Finset.univ)
            isplitr; · ipureintro; rw [View.read_write_univ, hfs]
            iexact Hd
          · iexact HF
        · iexists fs; isplitr; · ipureintro; exact hfs
          iexact Hs)) $$ [Hs Hd HF HO Ht1 Ht2]
  · isplitr; · iapply (inv_at xs ws κ c x); iexact HR
    isplitr; · iapply (inv_at xs ws κ c' y); iexact HR
    isplitl [Hs]; · iexact Hs
    isplitl [Hd HF]; · isplitl [Hd] <;> iassumption
    isplitl [HO]; · iexact HO
    isplitl [Ht1]; · iexact Ht1
    isplitr; · iexact Hre
    isplitl [Ht2]; · iexact Ht2
    iexact Hre2
  iintro ⟨Hc, HO⟩
  iapply Hk
  isplitl [HO]; · iexists W; iexact HO
  unfold busy pos
  isplitl [Hat]
  · isplitl [Hat]; · iexact Hat
    iexact Hre
  rw [hk]
  iexact Hc

end Steps

end Cert.KernelIdeal.Ring

end
-- ==== Proof.Lanes.lean ====
/- The four streams of copies round the ring.

   A stream is a direction and a half of the rows. It makes six transfers, of which the first three carry sums and the
   last three complete pieces. Between them it is in one of a few stages: about to send, under way, waited for at its
   source, arrived. Each step of the program takes one stream from one stage to the next. -/
module

public import proofs.«01_k».proof.Proof.Comm

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S4096x1024.Idx → Elt F .f32) (ws : Dev nD → S1024x2048.Idx → Elt F .f32)

/-! ## The stages -/

/-- What a device needs for transfer `t` of a stream. -/
def tok (c : Dev nD) (d j : Fin 2) (t : ℕ) : sProp 𝕄 :=
  iprop((dutyTok ER (cell c (.snd d (tr t) j)) 0 0 ∗ dutyTok ER (cell (nx d c) (.rcv d (tr t) j)) 0 0
      ∗ pos (F := F) c (.snd d (tr t) j) 0 ∗ pos (F := F) c (.rcv d (tr t) j) 0 ∗ cred (tallyAt (cell c (.rcv d (tr t) j)) () nP))
    ∗ if t < 3 then Any (F := F) (nx d c) (slot d (sl t) j) else iprop(emp))
/-- What it needs for the last `m` of them. -/
def toks (c : Dev nD) (d j : Fin 2) : ℕ → sProp 𝕄
  | 0 => iprop(emp)
  | m + 1 => iprop(tok (F := F) c d j (5 - m) ∗ toks c d j m)
theorem toks_at (c : Dev nD) (d j : Fin 2) (t : ℕ) (h : t < 6) :
    toks (F := F) c d j (6 - t) = iprop(tok (F := F) c d j t ∗ toks c d j (5 - t)) := by
  rw [show 6 - t = (5 - t) + 1 from by omega]
  show iprop(tok c d j (5 - (5 - t)) ∗ _) = _
  rw [show 5 - (5 - t) = t from by omega]

/-- What is left of transfer `t`; of those that carry complete pieces the source's semaphore is waited for at the end,
    and has been for the transfers before `w`. -/
def done (c : Dev nD) (d j : Fin 2) (w t : ℕ) : sProp 𝕄 :=
  iprop(pos (F := F) c (.rcv d (tr t) j) 1
    ∗ if t < 3 then iprop(pos (F := F) c (.snd d (tr t) j) 1 ∗ Any (F := F) c (slot d (sl t) j))
      else if t < w then iprop(pos (F := F) c (.snd d (tr t) j) 1
        ∗ owns (c : Thread nD τ) (piece resM (ck d c t) j d) fullShare.left (full xs ws d (ck d c t) j))
      else busy c (.snd d (tr t) j) 0)
def dones (c : Dev nD) (d j : Fin 2) : ℕ → sProp 𝕄
  | 0 => iprop(emp)
  | t + 1 => iprop(dones c d j t ∗ done xs ws c d j 3 t)

theorem dones_succ (c : Dev nD) (d j : Fin 2) (t : ℕ) :
    iprop(dones xs ws c d j t ∗ done xs ws c d j 3 t) ⊢ dones xs ws c d j (t + 1) := .rfl

/-- The device's own summands that transfers from `t` on will be added to. -/
def own (c : Dev nD) (d j : Fin 2) (q : Fin 4) : sProp 𝕄 := owns (c : Thread nD τ) (piece resM q j d) fullShare (part xs ws c q j d)
def sup (c : Dev nD) (d j : Fin 2) (t : ℕ) : sProp 𝕄 :=
  match t with
  | 0 => iprop(own xs ws c d j (ck d c 1) ∗ own xs ws c d j (ck d c 2) ∗ own xs ws c d j (ck d c 3))
  | 1 => iprop(own xs ws c d j (ck d c 2) ∗ own xs ws c d j (ck d c 3))
  | 2 => own xs ws c d j (ck d c 3)
  | _ => iprop(emp)
theorem sup_take (c : Dev nD) (d j : Fin 2) (t : ℕ) (ht : t < 3) :
    sup xs ws c d j t ⊢ iprop(own xs ws c d j (ck d c (t + 1)) ∗ sup xs ws c d j (t + 1)) := by
  match t, ht with
  | 0, _ => exact .rfl
  | 1, _ => exact .rfl
  | 2, _ =>
    show own xs ws c d j (ck d c 3) ⊢ iprop(own xs ws c d j (ck d c 3) ∗ emp)
    iintro H; isplitl [H]; · iexact H
    iempintro

/-- About to send: the piece is there. -/
def ready (c : Dev nD) (d j : Fin 2) (t : ℕ) : sProp 𝕄 :=
  iprop(owns (c : Thread nD τ) (piece resM (ck d c t) j d) fullShare (val xs ws d (ck d c t) j (min t 3))
    ∗ toks (F := F) c d j (6 - t) ∗ dones xs ws c d j t ∗ before (F := F) d j t c)
/-- Sent. -/
def flying (c : Dev nD) (d j : Fin 2) (t : ℕ) : sProp 𝕄 :=
  iprop(toks (F := F) c d j (5 - t) ∗ dones xs ws c d j t ∗ busy (F := F) c (.snd d (tr t) j) 0 ∗ busy (F := F) c (.rcv d (tr t) j) 0)
/-- Waited for at the source. -/
def leaving (c : Dev nD) (d j : Fin 2) (t : ℕ) : sProp 𝕄 :=
  iprop(toks (F := F) c d j (5 - t) ∗ dones xs ws c d j t ∗ pos (F := F) c (.snd d (tr t) j) 1 ∗ busy (F := F) c (.rcv d (tr t) j) 0)
/-- A summand has arrived. -/
def arrived (c : Dev nD) (d j : Fin 2) (t : ℕ) : sProp 𝕄 :=
  iprop(owns (c : Thread nD τ) (slot d (sl t) j) fullShare (val xs ws d (ck d c (t + 1)) j t)
    ∗ toks (F := F) c d j (5 - t) ∗ dones xs ws c d j t ∗ pos (F := F) c (.snd d (tr t) j) 1 ∗ pos (F := F) c (.rcv d (tr t) j) 1
    ∗ chain (F := F) d j t c)

/-- What a device knows of the others throughout. -/
def env (κ : GSem nD τ sig → ℕ) (c : Dev nD) : sProp 𝕄 :=
  iprop(records xs ws κ ∗ bigSep Finset.univ fun p : Fin 2 × Fin 6 × Fin 2 => reached ER (cell (nx p.1 c) (.rcv p.1 p.2.1 p.2.2)) 0)
instance env_persistent (κ : GSem nD τ sig → ℕ) (c : Dev nD) : BI.Persistent (env xs ws κ c) := by unfold env; infer_instance
theorem env_records (κ : GSem nD τ sig → ℕ) (c : Dev nD) : env xs ws κ c ⊢ records xs ws κ := by
  unfold env; iintro ⟨H, -⟩; iexact H
theorem env_peer (κ : GSem nD τ sig → ℕ) (c : Dev nD) (d : Fin 2) (t : Fin 6) (j : Fin 2) :
    env xs ws κ c ⊢ reached ER (cell (nx d c) (.rcv d t j)) 0 := by
  unfold env
  iintro ⟨-, H⟩
  iapply (show (bigSep Finset.univ fun p : Fin 2 × Fin 6 × Fin 2 => (reached ER (cell (nx p.1 c) (.rcv p.1 p.2.1 p.2.2)) 0 : sProp 𝕄))
    ⊢ reached ER (cell (nx d c) (.rcv d t j)) 0 from bigSep_elim (Finset.mem_univ (d, t, j))) $$ H

section Steps

variable {α : Type} (κ : GSem nD τ sig → ℕ) (c : Dev nD) (d j : Fin 2) (t : ℕ)

theorem tr_val (h : t < 6) : (tr t).val = t := Nat.mod_eq_of_lt h

theorem plan_owed (n : ℕ) (hp : plan.drop n = (d, Cell.rcv d (tr t) j) :: plan.drop (n + 1)) :
    owed c (plan.drop n) = owed c (plan.drop (n + 1)) + tallyAt (cell (nx d c) (.rcv d (tr t) j)) () nP := by
  rw [hp, owed_cons]; rfl

/-- A sum is sent on. -/
theorem send_sum (n : ℕ) (ht : t < 3) (hp : plan.drop n = (d, Cell.rcv d (tr t) j) :: plan.drop (n + 1))
    {off : Fin 2 → ℕ} {p hs} {dst : Memref sig .tc .vmem S512x1024 .bf16} {sS sem : SemLoc sig} {c' : Dev nD} {hsc h1 h2 h3}
    (hoff : off = pieceOff (ck d c t) j d) (hdst : dst = slot d (sl t) j)
    (hc : c' = nx d c) (hsS : sS = (Cell.snd d (tr t) j).sem) (hsem : sem = (Cell.rcv d (tr t) j).sem)
    {k : PUnit → Prog (TpuEff nD τ sig (Elt F) Λ₀ .tc) α} {Q : α → sProp 𝕄} :
    iprop(env xs ws κ c ∗ debt c n ∗ ready xs ws c d j t)
      ⊢ iprop((debt c (n + 1) ∗ flying xs ws c d j t -∗ Runs c (k ⟨⟩) Q)
        -∗ Runs c (.op (.enqueueDma (resM.slice (Rect.unit (s := S4096x2048) off S512x1024.size p) hs)
              (.remote (Dev.tc c') dst sS hsc) sem h1 h2 h3) k) Q) := by
  subst hoff
  unfold ready
  rw [toks_at c d j t (by omega), show min t 3 = t from by omega]
  unfold tok
  rw [if_pos ht]
  iintro ⟨#HE, HO, Hp, ⟨⟨⟨Ht1, Ht2, Hps, Hpr, Hc⟩, Hslot⟩, Htoks⟩, Hd, Hb⟩ Hk
  iapply (send_give xs ws κ c (.snd d (tr t) j) (.rcv d (tr t) j) n (nx d c) (by simp) (by simp) Nat.one_pos Nat.one_pos
      (piece resM (ck d c t) j d) (slot d (sl t) j) rfl hdst hc hsS hsem rfl rfl (plan_owed c d j t n hp)
      (val xs ws d (ck d c t) j t) (before d j t c)
      (by
        show (emp : sProp 𝕄) ⊢ sndPay xs ws c d (tr t).val j
        unfold sndPay; rw [tr_val t (by omega), if_pos ht])
      (by
        show _ ⊢ iprop(landed xs ws (nx d c) d (tr t).val j ∗ chain d j (tr t).val (nx d c))
        rw [tr_val t (by omega)]
        unfold landed
        rw [if_pos ht, ck_nx]
        iintro ⟨⟨Hd, Hb⟩, Hs⟩
        isplitl [Hd]; · iexact Hd
        iapply (chain_rs d j t ht c)
        isplitl [Hb]; · iexact Hb
        iapply (show owns (c : Thread nD τ) (piece resM (ck d c t) j d) fullShare (val xs ws d (ck d c t) j t) ⊢ hole (F := F) c (ck d c t) j d from
          any_of_owns c (piece resM (ck d c t) j d) _) $$ Hs)) $$ [HO Hp Hslot Hb Ht1 Hps Ht2]
  · isplitr; · iapply (env_records xs ws κ c); iexact HE
    isplitl [HO]; · iexact HO
    isplitl [Hp]; · iexact Hp
    isplitl [Hslot]; · iexact Hslot
    isplitl [Hb]; · iexact Hb
    isplitl [Ht1]; · iexact Ht1
    isplitl [Hps]; · iexact Hps
    isplitl [Ht2]; · iexact Ht2
    iapply (env_peer xs ws κ c d (tr t) j); iexact HE
  iintro ⟨HO, Hbs⟩
  iapply Hk
  isplitl [HO]; · iexact HO
  unfold flying
  isplitl [Htoks]; · iexact Htoks
  isplitl [Hd]; · iexact Hd
  isplitl [Hbs]; · iexact Hbs
  unfold busy
  isplitl [Hpr]; · iexact Hpr
  iexact Hc

/-- A complete piece is sent on; half the right to read it stays for the store of it. -/
theorem send_full (n : ℕ) (h3 : 3 ≤ t) (h6 : t < 6) (hp : plan.drop n = (d, Cell.rcv d (tr t) j) :: plan.drop (n + 1))
    {off : Fin 2 → ℕ} {p hs p' hs'} {sS sem : SemLoc sig} {c' : Dev nD} {hsc h1 h2 h3'}
    (hoff : off = pieceOff (ck d c t) j d)
    (hc : c' = nx d c) (hsS : sS = (Cell.snd d (tr t) j).sem) (hsem : sem = (Cell.rcv d (tr t) j).sem)
    {k : PUnit → Prog (TpuEff nD τ sig (Elt F) Λ₀ .tc) α} {Q : α → sProp 𝕄} :
    iprop(env xs ws κ c ∗ debt c n ∗ ready xs ws c d j t)
      ⊢ iprop((debt c (n + 1) ∗ flying xs ws c d j t
          ∗ owns (c : Thread nD τ) (piece resM (ck d c t) j d) fullShare.right (full xs ws d (ck d c t) j) -∗ Runs c (k ⟨⟩) Q)
        -∗ Runs c (.op (.enqueueDma (resM.slice (Rect.unit (s := S4096x2048) off S512x1024.size p) hs)
              (.remote (Dev.tc c') (resM.slice (Rect.unit (s := S4096x2048) off S512x1024.size p') hs') sS hsc) sem h1 h2 h3') k) Q) := by
  subst hoff
  unfold ready
  rw [toks_at c d j t (by omega), show min t 3 = 3 from by omega]
  unfold tok
  iintro ⟨#HE, HO, Hp, ⟨⟨⟨Ht1, Ht2, Hps, Hpr, Hc⟩, -⟩, Htoks⟩, Hd, Hb⟩ Hk
  ihave Hp := (owns_halve c (piece resM (ck d c t) j d) _) $$ Hp
  icases Hp with ⟨Hl, Hr⟩
  ihave Hb := (chain_ag d j t h3 h6 c) $$ Hb
  icases Hb with ⟨Hh, Hb⟩
  unfold hole
  iapply (send_keep xs ws κ c (.snd d (tr t) j) (.rcv d (tr t) j) n (nx d c) (by simp) (by simp) Nat.one_pos Nat.one_pos
      (piece resM (ck d c t) j d) (piece resM (ck d c t) j d) rfl rfl hc hsS hsem rfl rfl (plan_owed c d j t n hp)
      fullShare.left (full xs ws d (ck d c t) j) (chain d j t (nx d c))
      (by
        show _ ⊢ sndPay xs ws c d (tr t).val j
        unfold sndPay; rw [tr_val t h6, if_neg (by omega)])
      (by
        show _ ⊢ iprop(landed xs ws (nx d c) d (tr t).val j ∗ chain d j (tr t).val (nx d c))
        rw [tr_val t h6]
        unfold landed
        rw [if_neg (by omega), ck_nx])) $$ [HO Hl Hh Hb Ht1 Hps Ht2]
  · isplitr; · iapply (env_records xs ws κ c); iexact HE
    isplitl [HO]; · iexact HO
    isplitl [Hl]; · iexact Hl
    isplitl [Hh]; · iexact Hh
    isplitl [Hb]; · iexact Hb
    isplitl [Ht1]; · iexact Ht1
    isplitl [Hps]; · iexact Hps
    isplitl [Ht2]; · iexact Ht2
    iapply (env_peer xs ws κ c d (tr t) j); iexact HE
  iintro ⟨HO, Hbs⟩
  iapply Hk
  isplitl [HO]; · iexact HO
  isplitr [Hr]
  · unfold flying
    isplitl [Htoks]; · iexact Htoks
    isplitl [Hd]; · iexact Hd
    isplitl [Hbs]; · iexact Hbs
    unfold busy
    isplitl [Hpr]; · iexact Hpr
    iexact Hc
  · iexact Hr

variable {sp sp' : Space} {sh : Shape} {e : EltTy} {s : DmaSem sig} {src : Memref sig .tc sp sh e} {dst : Memref sig .tc sp' sh e}

/-- The wait for a sum to have left. -/
theorem wait_left (n : ℕ) (ht : t < 3) (hl : ∀ i ∈ plan.drop n, 0 < lvl i.2) {h1 h2}
    (hs : SemLoc.dma s = (Cell.snd d (tr t) j).sem) (hN : dst.view.dmaCredit = nP)
    {k : PUnit → Prog (TpuEff nD τ sig (Elt F) Λ₀ .tc) α} {Q : α → sProp 𝕄} :
    iprop(env xs ws κ c ∗ debt c n ∗ flying xs ws c d j t)
      ⊢ iprop((debt c n ∗ leaving xs ws c d j t -∗ Runs c (k ⟨⟩) Q) -∗ Runs c (.op (.waitDma2 s src dst h1 h2) k) Q) := by
  unfold flying
  iintro ⟨#HE, HO, Ht, Hd, Hs, Hr⟩ Hk
  iapply (wait_cell xs ws κ c (.snd d (tr t) j) 0 n (by simp) Nat.one_pos hl hs hN) $$ [HO Hs]
  · isplitr; · iapply (env_records xs ws κ c); iexact HE
    isplitl [HO] <;> iassumption
  iintro ⟨HO, Hs, -⟩
  iapply Hk
  isplitl [HO]; · iexact HO
  unfold leaving
  isplitl [Ht]; · iexact Ht
  isplitl [Hd]; · iexact Hd
  isplitl [Hs] <;> iassumption

/-- The wait for a summand to have arrived. -/
theorem wait_sum (n : ℕ) (ht : t < 3) (hl : ∀ i ∈ plan.drop n, 2 + t < lvl i.2) {h1 h2}
    (hs : SemLoc.dma s = (Cell.rcv d (tr t) j).sem) (hN : dst.view.dmaCredit = nP)
    {k : PUnit → Prog (TpuEff nD τ sig (Elt F) Λ₀ .tc) α} {Q : α → sProp 𝕄} :
    iprop(env xs ws κ c ∗ debt c n ∗ leaving xs ws c d j t)
      ⊢ iprop((debt c n ∗ arrived xs ws c d j t -∗ Runs c (k ⟨⟩) Q) -∗ Runs c (.op (.waitDma2 s src dst h1 h2) k) Q) := by
  unfold leaving
  iintro ⟨#HE, HO, Ht, Hd, Hs, Hr⟩ Hk
  iapply (wait_cell xs ws κ c (.rcv d (tr t) j) 0 n (by simp) Nat.one_pos
      (by show ∀ i ∈ plan.drop n, 2 + (tr t).val < lvl i.2; rw [tr_val t (by omega)]; exact hl) hs hN) $$ [HO Hr]
  · isplitr; · iapply (env_records xs ws κ c); iexact HE
    isplitl [HO] <;> iassumption
  iintro ⟨HO, Hr, Hpay⟩
  ihave Hpay := (show pay xs ws c (.rcv d (tr t) j) 0 0 ⊢ iprop(owns (c : Thread nD τ) (slot d (sl t) j) fullShare (val xs ws d (ck d c (t + 1)) j t)
      ∗ chain (F := F) d j t c) from by
    show iprop(landed xs ws c d (tr t).val j ∗ chain d j (tr t).val c) ⊢ _
    rw [tr_val t (by omega)]; unfold landed; rw [if_pos ht]) $$ Hpay
  icases Hpay with ⟨Hv, Hc⟩
  iapply Hk
  isplitl [HO]; · iexact HO
  unfold arrived
  isplitl [Hv]; · iexact Hv
  isplitl [Ht]; · iexact Ht
  isplitl [Hd]; · iexact Hd
  isplitl [Hs]; · iexact Hs
  isplitl [Hr]; · iexact Hr
  iexact Hc

/-- The wait for a complete piece to have arrived: it may be sent on. -/
theorem wait_full (n : ℕ) (h3 : 3 ≤ t) (h6 : t < 6) (hl : ∀ i ∈ plan.drop n, 2 + t < lvl i.2) {h1 h2}
    (hs : SemLoc.dma s = (Cell.rcv d (tr t) j).sem) (hN : dst.view.dmaCredit = nP)
    {k : PUnit → Prog (TpuEff nD τ sig (Elt F) Λ₀ .tc) α} {Q : α → sProp 𝕄} :
    iprop(env xs ws κ c ∗ debt c n ∗ flying xs ws c d j t)
      ⊢ iprop((debt c n ∗ ready xs ws c d j (t + 1) -∗ Runs c (k ⟨⟩) Q) -∗ Runs c (.op (.waitDma2 s src dst h1 h2) k) Q) := by
  unfold flying
  iintro ⟨#HE, HO, Ht, Hd, Hs, Hr⟩ Hk
  iapply (wait_cell xs ws κ c (.rcv d (tr t) j) 0 n (by simp) Nat.one_pos
      (by show ∀ i ∈ plan.drop n, 2 + (tr t).val < lvl i.2; rw [tr_val t (by omega)]; exact hl) hs hN) $$ [HO Hr]
  · isplitr; · iapply (env_records xs ws κ c); iexact HE
    isplitl [HO] <;> iassumption
  iintro ⟨HO, Hr, Hpay⟩
  ihave Hpay := (show pay xs ws c (.rcv d (tr t) j) 0 0 ⊢ iprop(owns (c : Thread nD τ) (piece resM (ck d c (t + 1)) j d) fullShare (full xs ws d (ck d c (t + 1)) j)
      ∗ chain (F := F) d j t c) from by
    show iprop(landed xs ws c d (tr t).val j ∗ chain d j (tr t).val c) ⊢ _
    rw [tr_val t (by omega)]; unfold landed; rw [if_neg (by omega)]) $$ Hpay
  icases Hpay with ⟨Hv, Hc⟩
  iapply Hk
  isplitl [HO]; · iexact HO
  unfold ready
  rw [show min (t + 1) 3 = 3 from by omega, show 6 - (t + 1) = 5 - t from by omega]
  isplitl [Hv]; · iexact Hv
  isplitl [Ht]; · iexact Ht
  isplitr [Hc]
  · iapply (dones_succ xs ws c d j t)
    isplitl [Hd]; · iexact Hd
    unfold done
    rw [if_neg (by omega), if_neg (by omega)]
    isplitl [Hr] <;> iassumption
  · iapply (show chain (F := F) d j t c ⊢ before d j (t + 1) c from .rfl) $$ Hc

variable {resA : Memref sig .tc .vmem S4096x2048 .bf16} {slA : Memref sig .tc .vmem S3x1024x1024 .bf16}

theorem slot_box (u : Fin 3) (X : S512x1024.Idx → Elt F .bf16) :
    (owns (c : Thread nD τ) (slot d u j) fullShare X : sProp 𝕄) = owns (c : Thread nD τ) (slotBox d u j) fullShare (unsq X) :=
  owns_squeeze c (slotBox d u j) squeezes_S1x512x1024_S512x1024 fullShare X

/-- What arrived and the device's own summand are loaded; -/
theorem load_sums (ht : t < 3) {off : Fin 2 → ℕ} {offS : Fin 3 → ℕ} {p pS h1 h2}
    (hoff : off = pieceOff (ck d c (t + 1)) j d) (hsl : slA = slotM d) (hoffS : offS = slotOff (sl t) j)
    {k : Vec F S512x1024 .bf16 → Vec F S1x512x1024 .bf16 → Prog (TpuEff nD τ sig (Elt F) Λ₀ .tc) α} {Q : α → sProp 𝕄} :
    iprop(arrived xs ws c d j t ∗ sup xs ws c d j t)
      ⊢ iprop((arrived xs ws c d j t ∗ own xs ws c d j (ck d c (t + 1)) ∗ sup xs ws c d j (t + 1)
          -∗ Runs c (k (part xs ws c (ck d c (t + 1)) j d) (unsq (val xs ws d (ck d c (t + 1)) j t))) Q)
        -∗ Runs c (.op (.load resM (Rect.unit (s := S4096x2048) off S512x1024.size p).toLoadRect h1) fun v =>
            .op (.load slA (Rect.unit (s := S3x1024x1024) offS S1x512x1024.size pS).toLoadRect h2) fun v' => k v v') Q) := by
  subst hsl
  unfold arrived
  iintro ⟨⟨Hv, Hrest⟩, Hs⟩ Hk
  ihave Hs := (sup_take xs ws c d j t ht) $$ Hs
  icases Hs with ⟨Ho, Hs⟩
  unfold own
  iapply (load_owns c resM hoff p (pieceOff_inb _ _ _) (fun _ => rfl) fullShare (part xs ws c (ck d c (t + 1)) j d)) $$ Ho
  iintro Ho
  ihave Hv := (Entails.of_eq (slot_box c d j (sl t) _)) $$ Hv
  iapply (load_owns c (slotM d) hoffS pS (slotOff_inb _ _) (fun _ => rfl) fullShare (unsq (val xs ws d (ck d c (t + 1)) j t))) $$ Hv
  iintro Hv
  ihave Hv := (Entails.of_eq (slot_box c d j (sl t) _).symm) $$ Hv
  iapply Hk
  isplitr [Ho Hs]
  · isplitl [Hv]; · iexact Hv
    iexact Hrest
  isplitl [Ho] <;> iassumption

/-- their sum is stored, over a load whose value is not used: it may be sent on. -/
theorem store_sum (ht : t < 3) {off : Fin 2 → ℕ} {p p' h1 h2 h3} {w : Vec F S512x1024 .bf16}
    (hoff : off = pieceOff (ck d c (t + 1)) j d)
    (hw : w = k0_pay18 (part xs ws c (ck d c (t + 1)) j d) (unsq (val xs ws d (ck d c (t + 1)) j t)))
    {k : PUnit → Prog (TpuEff nD τ sig (Elt F) Λ₀ .tc) α} {Q : α → sProp 𝕄} :
    iprop(arrived xs ws c d j t ∗ own xs ws c d j (ck d c (t + 1)))
      ⊢ iprop((ready xs ws c d j (t + 1) -∗ Runs c (k ⟨⟩) Q)
        -∗ Runs c (.op (.load resM (Rect.unit (s := S4096x2048) off S512x1024.size p).toLoadRect h1) fun _ =>
            .op (.store resM (Rect.unit (s := S4096x2048) off S512x1024.size p') w Finset.univ h2 h3) k) Q) := by
  unfold arrived own
  iintro ⟨⟨Hv, Ht, Hd, Hs, Hr, Hc⟩, Ho⟩ Hk
  iapply (load_owns c resM hoff p (pieceOff_inb _ _ _) (fun _ => rfl) fullShare (part xs ws c (ck d c (t + 1)) j d)) $$ Ho
  iintro Ho
  ihave Ho := (any_of_owns c (piece resM (ck d c (t + 1)) j d) _) $$ Ho
  iapply (store_any c resM hoff p' (pieceOff_inb _ _ _) (fun _ => rfl) w) $$ Ho
  iintro Ho
  iapply Hk
  unfold ready
  rw [show min (t + 1) 3 = t + 1 from by omega, show 6 - (t + 1) = 5 - t from by omega, val_step, hw]
  isplitl [Ho]; · iexact Ho
  isplitl [Ht]; · iexact Ht
  isplitr [Hc]
  · iapply (dones_succ xs ws c d j t)
    isplitl [Hd]; · iexact Hd
    unfold done
    rw [if_pos ht]
    isplitl [Hr]; · iexact Hr
    isplitl [Hs]; · iexact Hs
    iapply (any_of_owns c (slot d (sl t) j) _) $$ Hv
  · iapply (show chain (F := F) d j t c ⊢ before d j (t + 1) c from .rfl) $$ Hc

end Steps

/-! ## The waits at the end for the complete pieces to have left -/

/-- All transfers made, the sources of those before `w` waited for. -/
def ending (c : Dev nD) (d j : Fin 2) (w : ℕ) : sProp 𝕄 :=
  iprop(owns (c : Thread nD τ) (piece resM (ck d c 6) j d) fullShare.left (full xs ws d (ck d c 6) j)
    ∗ done xs ws c d j w 0 ∗ done xs ws c d j w 1 ∗ done xs ws c d j w 2 ∗ done xs ws c d j w 3 ∗ done xs ws c d j w 4 ∗ done xs ws c d j w 5)

theorem ending_of_ready (c : Dev nD) (d j : Fin 2) :
    ready xs ws c d j 6 ⊢ iprop(ending xs ws c d j 3 ∗ owns (c : Thread nD τ) (piece resM (ck d c 6) j d) fullShare.right (full xs ws d (ck d c 6) j)) := by
  unfold ready ending
  iintro ⟨Hp, -, Hd, -⟩
  ihave Hp := (owns_halve c (piece resM (ck d c 6) j d) _) $$ Hp
  icases Hp with ⟨Hl, Hr⟩
  isplitr [Hr]
  · isplitl [Hl]; · iexact Hl
    ihave Hd := (show dones xs ws c d j 6 ⊢ iprop((((((emp ∗ done xs ws c d j 3 0) ∗ done xs ws c d j 3 1) ∗ done xs ws c d j 3 2)
      ∗ done xs ws c d j 3 3) ∗ done xs ws c d j 3 4) ∗ done xs ws c d j 3 5) from .rfl) $$ Hd
    icases Hd with ⟨⟨⟨⟨⟨⟨-, H0⟩, H1⟩, H2⟩, H3⟩, H4⟩, H5⟩
    isplitl [H0]; · iexact H0
    isplitl [H1]; · iexact H1
    isplitl [H2]; · iexact H2
    isplitl [H3]; · iexact H3
    isplitl [H4] <;> iassumption
  · iexact Hr

theorem done_same (c : Dev nD) (d j : Fin 2) (w t : ℕ) (h : t ≠ w) : done xs ws c d j w t = done xs ws c d j (w + 1) t := by
  unfold done
  by_cases ht : t < w
  · rw [if_pos ht, if_pos (show t < w + 1 by omega)]
  · rw [if_neg ht, if_neg (show ¬ t < w + 1 by omega)]

section Ends

variable {α : Type} (κ : GSem nD τ sig → ℕ) (c : Dev nD) (d j : Fin 2)
variable {sp sp' : Space} {sh : Shape} {e : EltTy} {s : DmaSem sig} {src : Memref sig .tc sp sh e} {dst : Memref sig .tc sp' sh e}

theorem wait_done (w n : ℕ) (h3 : 3 ≤ w) (h6 : w < 6) (hl : ∀ i ∈ plan.drop n, 0 < lvl i.2) {h1 h2}
    (hs : SemLoc.dma s = (Cell.snd d (tr w) j).sem) (hN : dst.view.dmaCredit = nP)
    {k : PUnit → Prog (TpuEff nD τ sig (Elt F) Λ₀ .tc) α} {Q : α → sProp 𝕄} :
    iprop(env xs ws κ c ∗ debt c n ∗ done xs ws c d j w w)
      ⊢ iprop((debt c n ∗ done xs ws c d j (w + 1) w -∗ Runs c (k ⟨⟩) Q) -∗ Runs c (.op (.waitDma2 s src dst h1 h2) k) Q) := by
  unfold done
  rw [if_neg (by omega), if_neg (by omega), if_neg (by omega), if_pos (by omega)]
  iintro ⟨#HE, HO, Hr, Hs⟩ Hk
  iapply (wait_cell xs ws κ c (.snd d (tr w) j) 0 n (by simp) Nat.one_pos hl hs hN) $$ [HO Hs]
  · isplitr; · iapply (env_records xs ws κ c); iexact HE
    isplitl [HO] <;> iassumption
  iintro ⟨HO, Hs, Hpay⟩
  ihave Hpay := (show pay xs ws c (.snd d (tr w) j) 0 0
      ⊢ owns (c : Thread nD τ) (piece resM (ck d c w) j d) fullShare.left (full xs ws d (ck d c w) j) from by
    show sndPay xs ws c d (tr w).val j ⊢ _
    unfold sndPay; rw [tr_val w h6, if_neg (by omega)]) $$ Hpay
  iapply Hk
  isplitl [HO]; · iexact HO
  isplitl [Hr]; · iexact Hr
  isplitl [Hs] <;> iassumption

theorem wait_gone (w n : ℕ) (h3 : 3 ≤ w) (h6 : w < 6) (hl : ∀ i ∈ plan.drop n, 0 < lvl i.2) {h1 h2}
    (hs : SemLoc.dma s = (Cell.snd d (tr w) j).sem) (hN : dst.view.dmaCredit = nP)
    {k : PUnit → Prog (TpuEff nD τ sig (Elt F) Λ₀ .tc) α} {Q : α → sProp 𝕄} :
    iprop(env xs ws κ c ∗ debt c n ∗ ending xs ws c d j w)
      ⊢ iprop((debt c n ∗ ending xs ws c d j (w + 1) -∗ Runs c (k ⟨⟩) Q) -∗ Runs c (.op (.waitDma2 s src dst h1 h2) k) Q) := by
  unfold ending
  rw [done_same xs ws c d j w 0 (by omega), done_same xs ws c d j w 1 (by omega), done_same xs ws c d j w 2 (by omega)]
  obtain rfl | rfl | rfl : w = 3 ∨ w = 4 ∨ w = 5 := by omega
  · rw [done_same xs ws c d j 3 4 (by omega), done_same xs ws c d j 3 5 (by omega)]
    iintro ⟨#HE, HO, Hl, H0, H1, H2, H3, H4, H5⟩ Hk
    iapply (wait_done xs ws κ c d j 3 n h3 h6 hl hs hN) $$ [HO H3]
    · isplitr; · iexact HE
      isplitl [HO] <;> iassumption
    iintro ⟨HO, H3⟩
    iapply Hk
    iframe HO Hl H0 H1 H2 H3 H4 H5
  · rw [done_same xs ws c d j 4 3 (by omega), done_same xs ws c d j 4 5 (by omega)]
    iintro ⟨#HE, HO, Hl, H0, H1, H2, H3, H4, H5⟩ Hk
    iapply (wait_done xs ws κ c d j 4 n h3 h6 hl hs hN) $$ [HO H4]
    · isplitr; · iexact HE
      isplitl [HO] <;> iassumption
    iintro ⟨HO, H4⟩
    iapply Hk
    iframe HO Hl H0 H1 H2 H3 H4 H5
  · rw [done_same xs ws c d j 5 3 (by omega), done_same xs ws c d j 5 4 (by omega)]
    iintro ⟨#HE, HO, Hl, H0, H1, H2, H3, H4, H5⟩ Hk
    iapply (wait_done xs ws κ c d j 5 n h3 h6 hl hs hN) $$ [HO H5]
    · isplitr; · iexact HE
      isplitl [HO] <;> iassumption
    iintro ⟨HO, H5⟩
    iapply Hk
    iframe HO Hl H0 H1 H2 H3 H4 H5

end Ends

end Cert.KernelIdeal.Ring

end
-- ==== Proof.Local.lean ====
/- The copies within a device: the loads of the chunks of `x` and the stores of the result. -/
module

public import proofs.«01_k».proof.Proof.Lanes

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S4096x1024.Idx → Elt F .f32) (ws : Dev nD → S1024x2048.Idx → Elt F .f32)

/-! ## Loads of `x` -/

/-- The rights to the loads from the `r`-th on into place `s`. -/
def xtoks (c : Dev nD) (s : Fin 2) (r : ℕ) : sProp 𝕄 :=
  match r with
  | 0 => iprop(dutyTok ER (cell c (.xl s)) 0 0 ∗ dutyTok ER (cell c (.xl s)) 1 0)
  | 1 => dutyTok ER (cell c (.xl s)) 1 0
  | _ => iprop(emp)
theorem xtoks_take (c : Dev nD) (s : Fin 2) (r : ℕ) (hr : r < 2) :
    xtoks (F := F) c s r ⊢ iprop(dutyTok ER (cell c (.xl s)) r 0 ∗ xtoks c s (r + 1)) := by
  match r, hr with
  | 0, _ => exact .rfl
  | 1, _ =>
    show dutyTok ER (cell c (.xl s)) 1 0 ⊢ iprop(dutyTok ER (cell c (.xl s)) 1 0 ∗ emp)
    iintro H; isplitl [H]; · iexact H
    iempintro

/-- A chunk of `x` in memory; -/
def xck (c : Dev nD) (q : Fin 4) : sProp 𝕄 := owns (c : Thread nD τ) (chunk q) fullShare (xin xs c q)
/-- place `s` free for its `r`-th load, -/
def xready (c : Dev nD) (s : Fin 2) (r : ℕ) : sProp 𝕄 :=
  iprop(xtoks (F := F) c s r ∗ pos (F := F) c (.xl s) r ∗ Any (F := F) c (xslot s))
/-- loading, -/
def xflying (c : Dev nD) (s : Fin 2) (r : ℕ) : sProp 𝕄 := iprop(xtoks (F := F) c s (r + 1) ∗ busy (F := F) c (.xl s) r)
/-- and loaded. -/
def xloaded (c : Dev nD) (s : Fin 2) (r : ℕ) : sProp 𝕄 :=
  iprop(xtoks (F := F) c s (r + 1) ∗ pos (F := F) c (.xl s) (r + 1) ∗ owns (c : Thread nD τ) (xslot s) fullShare (xin xs c (xq c s r)))

theorem slot_xbox (c : Dev nD) (s : Fin 2) (X : S1024x1024.Idx → Elt F .f32) :
    (owns (c : Thread nD τ) (xslot s) fullShare X : sProp 𝕄) = owns (c : Thread nD τ) (xbox s) fullShare (unsqX X) :=
  owns_squeeze c (xbox s) squeezes_S1x1024x1024_S1024x1024 fullShare X

section XSteps

variable {α : Type} (κ : GSem nD τ sig → ℕ) (c : Dev nD) (s : Fin 2) (r : ℕ)

theorem load_start (hr : r < 2) {off : Fin 2 → ℕ} {p hs} {dst : Memref sig .tc .vmem S1024x1024 .f32} {sem : SemLoc sig} {h1 h2 h3}
    (hoff : off = chunkOff (xq c s r)) (hdst : dst = xslot s) (hsem : sem = (Cell.xl s).sem)
    {k : PUnit → Prog (TpuEff nD τ sig (Elt F) Λ₀ .tc) α} {Q : α → sProp 𝕄} :
    iprop(records xs ws κ ∗ xck xs c (xq c s r) ∗ xready c s r)
      ⊢ iprop((xflying c s r -∗ Runs c (k ⟨⟩) Q)
        -∗ Runs c (.op (.enqueueDma (xM.slice (Rect.unit (s := S4096x1024) off S1024x1024.size p) hs) (.here dst) sem h1 h2 h3) k) Q) := by
  subst hoff
  unfold xready xck
  iintro ⟨#HR, Hx, Ht, Hp, Ha⟩ Hk
  ihave Ht := (xtoks_take c s r hr) $$ Ht
  icases Ht with ⟨Ht, Hts⟩
  iapply (copy_start xs ws κ c (.xl s) r (by simp) hr (chunk (xq c s r)) (xslot s) rfl hdst hsem rfl fullShare (xin xs c (xq c s r)) .rfl) $$ [Hx Ha Ht Hp]
  · isplitr; · iexact HR
    iframe Hx Ha Ht Hp
  iintro Hb
  iapply Hk
  unfold xflying
  iframe Hts Hb

theorem load_wait (n : ℕ) (hr : r < 2) (hl : ∀ i ∈ plan.drop n, 0 < lvl i.2)
    {sp sp' : Space} {sh : Shape} {e : EltTy} {sm : DmaSem sig} {src : Memref sig .tc sp sh e} {dst : Memref sig .tc sp' sh e} {h1 h2}
    (hs : SemLoc.dma sm = (Cell.xl s).sem) (hN : dst.view.dmaCredit = nX)
    {k : PUnit → Prog (TpuEff nD τ sig (Elt F) Λ₀ .tc) α} {Q : α → sProp 𝕄} :
    iprop(records xs ws κ ∗ debt c n ∗ xflying c s r)
      ⊢ iprop((debt c n ∗ xck xs c (xq c s r) ∗ xloaded xs c s r -∗ Runs c (k ⟨⟩) Q) -∗ Runs c (.op (.waitDma2 sm src dst h1 h2) k) Q) := by
  unfold xflying
  iintro ⟨#HR, HO, Ht, Hb⟩ Hk
  iapply (wait_cell xs ws κ c (.xl s) r n (by simp) hr hl hs hN) $$ [HO Hb]
  · isplitr; · iexact HR
    iframe HO Hb
  iintro ⟨HO, Hp, Hpay⟩
  ihave Hpay := (show pay xs ws c (.xl s) r 0 ⊢ iprop(owns (c : Thread nD τ) (xslot s) fullShare (xin xs c (xq c s r)) ∗ xck xs c (xq c s r)) from .rfl) $$ Hpay
  icases Hpay with ⟨Hv, Hx⟩
  iapply Hk
  unfold xloaded
  iframe HO Hx Ht Hp Hv

/-- The chunk is read, and its place is free again. -/
theorem load_read {off : Fin 3 → ℕ} {p h1} (hoff : off = pairOff s)
    {k : Vec F S1x1024x1024 .f32 → Prog (TpuEff nD τ sig (Elt F) Λ₀ .tc) α} {Q : α → sProp 𝕄} :
    xloaded xs c s r
      ⊢ iprop((xready c s (r + 1) -∗ Runs c (k (unsqX (xin xs c (xq c s r)))) Q)
        -∗ Runs c (.op (.load xbufM (Rect.unit (s := S2x1024x1024) off S1x1024x1024.size p).toLoadRect h1) k) Q) := by
  unfold xloaded xready
  iintro ⟨Ht, Hp, Hv⟩ Hk
  ihave Hv := (Entails.of_eq (slot_xbox c s _)) $$ Hv
  iapply (load_owns c xbufM hoff p (pairOff_inb _) (fun _ => rfl) fullShare (unsqX (xin xs c (xq c s r)))) $$ Hv
  iintro Hv
  ihave Hv := (Entails.of_eq (slot_xbox c s _).symm) $$ Hv
  ihave Hv := (any_of_owns c (xslot s) _) $$ Hv
  iapply Hk
  iframe Ht Hp Hv

end XSteps

/-! ## Stores of the result -/

/-- The place in the result of the `r`-th store counted by semaphore `k`, to be written: -/
def place (c : Dev nD) (k : Fin 4) (r : ℕ) : sProp 𝕄 :=
  if r = 0 ∧ k.val < 2 then Any (F := F) c (box outM (ck (stD k) c 3) (stD k))
  else Any (F := F) c (piece outM (ck (stD k) c (stT k r)) (stJ k) (stD k))
/-- the rights to the last `m` stores, and their places; -/
def stoks (c : Dev nD) (k : Fin 4) : ℕ → sProp 𝕄
  | 0 => iprop(emp)
  | m + 1 => iprop((dutyTok ER (cell c (.st k)) (uses (.st k) - (m + 1)) 0 ∗ place (F := F) c k (uses (.st k) - (m + 1))) ∗ stoks c k m)
theorem stoks_at (c : Dev nD) (k : Fin 4) (r : ℕ) (h : r < uses (.st k)) :
    stoks (F := F) c k (uses (.st k) - r)
      = iprop((dutyTok ER (cell c (.st k)) r 0 ∗ place (F := F) c k r) ∗ stoks c k (uses (.st k) - (r + 1))) := by
  rw [show uses (.st k) - r = (uses (.st k) - (r + 1)) + 1 from by omega]
  show iprop((dutyTok ER (cell c (.st k)) (uses (.st k) - (uses (.st k) - (r + 1) + 1)) 0 ∗ place (F := F) c k (uses (.st k) - (uses (.st k) - (r + 1) + 1))) ∗ _) = _
  rw [show uses (.st k) - (uses (.st k) - (r + 1) + 1) = r from by omega]
/-- what the stores before the `r`-th left. -/
def stored (c : Dev nD) (k : Fin 4) : ℕ → sProp 𝕄
  | 0 => iprop(emp)
  | r + 1 => iprop(stored c k r ∗ stPay xs ws c k r)
/-- Between the stores counted by `k`, -/
def sready (c : Dev nD) (k : Fin 4) (r : ℕ) : sProp 𝕄 :=
  iprop(stoks (F := F) c k (uses (.st k) - r) ∗ stored xs ws c k r ∗ pos (F := F) c (.st k) r)
/-- and during one. -/
def sflying (c : Dev nD) (k : Fin 4) (r : ℕ) : sProp 𝕄 :=
  iprop(stoks (F := F) c k (uses (.st k) - (r + 1)) ∗ stored xs ws c k r ∗ busy (F := F) c (.st k) r)
theorem stored_succ (c : Dev nD) (k : Fin 4) (r : ℕ) :
    iprop(stored xs ws c k r ∗ stPay xs ws c k r) ⊢ stored xs ws c k (r + 1) := .rfl

section SSteps

variable {α : Type} (κ : GSem nD τ sig → ℕ) (c : Dev nD) (m : Fin 4) (r : ℕ)

/-- The right to read what a device stores. -/
abbrev held (d j : Fin 2) (t : ℕ) : sProp 𝕄 :=
  owns (c : Thread nD τ) (piece resM (ck d c t) j d) fullShare.right (full xs ws d (ck d c t) j)

theorem store_start (hr : r < uses (.st m)) (h0 : ¬ (r = 0 ∧ m.val < 2)) (d j : Fin 2) (t : ℕ) (hd : d = stD m) (hj : j = stJ m) (ht : t = stT m r)
    {off : Fin 2 → ℕ} {p p' hs hs'} {sem : SemLoc sig} {h1 h2 h3}
    (hoff : off = pieceOff (ck d c t) j d) (hsem : sem = (Cell.st m).sem)
    {k : PUnit → Prog (TpuEff nD τ sig (Elt F) Λ₀ .tc) α} {Q : α → sProp 𝕄} :
    iprop(records xs ws κ ∗ held xs ws c d j t ∗ sready xs ws c m r)
      ⊢ iprop((sflying xs ws c m r -∗ Runs c (k ⟨⟩) Q)
        -∗ Runs c (.op (.enqueueDma (resM.slice (Rect.unit (s := S4096x2048) off S512x1024.size p) hs)
            (.here (outM.slice (Rect.unit (s := S4096x2048) off S512x1024.size p') hs')) sem h1 h2 h3) k) Q) := by
  subst hd; subst hj; subst ht; subst hoff
  unfold sready held
  rw [stoks_at c m r hr]
  unfold place
  rw [if_neg h0]
  iintro ⟨#HR, Hp, ⟨⟨Ht, Ha⟩, Hts⟩, Hst, Hpos⟩ Hk
  iapply (copy_start xs ws κ c (.st m) r (by simp) hr (piece resM (ck (stD m) c (stT m r)) (stJ m) (stD m)) (piece outM (ck (stD m) c (stT m r)) (stJ m) (stD m))
      rfl rfl hsem (by show nP = if r = 0 ∧ m.val < 2 then nB else nP; rw [if_neg h0]) fullShare.right (full xs ws (stD m) (ck (stD m) c (stT m r)) (stJ m))
      (by show _ ⊢ stPay xs ws c m r; unfold stPay; rw [if_neg h0])) $$ [Hp Ha Ht Hpos]
  · isplitr; · iexact HR
    iframe Hp Ha Ht Hpos
  iintro Hb
  iapply Hk
  unfold sflying
  iframe Hts Hst Hb

/-- The first store of either direction is of both pieces of a chunk. -/
theorem store_box (h0 : m.val < 2) (d : Fin 2) (hd : d = stD m)
    {off : Fin 2 → ℕ} {p p' hs hs'} {sem : SemLoc sig} {h1 h2 h3}
    (hoff : off = boxOff (ck d c 3) d) (hsem : sem = (Cell.st m).sem)
    {k : PUnit → Prog (TpuEff nD τ sig (Elt F) Λ₀ .tc) α} {Q : α → sProp 𝕄} :
    iprop(records xs ws κ ∗ (held xs ws c d 0 3 ∗ held xs ws c d 1 3) ∗ sready xs ws c m 0)
      ⊢ iprop((sflying xs ws c m 0 -∗ Runs c (k ⟨⟩) Q)
        -∗ Runs c (.op (.enqueueDma (resM.slice (Rect.unit (s := S4096x2048) off S1024x1024.size p) hs)
            (.here (outM.slice (Rect.unit (s := S4096x2048) off S1024x1024.size p') hs')) sem h1 h2 h3) k) Q) := by
  subst hd; subst hoff
  have hr : 0 < uses (.st m) := by show 0 < if m.val < 2 then 4 else 3; rw [if_pos h0]; omega
  have hc : (0 : ℕ) = 0 ∧ m.val < 2 := ⟨rfl, h0⟩
  unfold sready held
  rw [stoks_at c m 0 hr]
  unfold place
  rw [if_pos hc]
  iintro ⟨#HR, Hp, ⟨⟨Ht, Ha⟩, Hts⟩, Hst, Hpos⟩ Hk
  ihave Hp := (show iprop(owns (c : Thread nD τ) (piece resM (ck (stD m) c 3) 0 (stD m)) fullShare.right (full xs ws (stD m) (ck (stD m) c 3) 0)
      ∗ owns (c : Thread nD τ) (piece resM (ck (stD m) c 3) 1 (stD m)) fullShare.right (full xs ws (stD m) (ck (stD m) c 3) 1))
      ⊢ owns (c : Thread nD τ) (box resM (ck (stD m) c 3) (stD m)) fullShare.right (fullBox xs ws (stD m) (ck (stD m) c 3)) from by
    refine BIBase.Entails.trans (Entails.of_eq ?_) (box_join resM c (ck (stD m) c 3) (stD m) fullShare.right (fullBox xs ws (stD m) (ck (stD m) c 3)))
    unfold fullBox
    rw [rows_glue, rows_glue]) $$ Hp
  iapply (copy_start xs ws κ c (.st m) 0 (by simp) hr (box resM (ck (stD m) c 3) (stD m)) (box outM (ck (stD m) c 3) (stD m))
      rfl rfl hsem (by show nB = if 0 = 0 ∧ m.val < 2 then nB else nP; rw [if_pos hc]) fullShare.right (fullBox xs ws (stD m) (ck (stD m) c 3))
      (by show _ ⊢ stPay xs ws c m 0; unfold stPay; rw [if_pos hc])) $$ [Hp Ha Ht Hpos]
  · isplitr; · iexact HR
    iframe Hp Ha Ht Hpos
  iintro Hb
  iapply Hk
  unfold sflying
  iframe Hts Hst Hb

theorem store_wait (n : ℕ) (hr : r < uses (.st m)) (hl : ∀ i ∈ plan.drop n, 0 < lvl i.2)
    {sp sp' : Space} {sh : Shape} {e : EltTy} {sm : DmaSem sig} {src : Memref sig .tc sp sh e} {dst : Memref sig .tc sp' sh e} {h1 h2}
    (hs : SemLoc.dma sm = (Cell.st m).sem) (hN : dst.view.dmaCredit = amt (.st m) r)
    {k : PUnit → Prog (TpuEff nD τ sig (Elt F) Λ₀ .tc) α} {Q : α → sProp 𝕄} :
    iprop(records xs ws κ ∗ debt c n ∗ sflying xs ws c m r)
      ⊢ iprop((debt c n ∗ sready xs ws c m (r + 1) -∗ Runs c (k ⟨⟩) Q) -∗ Runs c (.op (.waitDma2 sm src dst h1 h2) k) Q) := by
  unfold sflying
  iintro ⟨#HR, HO, Ht, Hst, Hb⟩ Hk
  iapply (wait_cell xs ws κ c (.st m) r n (by simp) hr hl hs hN) $$ [HO Hb]
  · isplitr; · iexact HR
    iframe HO Hb
  iintro ⟨HO, Hp, Hpay⟩
  iapply Hk
  unfold sready
  isplitl [HO]; · iexact HO
  isplitl [Ht]; · iexact Ht
  isplitr [Hp]
  · iapply (stored_succ xs ws c m r)
    isplitl [Hst]; · iexact Hst
    iapply (show pay xs ws c (.st m) r 0 ⊢ stPay xs ws c m r from .rfl) $$ Hpay
  · iexact Hp

end SSteps

end Cert.KernelIdeal.Ring

end
-- ==== Proof.Args.lean ====
/- Where the kernel's accesses and its copies go. -/
module

public import proofs.«01_k».proof.Proof.Local
public import proofs.«01_k».proof.Proof.Gen.KernelIdeal.Skeleton

@[expose] public section

noncomputable section

namespace Cert.KernelIdeal.Ring

open Cert.KernelIdeal Cert.KernelIdeal.Gen
open Idealize.ShloMosaic
open Idealize.ShloMosaic.TcCoe
open Idealize.SL.Sem

/-- A part of the kernel at the buffers and semaphores it runs on. -/
abbrev args {γ : Type 1} (p : (arg0 : Memref sig .tc .hbm S4096x1024 .f32) → arg0.IsWhole → (arg1 : Memref sig .tc .vmem S1024x2048 .f32) → arg1.IsWhole
      → (arg2 : Memref sig .tc .hbm S4096x2048 .bf16) → arg2.IsWhole → (arg3 : Memref sig .tc .vmem S4096x2048 .bf16) → arg3.IsWhole
      → (arg4 : Memref sig .tc .vmem S3x1024x1024 .bf16) → arg4.IsWhole → (arg5 : Memref sig .tc .vmem S3x1024x1024 .bf16) → arg5.IsWhole
      → (arg6 : Memref sig .tc .vmem S2x1024x1024 .f32) → arg6.IsWhole → (arg7 : Memref sig .tc .vmem S2x1024x1024 .bf16) → arg7.IsWhole
      → (arg8 : Memref sig .tc .vmem S1024x2048 .bf16) → arg8.IsWhole
      → DmaSems sig S3x2 → DmaSems sig S3x2 → DmaSems sig S3x2 → DmaSems sig S3x2 → DmaSems sig S3x2 → DmaSems sig S3x2 → DmaSems sig S3x2
      → DmaSems sig S3x2 → DmaSems sig S2 → DmaSems sig S4 → γ) : γ :=
  p (Memref.whole main_arg0) (Memref.isWhole_whole _) (Memref.whole cc0_stg0_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15

/-- A device computed as a neighbour is that neighbour. -/
theorem dev_eq (d : Fin 2) (f : Dev nD → ℕ) (hf : ∀ c, f c < nD) (h : ∀ c, f c = (nx d c).val) (c : Dev nD) : (⟨f c, hf c⟩ : Dev nD) = nx d c :=
  Fin.ext (h c)

variable (c : Dev nD)

theorem off1 : k0_off1 c = chunkOff (xq c 0 0) := by revert c; decide
theorem off2 : k0_off2 c = chunkOff (xq c 1 0) := by revert c; decide
theorem off7 (s : Fin 2) : k0_off7 c (BitVec.ofNat 32 (1 + s.val)) = chunkOff (xq c s 1) := by revert c s; decide
theorem off3 (j : Fin 2) : k0_off3 c (BitVec.ofNat 32 (512 * j.val)) = pieceOff c j 0 := by revert c j; decide
theorem off5 : k0_off5 c = boxOff c 1 := by revert c; decide
theorem off8 : k0_off8 c = boxOff (c + 3) 0 := by revert c; decide
theorem off9 : k0_off9 c = boxOff (c + 3) 1 := by revert c; decide
theorem off10 (s : Fin 2) : k0_off10 c (BitVec.ofNat 32 (1 + s.val)) = boxOff (xq c s 1) 0 := by revert c s; decide
theorem off11 (s : Fin 2) : k0_off11 c (BitVec.ofNat 32 (1 + s.val)) = boxOff (xq c s 1) 1 := by revert c s; decide
theorem off16 : k0_off16 c = boxOff (ck 0 c 3) 0 := by revert c; decide
theorem off17 : k0_off17 c = boxOff (ck 1 c 3) 1 := by revert c; decide

variable (h : Fin 3) (j : Fin 2)

theorem off4 : k0_off4 c (BitVec.ofNat 32 h.val) (BitVec.ofNat 32 (512 * j.val)) = pieceOff (ck 0 c h.val) j 0 := by revert c h j; decide
theorem off6 : k0_off6 c (BitVec.ofNat 32 h.val) (BitVec.ofNat 32 (512 * j.val)) = pieceOff (ck 1 c h.val) j 1 := by revert c h j; decide
theorem off4' : k0_off4 c (BitVec.ofNat 32 h.val) (BitVec.ofNat 32 (512 * j.val)) = pieceOff (ck 0 c (h.val + 4)) j 0 := by revert c h j; decide
theorem off6' : k0_off6 c (BitVec.ofNat 32 h.val) (BitVec.ofNat 32 (512 * j.val)) = pieceOff (ck 1 c (h.val + 4)) j 1 := by revert c h j; decide
theorem off12 : k0_off12 c (BitVec.ofNat 32 h.val) (BitVec.ofNat 32 (512 * j.val)) = pieceOff (ck 0 c (h.val + 1)) j 0 := by revert c h j; decide
theorem off13 : k0_off13 c (BitVec.ofNat 32 h.val) (BitVec.ofNat 32 (512 * j.val)) = pieceOff (ck 1 c (h.val + 1)) j 1 := by revert c h j; decide
theorem off14 : k0_off14 c (BitVec.ofNat 32 h.val) (BitVec.ofNat 32 (512 * j.val)) = pieceOff (ck 0 c (h.val + 3)) j 0 := by revert c h j; decide
theorem off15 : k0_off15 c (BitVec.ofNat 32 h.val) (BitVec.ofNat 32 (512 * j.val)) = pieceOff (ck 1 c (h.val + 3)) j 1 := by revert c h j; decide

end Cert.KernelIdeal.Ring

end
-- ==== Proof.Sums.lean ====
/- The part of the kernel in which the sums go round the ring. -/
module

public import proofs.«01_k».proof.Proof.Args

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S4096x1024.Idx → Elt F .f32) (ws : Dev nD → S1024x2048.Idx → Elt F .f32)
variable (κ : GSem nD τ sig → ℕ) (c : Dev nD)

section Two

variable {α : Type} (d j : Fin 2) (t : ℕ)
variable {sp sp' : Space} {sh : Shape} {e : EltTy} {s s' : DmaSem sig} {src : Memref sig .tc sp sh e} {dst : Memref sig .tc sp' sh e}
variable {sp₂ sp₂' : Space} {sh₂ : Shape} {e₂ : EltTy} {src₂ : Memref sig .tc sp₂ sh₂ e₂} {dst₂ : Memref sig .tc sp₂' sh₂ e₂}

/-- The two waits after a sum was sent: it has left, and the summand from the other side has arrived. -/
theorem await (n : ℕ) (ht : t < 3) (hl : ∀ i ∈ plan.drop n, 2 + t < lvl i.2) {h1 h2 h1' h2'}
    (hs : SemLoc.dma s = (Cell.snd d (tr t) j).sem) (hN : dst.view.dmaCredit = nP)
    (hs' : SemLoc.dma s' = (Cell.rcv d (tr t) j).sem) (hN' : dst₂.view.dmaCredit = nP)
    {k : PUnit → Prog (TpuEff nD τ sig (Elt F) Λ₀ .tc) α} {Q : α → sProp 𝕄} :
    iprop(env xs ws κ c ∗ debt c n ∗ flying xs ws c d j t)
      ⊢ iprop((debt c n ∗ arrived xs ws c d j t -∗ Runs c (k ⟨⟩) Q)
        -∗ Runs c (.op (.waitDma2 s src dst h1 h2) fun _ => .op (.waitDma2 s' src₂ dst₂ h1' h2') k) Q) := by
  iintro ⟨#HE, HO, Hf⟩ Hk
  iapply (wait_left xs ws κ c d j t n ht (fun i hi => Nat.lt_of_le_of_lt (Nat.zero_le _) (hl i hi)) hs hN) $$ [HO Hf]
  · isplitr; · iexact HE
    iframe HO Hf
  iintro ⟨HO, Hf⟩
  iapply (wait_sum xs ws κ c d j t n ht hl hs' hN') $$ [HO Hf]
  · isplitr; · iexact HE
    iframe HO Hf
  iintro ⟨HO, Hf⟩
  iapply Hk
  iframe HO Hf

/-- What arrived is added to. -/
theorem add (ht : t < 3) {slA : Memref sig .tc .vmem S3x1024x1024 .bf16} {off : Fin 2 → ℕ} {offS : Fin 3 → ℕ} {p p' p'' pS h1 h2 h3 h4 h5}
    (hoff : off = pieceOff (ck d c (t + 1)) j d) (hsl : slA = slotM d) (hoffS : offS = slotOff (sl t) j)
    {g : Vec F S512x1024 .bf16 → Vec F S1x512x1024 .bf16 → Vec F S512x1024 .bf16} (hg : g = k0_pay18)
    {k : PUnit → Prog (TpuEff nD τ sig (Elt F) Λ₀ .tc) α} {Q : α → sProp 𝕄} :
    iprop(arrived xs ws c d j t ∗ sup xs ws c d j t)
      ⊢ iprop((ready xs ws c d j (t + 1) ∗ sup xs ws c d j (t + 1) -∗ Runs c (k ⟨⟩) Q)
        -∗ Runs c (.op (.load resM (Rect.unit (s := S4096x2048) off S512x1024.size p).toLoadRect h1) fun v =>
            .op (.load slA (Rect.unit (s := S3x1024x1024) offS S1x512x1024.size pS).toLoadRect h2) fun v' =>
            .op (.load resM (Rect.unit (s := S4096x2048) off S512x1024.size p').toLoadRect h3) fun _ =>
            .op (.store resM (Rect.unit (s := S4096x2048) off S512x1024.size p'') (g v v') Finset.univ h4 h5) k) Q) := by
  subst hg
  iintro ⟨Ha, Hs⟩ Hk
  iapply (load_sums xs ws c d j t ht hoff hsl hoffS) $$ [Ha Hs]
  · iframe Ha Hs
  iintro ⟨Ha, Ho, Hs⟩
  iapply (store_sum xs ws c d j t ht hoff rfl) $$ [Ha Ho]
  · iframe Ha Ho
  iintro Hr
  iapply Hk
  iframe Hr Hs

end Two

/-! ## The parts of the kernel in turn -/

/-- Each part at the stages it finds the streams in, and those it leaves them in. -/
theorem run17 (v2 v6 : BitVec 32) (Q : PUnit → sProp 𝕄) :
    iprop(env xs ws κ c ∗ debt c 6 ∗ arrived xs ws c 0 0 0 ∗ sup xs ws c 0 0 0)
      ⊢ iprop((debt c 7 ∗ flying xs ws c 0 0 1 ∗ sup xs ws c 0 0 1 -∗ Q ⟨⟩) -∗ Runs c (args (k0_part17 (F := F)) c v2 v6) Q) := by
  iintro ⟨#HE, HO, Ha, Hs⟩ Hk
  rw [k0_part17_eq_skeleton]
  unfold args k0_part17_skel
  simp only [Prog.lift, Prog.bind_op, Prog.bind_ret, Prog.pure_eq_ret]
  iapply (add xs ws c 0 0 0 (by decide) (off12 c 0 0) rfl rfl rfl) $$ [Ha Hs]
  · iframe Ha Hs
  iintro ⟨Ha, Hs⟩
  iapply (send_sum xs ws κ c 0 0 1 6 (by decide) rfl (off4 c 1 0) rfl (dev_eq 0 k0_dev7 k0_dev7_lt (by decide) c) rfl rfl) $$ [HO Ha]
  · isplitr; · iexact HE
    iframe HO Ha
  iintro ⟨HO, Ha⟩
  iapply (runs_ret c)
  iapply Hk
  iframe HO Ha Hs

theorem run18 (v2 v4 : BitVec 32) (Q : PUnit → sProp 𝕄) :
    iprop(env xs ws κ c ∗ debt c 7 ∗ flying xs ws c 1 0 0 ∗ sup xs ws c 1 0 0)
      ⊢ iprop((debt c 7 ∗ ready xs ws c 1 0 1 ∗ sup xs ws c 1 0 1 -∗ Q ⟨⟩) -∗ Runs c (args (k0_part18 (F := F)) c v2 v4) Q) := by
  iintro ⟨#HE, HO, Ha, Hs⟩ Hk
  rw [k0_part18_eq_skeleton]
  unfold args k0_part18_skel
  simp only [Prog.lift, Prog.bind_op, Prog.bind_ret, Prog.pure_eq_ret]
  iapply (await xs ws κ c 1 0 0 7 (by decide) (by decide) rfl rfl rfl rfl) $$ [HO Ha]
  · isplitr; · iexact HE
    iframe HO Ha
  iintro ⟨HO, Ha⟩
  iapply (add xs ws c 1 0 0 (by decide) (off13 c 0 0) rfl rfl rfl) $$ [Ha Hs]
  · iframe Ha Hs
  iintro ⟨Ha, Hs⟩
  iapply (runs_ret c)
  iapply Hk
  iframe HO Ha Hs

theorem run19 (v2 v6 : BitVec 32) (Q : (Σ' (_ : BitVec 32) (_ : Vec F S512x1024 .bf16), FVec F S512x1024 .bf16) → sProp 𝕄) :
    iprop(env xs ws κ c ∗ debt c 7 ∗ ready xs ws c 1 0 1 ∗ flying xs ws c 0 1 0 ∗ sup xs ws c 0 1 0)
      ⊢ iprop((∀ w, debt c 8 ∗ flying xs ws c 1 0 1 ∗ arrived xs ws c 0 1 0 ∗ own xs ws c 0 1 (ck 0 c 1) ∗ sup xs ws c 0 1 1 -∗ Q ⟨w, part xs ws c (ck 0 c 1) 1 0, k0_pay20 (unsq (val xs ws 0 (ck 0 c 1) 1 0))⟩) -∗ Runs c (args (k0_part19 (F := F)) c v2 v6) Q) := by
  iintro ⟨#HE, HO, Ha, Ka, Ks⟩ Hk
  rw [k0_part19_eq_skeleton]
  unfold args k0_part19_skel
  simp only [Prog.lift, Prog.bind_op, Prog.bind_ret, Prog.pure_eq_ret]
  iapply (send_sum xs ws κ c 1 0 1 7 (by decide) rfl (off6 c 1 0) rfl (dev_eq 1 k0_dev8 k0_dev8_lt (by decide) c) rfl rfl) $$ [HO Ha]
  · isplitr; · iexact HE
    iframe HO Ha
  iintro ⟨HO, Ha⟩
  iapply (await xs ws κ c 0 1 0 8 (by decide) (by decide) rfl rfl rfl rfl) $$ [HO Ka]
  · isplitr; · iexact HE
    iframe HO Ka
  iintro ⟨HO, Ka⟩
  iapply (load_sums xs ws c 0 1 0 (by decide) (off12 c 0 1) rfl rfl) $$ [Ka Ks]
  · iframe Ka Ks
  iintro ⟨Ka, Ko, Ks⟩
  iapply (runs_ret c)
  iapply Hk $$ %_
  iframe HO Ha Ka Ko Ks

theorem run20 (v4 v6 v545 : BitVec 32) (Q : PUnit → sProp 𝕄) :
    iprop(env xs ws κ c ∗ debt c 8 ∗ arrived xs ws c 0 1 0 ∗ own xs ws c 0 1 (ck 0 c 1) ∗ flying xs ws c 1 1 0)
      ⊢ iprop((debt c 9 ∗ flying xs ws c 0 1 1 ∗ arrived xs ws c 1 1 0 -∗ Q ⟨⟩) -∗ Runs c (args (k0_part20 (F := F)) c v4 v6 v545 (part xs ws c (ck 0 c 1) 1 0) (k0_pay20 (unsq (val xs ws 0 (ck 0 c 1) 1 0)))) Q) := by
  iintro ⟨#HE, HO, Ka, Ko, Ha⟩ Hk
  rw [k0_part20_eq_skeleton]
  unfold args k0_part20_skel
  simp only [Prog.lift, Prog.bind_op, Prog.bind_ret, Prog.pure_eq_ret]
  iapply (store_sum xs ws c 0 1 0 (by decide) (off12 c 0 1) rfl) $$ [Ka Ko]
  · iframe Ka Ko
  iintro Ka
  iapply (send_sum xs ws κ c 0 1 1 8 (by decide) rfl (off4 c 1 1) rfl (dev_eq 0 k0_dev9 k0_dev9_lt (by decide) c) rfl rfl) $$ [HO Ka]
  · isplitr; · iexact HE
    iframe HO Ka
  iintro ⟨HO, Ka⟩
  iapply (await xs ws κ c 1 1 0 9 (by decide) (by decide) rfl rfl rfl rfl) $$ [HO Ha]
  · isplitr; · iexact HE
    iframe HO Ha
  iintro ⟨HO, Ha⟩
  iapply (runs_ret c)
  iapply Hk
  iframe HO Ka Ha

theorem run21 (v2 v4 : BitVec 32) (Q : PUnit → sProp 𝕄) :
    iprop(env xs ws κ c ∗ debt c 9 ∗ arrived xs ws c 1 1 0 ∗ sup xs ws c 1 1 0)
      ⊢ iprop((debt c 10 ∗ flying xs ws c 1 1 1 ∗ sup xs ws c 1 1 1 -∗ Q ⟨⟩) -∗ Runs c (args (k0_part21 (F := F)) c v2 v4) Q) := by
  iintro ⟨#HE, HO, Ha, Hs⟩ Hk
  rw [k0_part21_eq_skeleton]
  unfold args k0_part21_skel
  simp only [Prog.lift, Prog.bind_op, Prog.bind_ret, Prog.pure_eq_ret]
  iapply (add xs ws c 1 1 0 (by decide) (off13 c 0 1) rfl rfl rfl) $$ [Ha Hs]
  · iframe Ha Hs
  iintro ⟨Ha, Hs⟩
  iapply (send_sum xs ws κ c 1 1 1 9 (by decide) rfl (off6 c 1 1) rfl (dev_eq 1 k0_dev10 k0_dev10_lt (by decide) c) rfl rfl) $$ [HO Ha]
  · isplitr; · iexact HE
    iframe HO Ha
  iintro ⟨HO, Ha⟩
  iapply (runs_ret c)
  iapply Hk
  iframe HO Ha Hs

theorem run22 (v2 v6 : BitVec 32) (Q : PUnit → sProp 𝕄) :
    iprop(env xs ws κ c ∗ debt c 10 ∗ flying xs ws c 0 0 1 ∗ sup xs ws c 0 0 1)
      ⊢ iprop((debt c 10 ∗ ready xs ws c 0 0 2 ∗ sup xs ws c 0 0 2 -∗ Q ⟨⟩) -∗ Runs c (args (k0_part22 (F := F)) c v2 v6) Q) := by
  iintro ⟨#HE, HO, Ha, Hs⟩ Hk
  rw [k0_part22_eq_skeleton]
  unfold args k0_part22_skel
  simp only [Prog.lift, Prog.bind_op, Prog.bind_ret, Prog.pure_eq_ret]
  iapply (await xs ws κ c 0 0 1 10 (by decide) (by decide) rfl rfl rfl rfl) $$ [HO Ha]
  · isplitr; · iexact HE
    iframe HO Ha
  iintro ⟨HO, Ha⟩
  iapply (add xs ws c 0 0 1 (by decide) (off12 c 1 0) rfl rfl rfl) $$ [Ha Hs]
  · iframe Ha Hs
  iintro ⟨Ha, Hs⟩
  iapply (runs_ret c)
  iapply Hk
  iframe HO Ha Hs

theorem run23 (v2 v4 : BitVec 32) (Q : (Σ' (_ : BitVec 32) (_ : Vec F S512x1024 .bf16), FVec F S512x1024 .bf16) → sProp 𝕄) :
    iprop(env xs ws κ c ∗ debt c 10 ∗ ready xs ws c 0 0 2 ∗ flying xs ws c 1 0 1 ∗ sup xs ws c 1 0 1)
      ⊢ iprop((∀ w, debt c 11 ∗ flying xs ws c 0 0 2 ∗ arrived xs ws c 1 0 1 ∗ own xs ws c 1 0 (ck 1 c 2) ∗ sup xs ws c 1 0 2 -∗ Q ⟨w, part xs ws c (ck 1 c 2) 0 1, k0_pay24 (unsq (val xs ws 1 (ck 1 c 2) 0 1))⟩) -∗ Runs c (args (k0_part23 (F := F)) c v2 v4) Q) := by
  iintro ⟨#HE, HO, Ha, Ka, Ks⟩ Hk
  rw [k0_part23_eq_skeleton]
  unfold args k0_part23_skel
  simp only [Prog.lift, Prog.bind_op, Prog.bind_ret, Prog.pure_eq_ret]
  iapply (send_sum xs ws κ c 0 0 2 10 (by decide) rfl (off4 c 2 0) rfl (dev_eq 0 k0_dev11 k0_dev11_lt (by decide) c) rfl rfl) $$ [HO Ha]
  · isplitr; · iexact HE
    iframe HO Ha
  iintro ⟨HO, Ha⟩
  iapply (await xs ws κ c 1 0 1 11 (by decide) (by decide) rfl rfl rfl rfl) $$ [HO Ka]
  · isplitr; · iexact HE
    iframe HO Ka
  iintro ⟨HO, Ka⟩
  iapply (load_sums xs ws c 1 0 1 (by decide) (off13 c 1 0) rfl rfl) $$ [Ka Ks]
  · iframe Ka Ks
  iintro ⟨Ka, Ko, Ks⟩
  iapply (runs_ret c)
  iapply Hk $$ %_
  iframe HO Ha Ka Ko Ks

theorem run24 (v4 v6 v653 : BitVec 32) (Q : PUnit → sProp 𝕄) :
    iprop(env xs ws κ c ∗ debt c 11 ∗ arrived xs ws c 1 0 1 ∗ own xs ws c 1 0 (ck 1 c 2) ∗ flying xs ws c 0 1 1)
      ⊢ iprop((debt c 12 ∗ flying xs ws c 1 0 2 ∗ arrived xs ws c 0 1 1 -∗ Q ⟨⟩) -∗ Runs c (args (k0_part24 (F := F)) c v4 v6 v653 (part xs ws c (ck 1 c 2) 0 1) (k0_pay24 (unsq (val xs ws 1 (ck 1 c 2) 0 1)))) Q) := by
  iintro ⟨#HE, HO, Ka, Ko, Ha⟩ Hk
  rw [k0_part24_eq_skeleton]
  unfold args k0_part24_skel
  simp only [Prog.lift, Prog.bind_op, Prog.bind_ret, Prog.pure_eq_ret]
  iapply (store_sum xs ws c 1 0 1 (by decide) (off13 c 1 0) rfl) $$ [Ka Ko]
  · iframe Ka Ko
  iintro Ka
  iapply (send_sum xs ws κ c 1 0 2 11 (by decide) rfl (off6 c 2 0) rfl (dev_eq 1 k0_dev12 k0_dev12_lt (by decide) c) rfl rfl) $$ [HO Ka]
  · isplitr; · iexact HE
    iframe HO Ka
  iintro ⟨HO, Ka⟩
  iapply (await xs ws κ c 0 1 1 12 (by decide) (by decide) rfl rfl rfl rfl) $$ [HO Ha]
  · isplitr; · iexact HE
    iframe HO Ha
  iintro ⟨HO, Ha⟩
  iapply (runs_ret c)
  iapply Hk
  iframe HO Ka Ha

theorem run25 (v2 v6 : BitVec 32) (Q : PUnit → sProp 𝕄) :
    iprop(env xs ws κ c ∗ debt c 12 ∗ arrived xs ws c 0 1 1 ∗ sup xs ws c 0 1 1)
      ⊢ iprop((debt c 13 ∗ flying xs ws c 0 1 2 ∗ sup xs ws c 0 1 2 -∗ Q ⟨⟩) -∗ Runs c (args (k0_part25 (F := F)) c v2 v6) Q) := by
  iintro ⟨#HE, HO, Ha, Hs⟩ Hk
  rw [k0_part25_eq_skeleton]
  unfold args k0_part25_skel
  simp only [Prog.lift, Prog.bind_op, Prog.bind_ret, Prog.pure_eq_ret]
  iapply (add xs ws c 0 1 1 (by decide) (off12 c 1 1) rfl rfl rfl) $$ [Ha Hs]
  · iframe Ha Hs
  iintro ⟨Ha, Hs⟩
  iapply (send_sum xs ws κ c 0 1 2 12 (by decide) rfl (off4 c 2 1) rfl (dev_eq 0 k0_dev13 k0_dev13_lt (by decide) c) rfl rfl) $$ [HO Ha]
  · isplitr; · iexact HE
    iframe HO Ha
  iintro ⟨HO, Ha⟩
  iapply (runs_ret c)
  iapply Hk
  iframe HO Ha Hs

theorem run26 (v2 v4 : BitVec 32) (Q : PUnit → sProp 𝕄) :
    iprop(env xs ws κ c ∗ debt c 13 ∗ flying xs ws c 1 1 1 ∗ sup xs ws c 1 1 1)
      ⊢ iprop((debt c 13 ∗ ready xs ws c 1 1 2 ∗ sup xs ws c 1 1 2 -∗ Q ⟨⟩) -∗ Runs c (args (k0_part26 (F := F)) c v2 v4) Q) := by
  iintro ⟨#HE, HO, Ha, Hs⟩ Hk
  rw [k0_part26_eq_skeleton]
  unfold args k0_part26_skel
  simp only [Prog.lift, Prog.bind_op, Prog.bind_ret, Prog.pure_eq_ret]
  iapply (await xs ws κ c 1 1 1 13 (by decide) (by decide) rfl rfl rfl rfl) $$ [HO Ha]
  · isplitr; · iexact HE
    iframe HO Ha
  iintro ⟨HO, Ha⟩
  iapply (add xs ws c 1 1 1 (by decide) (off13 c 1 1) rfl rfl rfl) $$ [Ha Hs]
  · iframe Ha Hs
  iintro ⟨Ha, Hs⟩
  iapply (runs_ret c)
  iapply Hk
  iframe HO Ha Hs

theorem run27 (v2 v6 : BitVec 32) (Q : (Σ' (_ : BitVec 32) (_ : Vec F S512x1024 .bf16), FVec F S512x1024 .bf16) → sProp 𝕄) :
    iprop(env xs ws κ c ∗ debt c 13 ∗ ready xs ws c 1 1 2 ∗ flying xs ws c 0 0 2 ∗ sup xs ws c 0 0 2)
      ⊢ iprop((∀ w, debt c 14 ∗ flying xs ws c 1 1 2 ∗ arrived xs ws c 0 0 2 ∗ own xs ws c 0 0 (ck 0 c 3) ∗ sup xs ws c 0 0 3 -∗ Q ⟨w, part xs ws c (ck 0 c 3) 0 0, k0_pay28 (unsq (val xs ws 0 (ck 0 c 3) 0 2))⟩) -∗ Runs c (args (k0_part27 (F := F)) c v2 v6) Q) := by
  iintro ⟨#HE, HO, Ha, Ka, Ks⟩ Hk
  rw [k0_part27_eq_skeleton]
  unfold args k0_part27_skel
  simp only [Prog.lift, Prog.bind_op, Prog.bind_ret, Prog.pure_eq_ret]
  iapply (send_sum xs ws κ c 1 1 2 13 (by decide) rfl (off6 c 2 1) rfl (dev_eq 1 k0_dev14 k0_dev14_lt (by decide) c) rfl rfl) $$ [HO Ha]
  · isplitr; · iexact HE
    iframe HO Ha
  iintro ⟨HO, Ha⟩
  iapply (await xs ws κ c 0 0 2 14 (by decide) (by decide) rfl rfl rfl rfl) $$ [HO Ka]
  · isplitr; · iexact HE
    iframe HO Ka
  iintro ⟨HO, Ka⟩
  iapply (load_sums xs ws c 0 0 2 (by decide) (off12 c 2 0) rfl rfl) $$ [Ka Ks]
  · iframe Ka Ks
  iintro ⟨Ka, Ko, Ks⟩
  iapply (runs_ret c)
  iapply Hk $$ %_
  iframe HO Ha Ka Ko Ks

theorem run28 (v2 v4 v6 v761 : BitVec 32) (Q : (Σ' (_ : BitVec 32), BitVec 32) → sProp 𝕄) :
    iprop(env xs ws κ c ∗ debt c 14 ∗ arrived xs ws c 0 0 2 ∗ own xs ws c 0 0 (ck 0 c 3) ∗ flying xs ws c 1 0 2)
      ⊢ iprop((∀ w, debt c 15 ∗ flying xs ws c 0 0 3 ∗ held xs ws c 0 0 3 ∗ arrived xs ws c 1 0 2 -∗ Q ⟨w, 1#32⟩) -∗ Runs c (args (k0_part28 (F := F)) c v2 v4 v6 v761 (part xs ws c (ck 0 c 3) 0 0) (k0_pay28 (unsq (val xs ws 0 (ck 0 c 3) 0 2)))) Q) := by
  iintro ⟨#HE, HO, Ka, Ko, Ha⟩ Hk
  rw [k0_part28_eq_skeleton]
  unfold args k0_part28_skel
  simp only [Prog.lift, Prog.bind_op, Prog.bind_ret, Prog.pure_eq_ret]
  iapply (store_sum xs ws c 0 0 2 (by decide) (off12 c 2 0) rfl) $$ [Ka Ko]
  · iframe Ka Ko
  iintro Ka
  iapply (send_full xs ws κ c 0 0 3 14 (by decide) (by decide) rfl (off14 c 0 0) (dev_eq 0 k0_dev15 k0_dev15_lt (by decide) c) rfl rfl) $$ [HO Ka]
  · isplitr; · iexact HE
    iframe HO Ka
  iintro ⟨HO, Ka, Kh⟩
  iapply (await xs ws κ c 1 0 2 15 (by decide) (by decide) rfl rfl rfl rfl) $$ [HO Ha]
  · isplitr; · iexact HE
    iframe HO Ha
  iintro ⟨HO, Ha⟩
  iapply (runs_ret c)
  iapply Hk $$ %_
  iframe HO Ka Kh Ha

theorem run29 (v4 v791 v0 : BitVec 32) (Q : PUnit → sProp 𝕄) :
    iprop(env xs ws κ c ∗ debt c 15 ∗ arrived xs ws c 1 0 2 ∗ sup xs ws c 1 0 2 ∗ flying xs ws c 0 1 2)
      ⊢ iprop((debt c 16 ∗ flying xs ws c 1 0 3 ∗ held xs ws c 1 0 3 ∗ sup xs ws c 1 0 3 ∗ leaving xs ws c 0 1 2 -∗ Q ⟨⟩) -∗ Runs c (args (k0_part29 (F := F)) c v4 v791 v0) Q) := by
  iintro ⟨#HE, HO, Ha, Hs, Ka⟩ Hk
  rw [k0_part29_eq_skeleton]
  unfold args k0_part29_skel
  simp only [Prog.lift, Prog.bind_op, Prog.bind_ret, Prog.pure_eq_ret]
  iapply (add xs ws c 1 0 2 (by decide) (off13 c 2 0) rfl rfl rfl) $$ [Ha Hs]
  · iframe Ha Hs
  iintro ⟨Ha, Hs⟩
  iapply (send_full xs ws κ c 1 0 3 15 (by decide) (by decide) rfl (off15 c 0 0) (dev_eq 1 k0_dev16 k0_dev16_lt (by decide) c) rfl rfl) $$ [HO Ha]
  · isplitr; · iexact HE
    iframe HO Ha
  iintro ⟨HO, Ha, Hh⟩
  iapply (wait_left xs ws κ c 0 1 2 16 (by decide) (by decide) rfl rfl) $$ [HO Ka]
  · isplitr; · iexact HE
    iframe HO Ka
  iintro ⟨HO, Ka⟩
  iapply (runs_ret c)
  iapply Hk
  iframe HO Ha Hh Hs Ka

theorem run30 (v2 v6 : BitVec 32) (Q : PUnit → sProp 𝕄) :
    iprop(env xs ws κ c ∗ debt c 16 ∗ leaving xs ws c 0 1 2 ∗ sup xs ws c 0 1 2)
      ⊢ iprop((debt c 17 ∗ flying xs ws c 0 1 3 ∗ held xs ws c 0 1 3 ∗ sup xs ws c 0 1 3 -∗ Q ⟨⟩) -∗ Runs c (args (k0_part30 (F := F)) c v2 v6) Q) := by
  iintro ⟨#HE, HO, Ha, Hs⟩ Hk
  rw [k0_part30_eq_skeleton]
  unfold args k0_part30_skel
  simp only [Prog.lift, Prog.bind_op, Prog.bind_ret, Prog.pure_eq_ret]
  iapply (wait_sum xs ws κ c 0 1 2 16 (by decide) (by decide) rfl rfl) $$ [HO Ha]
  · isplitr; · iexact HE
    iframe HO Ha
  iintro ⟨HO, Ha⟩
  iapply (add xs ws c 0 1 2 (by decide) (off12 c 2 1) rfl rfl rfl) $$ [Ha Hs]
  · iframe Ha Hs
  iintro ⟨Ha, Hs⟩
  iapply (send_full xs ws κ c 0 1 3 16 (by decide) (by decide) rfl (off14 c 0 1) (dev_eq 0 k0_dev17 k0_dev17_lt (by decide) c) rfl rfl) $$ [HO Ha]
  · isplitr; · iexact HE
    iframe HO Ha
  iintro ⟨HO, Ha, Hh⟩
  iapply (runs_ret c)
  iapply Hk
  iframe HO Ha Hh Hs

theorem run31 (v2 v4 : BitVec 32) (Q : PUnit → sProp 𝕄) :
    iprop(env xs ws κ c ∗ debt c 17 ∗ flying xs ws c 1 1 2 ∗ sup xs ws c 1 1 2)
      ⊢ iprop((debt c 17 ∗ ready xs ws c 1 1 3 ∗ sup xs ws c 1 1 3 -∗ Q ⟨⟩) -∗ Runs c (args (k0_part31 (F := F)) c v2 v4) Q) := by
  iintro ⟨#HE, HO, Ha, Hs⟩ Hk
  rw [k0_part31_eq_skeleton]
  unfold args k0_part31_skel
  simp only [Prog.lift, Prog.bind_op, Prog.bind_ret, Prog.pure_eq_ret]
  iapply (await xs ws κ c 1 1 2 17 (by decide) (by decide) rfl rfl rfl rfl) $$ [HO Ha]
  · isplitr; · iexact HE
    iframe HO Ha
  iintro ⟨HO, Ha⟩
  iapply (add xs ws c 1 1 2 (by decide) (off13 c 2 1) rfl rfl rfl) $$ [Ha Hs]
  · iframe Ha Hs
  iintro ⟨Ha, Hs⟩
  iapply (runs_ret c)
  iapply Hk
  iframe HO Ha Hs

end Cert.KernelIdeal.Ring

end
-- ==== Proof.First.lean ====
/- The beginning of the kernel: the barrier, the loads of `x`, the products, and the first transfer of each stream. -/
module

public import proofs.«01_k».proof.Proof.Sums

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S4096x1024.Idx → Elt F .f32) (ws : Dev nD → S1024x2048.Idx → Elt F .f32)
variable (κ : GSem nD τ sig → ℕ) (c : Dev nD)

/-- A chunk of `x` in the working type, in place `s`; -/
abbrev xhas (s : Fin 2) (q : Fin 4) : sProp 𝕄 := owns (c : Thread nD τ) (xhbox s) fullShare (xh xs c q)
/-- the weights of direction `d` in it; -/
abbrev whas (d : Fin 2) : sProp 𝕄 := owns (c : Thread nD τ) (wcol d) fullShare (wh ws c d)
/-- and all weights as they were given. -/
abbrev wraw : sProp 𝕄 := owns (c : Thread nD τ) wM fullShare (ws c)

/-- The first piece of a stream is the device's own. -/
theorem ready_start (d j : Fin 2) :
    iprop(own xs ws c d j c ∗ toks (F := F) c d j 6) ⊢ ready xs ws c d j 0 := by
  unfold own ready
  iintro ⟨Hp, Ht⟩
  isplitl [Hp]; · iexact Hp
  isplitl [Ht]; · iexact Ht
  isplitl []
  · iapply (show (emp : sProp 𝕄) ⊢ dones xs ws c d j 0 from .rfl); iempintro
  · iapply (show (emp : sProp 𝕄) ⊢ before (F := F) d j 0 c from .rfl); iempintro

section Compute

variable {α : Type}

/-- A store over a load whose value is not used. -/
theorem put {sp : CoreSpace} {sh : Shape} {e : EltTy} (M : Memref sig .tc sp sh e)
    {off off' size : Fin sh.rank → ℕ} (hoff : off = off') {p p₁} (p') (hs)
    (w : (Rect.unit off size p₁).shape.Idx → Elt F e) {hl hx hm}
    {k : PUnit → Prog (TpuEff nD τ sig (Elt F) Λ₀ .tc) α} {Q : α → sProp 𝕄} :
    Any c (M.slice (Rect.unit off' size p') hs)
      ⊢ iprop((owns (c : Thread nD τ) (M.slice (Rect.unit off' size p') hs) fullShare w -∗ Runs c (k ⟨⟩) Q)
        -∗ Runs c (.op (.load M (Rect.unit off size p).toLoadRect hl) fun _ =>
            .op (.store M (Rect.unit off size p₁) w Finset.univ hx hm) k) Q) := by
  iintro H Hk
  iapply (load_any c M hoff p p' hs) $$ H
  iintro %X H
  iapply (store_any c M hoff p₁ p' hs w) $$ H
  iintro H
  iapply Hk $$ H

/-- The weights of one direction are brought to the working type. -/
theorem put_weights (d : Fin 2) {off off₁ : Fin 2 → ℕ} (hoff : off = colOff d) (hoff₁ : off₁ = colOff d) {p p₁ p₂ h1 h2 h3 h4}
    {g : Vec F S1024x1024 .f32 → FVec F S1024x1024 .bf16} (hg : g = k0_pay1)
    {k : PUnit → Prog (TpuEff nD τ sig (Elt F) Λ₀ .tc) α} {Q : α → sProp 𝕄} :
    iprop(wraw ws c ∗ Any c (wcol d))
      ⊢ iprop((wraw ws c ∗ whas ws c d -∗ Runs c (k ⟨⟩) Q)
        -∗ Runs c (.op (.load wM (Rect.unit (s := S1024x2048) off S1024x1024.size p).toLoadRect h1) fun v =>
            .op (.load whM (Rect.unit (s := S1024x2048) off₁ S1024x1024.size p₁).toLoadRect h2) fun _ =>
            .op (.store whM (Rect.unit (s := S1024x2048) off₁ S1024x1024.size p₂) (g v) Finset.univ h3 h4) k) Q) := by
  subst hoff; subst hg
  iintro ⟨Hw, Ha⟩ Hk
  iapply (load_whole c wM _ fullShare (ws c)) $$ Hw
  iintro Hw
  iapply (put c whM hoff₁ (colOff_inb d) (fun _ => rfl) _) $$ Ha
  iintro Ha
  iapply Hk
  isplitl [Hw]; · iexact Hw
  iexact Ha

/-- A chunk of `x` is brought to the working type; the place it was loaded to is free. -/
theorem put_chunk (s : Fin 2) (r : ℕ) {off off₁ : Fin 3 → ℕ} (hoff : off = pairOff s) (hoff₁ : off₁ = pairOff s) {p p₁ p₂ h1 h2 h3 h4}
    {g : Vec F S1x1024x1024 .f32 → FVec F S1x1024x1024 .bf16} (hg : g = k0_pay2)
    {k : PUnit → Prog (TpuEff nD τ sig (Elt F) Λ₀ .tc) α} {Q : α → sProp 𝕄} :
    iprop(xloaded xs c s r ∗ Any c (xhbox s))
      ⊢ iprop((xready c s (r + 1) ∗ xhas xs c s (xq c s r) -∗ Runs c (k ⟨⟩) Q)
        -∗ Runs c (.op (.load xbufM (Rect.unit (s := S2x1024x1024) off S1x1024x1024.size p).toLoadRect h1) fun v =>
            .op (.load xhM (Rect.unit (s := S2x1024x1024) off₁ S1x1024x1024.size p₁).toLoadRect h2) fun _ =>
            .op (.store xhM (Rect.unit (s := S2x1024x1024) off₁ S1x1024x1024.size p₂) (g v) Finset.univ h3 h4) k) Q) := by
  subst hg
  iintro ⟨Hx, Ha⟩ Hk
  iapply (load_read xs c s r hoff) $$ Hx
  iintro Hx
  iapply (put c xhM hoff₁ (pairOff_inb s) (fun _ => rfl) _) $$ Ha
  iintro Ha
  iapply Hk
  isplitl [Hx]; · iexact Hx
  iexact Ha

/-- The two factors of a product are read, -/
theorem load_pair (s d : Fin 2) (q : Fin 4) {off : Fin 3 → ℕ} {off₁ : Fin 2 → ℕ} (hoff : off = pairOff s) (hoff₁ : off₁ = colOff d) {p p₁ h1 h2}
    {k : Vec F S1x1024x1024 .bf16 → Vec F S1024x1024 .bf16 → Prog (TpuEff nD τ sig (Elt F) Λ₀ .tc) α} {Q : α → sProp 𝕄} :
    iprop(xhas xs c s q ∗ whas ws c d)
      ⊢ iprop((xhas xs c s q ∗ whas ws c d -∗ Runs c (k (xh xs c q) (wh ws c d)) Q)
        -∗ Runs c (.op (.load xhM (Rect.unit (s := S2x1024x1024) off S1x1024x1024.size p).toLoadRect h1) fun v =>
            .op (.load whM (Rect.unit (s := S1024x2048) off₁ S1024x1024.size p₁).toLoadRect h2) fun v' => k v v') Q) := by
  iintro ⟨Hx, Hw⟩ Hk
  iapply (load_owns c xhM hoff p (pairOff_inb s) (fun _ => rfl) fullShare (xh xs c q)) $$ Hx
  iintro Hx
  iapply (load_owns c whM hoff₁ p₁ (colOff_inb d) (fun _ => rfl) fullShare (wh ws c d)) $$ Hw
  iintro Hw
  iapply Hk
  isplitl [Hx]; · iexact Hx
  iexact Hw

/-- of the first of them only half. -/
theorem load_pair_half (s d j : Fin 2) (q : Fin 4) {off : Fin 3 → ℕ} {off₁ : Fin 2 → ℕ} (hoff : ∀ a, off a = pairOff s a + rowOff3 j a) (hoff₁ : off₁ = colOff d) {p p₁ h1 h2}
    {k : Vec F S1x512x1024 .bf16 → Vec F S1024x1024 .bf16 → Prog (TpuEff nD τ sig (Elt F) Λ₀ .tc) α} {Q : α → sProp 𝕄} :
    iprop(xhas xs c s q ∗ whas ws c d)
      ⊢ iprop((xhas xs c s q ∗ whas ws c d -∗ Runs c (k (rows3 j (xh xs c q)) (wh ws c d)) Q)
        -∗ Runs c (.op (.load xhM (Rect.unit (s := S2x1024x1024) off S1x512x1024.size p).toLoadRect h1) fun v =>
            .op (.load whM (Rect.unit (s := S1024x2048) off₁ S1024x1024.size p₁).toLoadRect h2) fun v' => k v v') Q) := by
  iintro ⟨Hx, Hw⟩ Hk
  iapply (load_sub c xhM (Rect.unit (s := S2x1024x1024) (pairOff s) S1x1024x1024.size (pairOff_inb s)) _ (fun _ => rfl)
      (fun i => (Rect.unit (s := S1x1024x1024) (rowOff3 j) S1x512x1024.size (rowOff3_inb j)).emb i)
      (fun i => by
        funext a; apply Fin.ext
        show off a + 1 * (i a).val = pairOff s a + 1 * (rowOff3 j a + 1 * (i a).val)
        rw [hoff a]; omega) fullShare (xh xs c q)) $$ Hx
  iintro Hx
  iapply (load_owns c whM hoff₁ p₁ (colOff_inb d) (fun _ => rfl) fullShare (wh ws c d)) $$ Hw
  iintro Hw
  iapply Hk
  isplitl [Hx]; · iexact Hx
  iexact Hw

/-- A product of all rows of a chunk is stored: both pieces of it. -/
theorem put_box (d : Fin 2) (q : Fin 4) (hq : ¬ (q = c ∧ d = 0)) {off : Fin 2 → ℕ} (hoff : off = boxOff q d) {p p' h1 h2 h3}
    {w : Vec F S1024x1024 .bf16} (hw : w = prod xs ws c q d)
    {k : PUnit → Prog (TpuEff nD τ sig (Elt F) Λ₀ .tc) α} {Q : α → sProp 𝕄} :
    Any c (box resM q d)
      ⊢ iprop((own xs ws c d 0 q ∗ own xs ws c d 1 q -∗ Runs c (k ⟨⟩) Q)
        -∗ Runs c (.op (.load resM (Rect.unit (s := S4096x2048) off S1024x1024.size p).toLoadRect h1) fun _ =>
            .op (.store resM (Rect.unit (s := S4096x2048) off S1024x1024.size p') w Finset.univ h2 h3) k) Q) := by
  subst hw
  unfold own
  rw [part_of_ne xs ws c q 0 d hq, part_of_ne xs ws c q 1 d hq]
  iintro Ha Hk
  iapply (put c resM hoff (boxOff_inb q d) (fun _ => rfl) (prod xs ws c q d)) $$ Ha
  iintro Ha
  iapply Hk
  iapply (box_split resM c q d fullShare (prod xs ws c q d)) $$ Ha

/-- A product of half the rows of the device's own chunk is stored: the stream may start. -/
theorem put_piece (j : Fin 2) {off : Fin 2 → ℕ} (hoff : off = pieceOff c j 0) {p p' h1 h2 h3}
    {w : Vec F S512x1024 .bf16} (hw : w = k0_pay3 (rows3 j (xh xs c c)) (wh ws c 0))
    {k : PUnit → Prog (TpuEff nD τ sig (Elt F) Λ₀ .tc) α} {Q : α → sProp 𝕄} :
    iprop(Any c (piece resM c j 0) ∗ toks (F := F) c 0 j 6)
      ⊢ iprop((ready xs ws c 0 j 0 -∗ Runs c (k ⟨⟩) Q)
        -∗ Runs c (.op (.load resM (Rect.unit (s := S4096x2048) off S512x1024.size p).toLoadRect h1) fun _ =>
            .op (.store resM (Rect.unit (s := S4096x2048) off S512x1024.size p') w Finset.univ h2 h3) k) Q) := by
  subst hw
  iintro ⟨Ha, Ht⟩ Hk
  iapply (put c resM hoff (pieceOff_inb c j 0) (fun _ => rfl) (k0_pay3 (rows3 j (xh xs c c)) (wh ws c 0))) $$ Ha
  iintro Ha
  iapply Hk
  iapply (ready_start xs ws c 0 j)
  unfold own
  rw [part_own]
  iframe Ha Ht

end Compute

/-! ## The parts of the kernel in turn -/

/-- Only words are computed. -/
theorem run_words {β : Type} (p : Prog (TpuEff nD τ sig (Elt F) Λ₀ .tc) β) (h : ∃ b, p = .ret b) (Q : β → sProp 𝕄) :
    iprop(∀ b, Q b) ⊢ Runs c p Q := by
  obtain ⟨b, rfl⟩ := h
  iintro H
  iapply (runs_ret c)
  iapply H

/-- The barrier's semaphore, as the kernel holds it. -/
abbrev barSems : Sems sig S_ := SemArray.scalar (sig.barrier 0 rfl)

/-- Both neighbours are told that this device may be sent to. -/
theorem run1 (Q : (Σ' (_ : Dev nD) (_ : BitVec 32) (_ : BitVec 32) (_ : BitVec 32) (_ : Sems sig S_) (_ : BitVec 32), BitVec 32) → sProp 𝕄) :
    iprop(records xs ws κ ∗ debt c 0 ∗ (dutyTok ER (cell (nx 1 c) .bar) 0 0 ∗ dutyTok ER (cell (nx 0 c) .bar) 0 1)
        ∗ ((bigSep Finset.univ fun p : Fin 3 × Fin 2 => Any (F := F) c (slot 0 p.1 p.2))
          ∗ bigSep Finset.univ fun p : Fin 3 × Fin 2 => Any (F := F) c (slot 1 p.1 p.2))
        ∗ ((bigSep Finset.univ fun p : Fin 6 × Fin 2 => reached ER (cell c (.rcv 0 p.1 p.2)) 0)
          ∗ bigSep Finset.univ fun p : Fin 6 × Fin 2 => reached ER (cell c (.rcv 1 p.1 p.2)) 0))
      ⊢ iprop((∀ v2 v4 v6 w, debt c 2 -∗ Q ⟨c, v2, v4, v6, barSems, w, 16#32⟩) -∗ Runs c (args (k0_part1 (F := F))) Q) := by
  iintro ⟨#HR, HO, ⟨Ht0, Ht1⟩, ⟨Hs0, Hs1⟩, ⟨Hr0, Hr1⟩⟩ Hk
  rw [k0_part1_eq_skeleton]
  unfold args k0_part1_skel
  simp only [semSignalWord, Prog.lift, Prog.bind_op, Prog.bind_ret, Prog.pure_eq_ret, wp_deviceId]
  iapply (signal_bar xs ws κ c 0 0 (nx 1 c) _ (dev_eq 1 k0_dev1 k0_dev1_lt (by decide) c) (by revert c; decide) rfl) $$ [HO Ht0 Hs0 Hr0]
  · isplitr; · iexact HR
    iframe HO Ht0 Hs0 Hr0
  iintro HO
  iapply (signal_bar xs ws κ c 1 1 (nx 0 c) _ (dev_eq 0 k0_dev2 k0_dev2_lt (by decide) c) (by revert c; decide) rfl) $$ [HO Ht1 Hs1 Hr1]
  · isplitr; · iexact HR
    iframe HO Ht1 Hs1 Hr1
  iintro HO
  iapply (runs_ret c)
  iapply Hk $$ %_ %_ %_ %_
  iexact HO

theorem run8 (v2 v207 v0 : BitVec 32) (Q : BitVec 32 → sProp 𝕄) :
    iprop(records xs ws κ ∗ debt c 2 ∗ xck xs c (xq c 0 0) ∗ xready (F := F) c 0 0 ∗ wraw ws c ∗ Any (F := F) c (wcol 0))
      ⊢ iprop((∀ w, debt c 2 ∗ xck xs c (xq c 0 0) ∗ xloaded xs c 0 0 ∗ wraw ws c ∗ whas ws c 0 -∗ Q w) -∗ Runs c (args (k0_part8 (F := F)) c v2 v207 v0) Q) := by
  iintro ⟨#HE, HO, Hx, Hr, Hw, Hv⟩ Hk
  rw [k0_part8_eq_skeleton]
  unfold args k0_part8_skel
  simp only [Prog.lift, Prog.bind_op, Prog.bind_ret, Prog.pure_eq_ret]
  iapply (load_start xs ws κ c 0 0 (by decide) (off1 c) rfl rfl) $$ [Hx Hr]
  · isplitr; · iexact HE
    iframe Hx Hr
  iintro Hr
  iapply (put_weights ws c 0 rfl rfl rfl) $$ [Hw Hv]
  · iframe Hw Hv
  iintro ⟨Hw, Hv⟩
  iapply (load_wait xs ws κ c 0 0 2 (by decide) (by decide) rfl rfl) $$ [HO Hr]
  · isplitr; · iexact HE
    iframe HO Hr
  iintro ⟨HO, Hx, Hr⟩
  iapply (runs_ret c)
  iapply Hk $$ %_
  iframe HO Hx Hr Hw Hv

theorem run9 (v2 v237 : BitVec 32) (Q : BitVec 32 → sProp 𝕄) :
    iprop(records xs ws κ ∗ debt c 2 ∗ xck xs c (xq c 1 0) ∗ xready (F := F) c 1 0 ∗ xloaded xs c 0 0 ∗ Any (F := F) c (xhbox 0) ∗ whas ws c 0 ∗ Any (F := F) c (piece resM c 0 0) ∗ pos (F := F) c .bar 0 ∗ cred (tallyAt (cell c .bar) () 2))
      ⊢ iprop((∀ w, debt c 2 ∗ xflying (F := F) c 1 0 ∗ xready (F := F) c 0 1 ∗ xhas xs c 0 c ∗ whas ws c 0 ∗ own xs ws c 0 0 c ∗ pos (F := F) c .bar 1 ∗ barPay (F := F) c 0 ∗ barPay (F := F) c 1 -∗ Q w) -∗ Runs c (args (k0_part9 (F := F)) c v2 barSems v237) Q) := by
  iintro ⟨#HE, HO, Hx, Hr, Hs, Hh, Hv, Hp, Hb, Hc⟩ Hk
  rw [k0_part9_eq_skeleton]
  unfold args k0_part9_skel
  simp only [semWaitWord, Prog.lift, Prog.bind_op, Prog.bind_ret, Prog.pure_eq_ret]
  iapply (load_start xs ws κ c 1 0 (by decide) (off2 c) rfl rfl) $$ [Hx Hr]
  · isplitr; · iexact HE
    iframe Hx Hr
  iintro Hr
  iapply (put_chunk xs c 0 0 rfl rfl rfl) $$ [Hs Hh]
  · iframe Hs Hh
  iintro ⟨Hs, Hh⟩
  iapply (load_pair_half xs ws c 0 0 0 c (by decide) rfl) $$ [Hh Hv]
  · iframe Hh Hv
  iintro ⟨Hh, Hv⟩
  iapply (put c resM (off3 c 0) (pieceOff_inb c 0 0) (fun _ => rfl) (k0_pay3 (rows3 0 (xh xs c c)) (wh ws c 0))) $$ Hp
  iintro Hp
  iapply (wait_bar xs ws κ c 2 (by decide)) $$ [HO Hb Hc]
  · isplitr; · iexact HE
    iframe HO Hb Hc
  iintro ⟨HO, Hb, Hc, Hd⟩
  iapply (runs_ret c)
  iapply Hk $$ %_
  unfold own
  rw [part_own]
  iframe HO Hr Hs Hh Hv Hp Hb Hc Hd

theorem run10 (v2 v6 v0 : BitVec 32) (Q : PUnit → sProp 𝕄) :
    iprop(env xs ws κ c ∗ debt c 2 ∗ ready xs ws c 0 0 0 ∗ xhas xs c 0 c ∗ whas ws c 0 ∗ Any (F := F) c (piece resM c 1 0) ∗ toks (F := F) c 0 1 6)
      ⊢ iprop((debt c 4 ∗ flying xs ws c 0 0 0 ∗ flying xs ws c 0 1 0 ∗ xhas xs c 0 c ∗ whas ws c 0 -∗ Q ⟨⟩) -∗ Runs c (args (k0_part10 (F := F)) c v2 v6 v0) Q) := by
  iintro ⟨#HE, HO, Ha, Hh, Hv, Ka, Kt⟩ Hk
  rw [k0_part10_eq_skeleton]
  unfold args k0_part10_skel
  simp only [Prog.lift, Prog.bind_op, Prog.bind_ret, Prog.pure_eq_ret]
  iapply (send_sum xs ws κ c 0 0 0 2 (by decide) rfl (off4 c 0 0) rfl (dev_eq 0 k0_dev3 k0_dev3_lt (by decide) c) rfl rfl) $$ [HO Ha]
  · isplitr; · iexact HE
    iframe HO Ha
  iintro ⟨HO, Ha⟩
  iapply (load_pair_half xs ws c 0 0 1 c (by decide) rfl) $$ [Hh Hv]
  · iframe Hh Hv
  iintro ⟨Hh, Hv⟩
  iapply (put_piece xs ws c 1 (off3 c 1) rfl) $$ [Ka Kt]
  · iframe Ka Kt
  iintro Ka
  iapply (send_sum xs ws κ c 0 1 0 3 (by decide) rfl (off4 c 0 1) rfl (dev_eq 0 k0_dev4 k0_dev4_lt (by decide) c) rfl rfl) $$ [HO Ka]
  · isplitr; · iexact HE
    iframe HO Ka
  iintro ⟨HO, Ka⟩
  iapply (runs_ret c)
  iapply Hk
  iframe HO Ha Ka Hh Hv

theorem run11 (v2 v4 : BitVec 32) (Q : BitVec 32 → sProp 𝕄) :
    iprop(env xs ws κ c ∗ debt c 4 ∗ wraw ws c ∗ Any (F := F) c (wcol 1) ∗ xhas xs c 0 c ∗ Any (F := F) c (box resM c 1) ∗ toks (F := F) c 1 0 6 ∗ toks (F := F) c 1 1 6)
      ⊢ iprop((∀ w, debt c 5 ∗ wraw ws c ∗ whas ws c 1 ∗ xhas xs c 0 c ∗ flying xs ws c 1 0 0 ∗ ready xs ws c 1 1 0 -∗ Q w) -∗ Runs c (args (k0_part11 (F := F)) c v2 v4) Q) := by
  iintro ⟨#HE, HO, Hw, Hv, Hh, Hp, Hm, Hn⟩ Hk
  rw [k0_part11_eq_skeleton]
  unfold args k0_part11_skel
  simp only [Prog.lift, Prog.bind_op, Prog.bind_ret, Prog.pure_eq_ret]
  iapply (put_weights ws c 1 rfl rfl rfl) $$ [Hw Hv]
  · iframe Hw Hv
  iintro ⟨Hw, Hv⟩
  iapply (load_pair xs ws c 0 1 c rfl rfl) $$ [Hh Hv]
  · iframe Hh Hv
  iintro ⟨Hh, Hv⟩
  iapply (put_box xs ws c 1 c (by revert c; decide) (off5 c) rfl) $$ Hp
  iintro Hp
  icases Hp with ⟨Ma, Na⟩
  ihave Ma := (ready_start xs ws c 1 0) $$ [Ma Hm]
  · iframe Ma Hm
  ihave Na := (ready_start xs ws c 1 1) $$ [Na Hn]
  · iframe Na Hn
  iapply (send_sum xs ws κ c 1 0 0 4 (by decide) rfl (off6 c 0 0) rfl (dev_eq 1 k0_dev5 k0_dev5_lt (by decide) c) rfl rfl) $$ [HO Ma]
  · isplitr; · iexact HE
    iframe HO Ma
  iintro ⟨HO, Ma⟩
  iapply (runs_ret c)
  iapply Hk $$ %_
  iframe HO Hw Hv Hh Ma Na

theorem run12 (v2 v321 : BitVec 32) (Q : BitVec 32 → sProp 𝕄) :
    iprop(env xs ws κ c ∗ debt c 5 ∗ ready xs ws c 1 1 0 ∗ xflying (F := F) c 1 0 ∗ xck xs c (xq c 0 1) ∗ xready (F := F) c 0 1 ∗ Any (F := F) c (xhbox 1))
      ⊢ iprop((∀ w, debt c 6 ∗ flying xs ws c 1 1 0 ∗ xck xs c (xq c 1 0) ∗ xready (F := F) c 1 1 ∗ xflying (F := F) c 0 1 ∗ xhas xs c 1 (xq c 1 0) -∗ Q w) -∗ Runs c (args (k0_part12 (F := F)) c v2 v321) Q) := by
  iintro ⟨#HE, HO, Na, Hr, Hy, Hs, Hh⟩ Hk
  rw [k0_part12_eq_skeleton]
  unfold args k0_part12_skel
  simp only [Prog.lift, Prog.bind_op, Prog.bind_ret, Prog.pure_eq_ret]
  iapply (send_sum xs ws κ c 1 1 0 5 (by decide) rfl (off6 c 0 1) rfl (dev_eq 1 k0_dev6 k0_dev6_lt (by decide) c) rfl rfl) $$ [HO Na]
  · isplitr; · iexact HE
    iframe HO Na
  iintro ⟨HO, Na⟩
  iapply (load_wait xs ws κ c 1 0 6 (by decide) (by decide) rfl rfl) $$ [HO Hr]
  · isplitr; · iapply (env_records xs ws κ c); iexact HE
    iframe HO Hr
  iintro ⟨HO, Hx, Hr⟩
  iapply (load_start xs ws κ c 0 1 (by decide) (off7 c 0) rfl rfl) $$ [Hy Hs]
  · isplitr; · iapply (env_records xs ws κ c); iexact HE
    iframe Hy Hs
  iintro Hs
  iapply (put_chunk xs c 1 0 rfl rfl rfl) $$ [Hr Hh]
  · iframe Hr Hh
  iintro ⟨Hr, Hh⟩
  iapply (runs_ret c)
  iapply Hk $$ %_
  iframe HO Na Hx Hr Hs Hh

theorem run13 (v2 v344 : BitVec 32) (Q : (Σ' (_ : BitVec 32), BitVec 32) → sProp 𝕄) :
    iprop(env xs ws κ c ∗ debt c 6 ∗ xhas xs c 1 (c + 3) ∗ whas ws c 0 ∗ whas ws c 1 ∗ Any (F := F) c (box resM (c + 3) 0) ∗ Any (F := F) c (box resM (c + 3) 1) ∗ xflying (F := F) c 0 1)
      ⊢ iprop((∀ w, debt c 6 ∗ xhas xs c 1 (c + 3) ∗ whas ws c 0 ∗ whas ws c 1 ∗ (own xs ws c 0 0 (c + 3) ∗ own xs ws c 0 1 (c + 3)) ∗ (own xs ws c 1 0 (c + 3) ∗ own xs ws c 1 1 (c + 3)) ∗ xck xs c (xq c 0 1) ∗ xloaded xs c 0 1 -∗ Q ⟨w, 4#32⟩) -∗ Runs c (args (k0_part13 (F := F)) c v2 v344) Q) := by
  iintro ⟨#HE, HO, Hh, Hv, Hw, Hp, Hq, Hr⟩ Hk
  rw [k0_part13_eq_skeleton]
  unfold args k0_part13_skel
  simp only [Prog.lift, Prog.bind_op, Prog.bind_ret, Prog.pure_eq_ret]
  iapply (load_pair xs ws c 1 0 (c + 3) rfl rfl) $$ [Hh Hv]
  · iframe Hh Hv
  iintro ⟨Hh, Hv⟩
  iapply (put_box xs ws c 0 (c + 3) (by revert c; decide) (off8 c) rfl) $$ Hp
  iintro Hp
  iapply (load_pair xs ws c 1 1 (c + 3) rfl rfl) $$ [Hh Hw]
  · iframe Hh Hw
  iintro ⟨Hh, Hw⟩
  iapply (put_box xs ws c 1 (c + 3) (by revert c; decide) (off9 c) rfl) $$ Hq
  iintro Hq
  iapply (load_wait xs ws κ c 0 1 6 (by decide) (by decide) rfl rfl) $$ [HO Hr]
  · isplitr; · iapply (env_records xs ws κ c); iexact HE
    iframe HO Hr
  iintro ⟨HO, Hx, Hr⟩
  iapply (runs_ret c)
  iapply Hk $$ %_
  iframe HO Hh Hv Hw Hp Hq Hx Hr

theorem run14 (v2 v381 v0 : BitVec 32) (Q : (Σ' (_ : BitVec 32) (_ : FVec F S1024x1024 .bf16), Vec F S1024x1024 .bf16) → sProp 𝕄) :
    iprop(env xs ws κ c ∗ debt c 6 ∗ xck xs c (xq c 1 1) ∗ xready (F := F) c 1 1 ∗ xloaded xs c 0 1 ∗ Any (F := F) c (xhbox 0) ∗ whas ws c 0 ∗ whas ws c 1 ∗ Any (F := F) c (box resM (xq c 0 1) 0))
      ⊢ iprop((∀ w, debt c 6 ∗ xflying (F := F) c 1 1 ∗ xready (F := F) c 0 2 ∗ xhas xs c 0 (xq c 0 1) ∗ whas ws c 0 ∗ whas ws c 1 ∗ (own xs ws c 0 0 (xq c 0 1) ∗ own xs ws c 0 1 (xq c 0 1)) -∗ Q ⟨w, k0_pay12 (xh xs c (xq c 0 1)), wh ws c 1⟩) -∗ Runs c (args (k0_part14 (F := F)) c v2 v381 v0) Q) := by
  iintro ⟨#HE, HO, Hx, Hr, Hs, Hh, Hv, Hw, Hp⟩ Hk
  rw [k0_part14_eq_skeleton]
  unfold args k0_part14_skel
  simp only [Prog.lift, Prog.bind_op, Prog.bind_ret, Prog.pure_eq_ret]
  iapply (load_start xs ws κ c 1 1 (by decide) (off7 c 1) rfl rfl) $$ [Hx Hr]
  · isplitr; · iapply (env_records xs ws κ c); iexact HE
    iframe Hx Hr
  iintro Hr
  iapply (put_chunk xs c 0 1 rfl rfl rfl) $$ [Hs Hh]
  · iframe Hs Hh
  iintro ⟨Hs, Hh⟩
  iapply (load_pair xs ws c 0 0 (xq c 0 1) rfl rfl) $$ [Hh Hv]
  · iframe Hh Hv
  iintro ⟨Hh, Hv⟩
  iapply (put_box xs ws c 0 (xq c 0 1) (by revert c; decide) (off10 c 0) rfl) $$ Hp
  iintro Hp
  iapply (load_pair xs ws c 0 1 (xq c 0 1) rfl rfl) $$ [Hh Hw]
  · iframe Hh Hw
  iintro ⟨Hh, Hw⟩
  iapply (runs_ret c)
  iapply Hk $$ %_
  iframe HO Hr Hs Hh Hv Hw Hp

theorem run15 (v2 v389 : BitVec 32) (Q : (Σ' (_ : BitVec 32), FVec F S1024x1024 .bf16) → sProp 𝕄) :
    iprop(env xs ws κ c ∗ debt c 6 ∗ Any (F := F) c (box resM (xq c 0 1) 1) ∗ xflying (F := F) c 1 1 ∗ Any (F := F) c (xhbox 1) ∗ whas ws c 0)
      ⊢ iprop((∀ w, debt c 6 ∗ (own xs ws c 1 0 (xq c 0 1) ∗ own xs ws c 1 1 (xq c 0 1)) ∗ xck xs c (xq c 1 1) ∗ xready (F := F) c 1 2 ∗ xhas xs c 1 (xq c 1 1) ∗ whas ws c 0 -∗ Q ⟨w, k0_pay15 (xh xs c (xq c 1 1)) (wh ws c 0)⟩) -∗ Runs c (args (k0_part15 (F := F)) c v2 v389 (k0_pay12 (xh xs c (xq c 0 1))) (wh ws c 1)) Q) := by
  iintro ⟨#HE, HO, Hp, Hr, Hh, Hv⟩ Hk
  rw [k0_part15_eq_skeleton]
  unfold args k0_part15_skel
  simp only [Prog.lift, Prog.bind_op, Prog.bind_ret, Prog.pure_eq_ret]
  iapply (put_box xs ws c 1 (xq c 0 1) (by revert c; decide) (off11 c 0) rfl) $$ Hp
  iintro Hp
  iapply (load_wait xs ws κ c 1 1 6 (by decide) (by decide) rfl rfl) $$ [HO Hr]
  · isplitr; · iapply (env_records xs ws κ c); iexact HE
    iframe HO Hr
  iintro ⟨HO, Hx, Hr⟩
  iapply (put_chunk xs c 1 1 rfl rfl rfl) $$ [Hr Hh]
  · iframe Hr Hh
  iintro ⟨Hr, Hh⟩
  iapply (load_pair xs ws c 1 0 (xq c 1 1) rfl rfl) $$ [Hh Hv]
  · iframe Hh Hv
  iintro ⟨Hh, Hv⟩
  iapply (runs_ret c)
  iapply Hk $$ %_
  iframe HO Hp Hx Hr Hh Hv

theorem run16 (v6 v425 : BitVec 32) (Q : PUnit → sProp 𝕄) :
    iprop(env xs ws κ c ∗ debt c 6 ∗ Any (F := F) c (box resM (xq c 1 1) 0) ∗ Any (F := F) c (box resM (xq c 1 1) 1) ∗ xhas xs c 1 (xq c 1 1) ∗ whas ws c 1 ∗ flying xs ws c 0 0 0)
      ⊢ iprop((debt c 6 ∗ (own xs ws c 0 0 (xq c 1 1) ∗ own xs ws c 0 1 (xq c 1 1)) ∗ (own xs ws c 1 0 (xq c 1 1) ∗ own xs ws c 1 1 (xq c 1 1)) ∗ xhas xs c 1 (xq c 1 1) ∗ whas ws c 1 ∗ arrived xs ws c 0 0 0 -∗ Q ⟨⟩) -∗ Runs c (args (k0_part16 (F := F)) c v6 v425 (k0_pay15 (xh xs c (xq c 1 1)) (wh ws c 0))) Q) := by
  iintro ⟨#HE, HO, Hp, Hq, Hh, Hw, Ha⟩ Hk
  rw [k0_part16_eq_skeleton]
  unfold args k0_part16_skel
  simp only [Prog.lift, Prog.bind_op, Prog.bind_ret, Prog.pure_eq_ret]
  iapply (put_box xs ws c 0 (xq c 1 1) (by revert c; decide) (off10 c 1) rfl) $$ Hp
  iintro Hp
  iapply (load_pair xs ws c 1 1 (xq c 1 1) rfl rfl) $$ [Hh Hw]
  · iframe Hh Hw
  iintro ⟨Hh, Hw⟩
  iapply (put_box xs ws c 1 (xq c 1 1) (by revert c; decide) (off11 c 1) rfl) $$ Hq
  iintro Hq
  iapply (await xs ws κ c 0 0 0 6 (by decide) (by decide) rfl rfl rfl rfl) $$ [HO Ha]
  · isplitr; · iexact HE
    iframe HO Ha
  iintro ⟨HO, Ha⟩
  iapply (runs_ret c)
  iapply Hk
  iframe HO Hp Hq Hh Hw Ha

end Cert.KernelIdeal.Ring

end
-- ==== Proof.Gather.lean ====
/- The second half of the kernel: complete pieces go round, and each is stored to the result on its way. -/
module

public import proofs.«01_k».proof.Proof.Sums

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S4096x1024.Idx → Elt F .f32) (ws : Dev nD → S1024x2048.Idx → Elt F .f32)
variable (κ : GSem nD τ sig → ℕ) (c : Dev nD)

/-- The last transfer of a stream has arrived: the piece may be stored, and what is left are the waits for the sources. -/
theorem wait_last {α : Type} (d j : Fin 2) (n : ℕ) (hl : ∀ i ∈ plan.drop n, 7 < lvl i.2)
    {sp sp' : Space} {sh : Shape} {e : EltTy} {s : DmaSem sig} {src : Memref sig .tc sp sh e} {dst : Memref sig .tc sp' sh e} {h1 h2}
    (hs : SemLoc.dma s = (Cell.rcv d (tr 5) j).sem) (hN : dst.view.dmaCredit = nP)
    {k : PUnit → Prog (TpuEff nD τ sig (Elt F) Λ₀ .tc) α} {Q : α → sProp 𝕄} :
    iprop(env xs ws κ c ∗ debt c n ∗ flying xs ws c d j 5)
      ⊢ iprop((debt c n ∗ ending xs ws c d j 3 ∗ held xs ws c d j 6 -∗ Runs c (k ⟨⟩) Q) -∗ Runs c (.op (.waitDma2 s src dst h1 h2) k) Q) := by
  iintro ⟨#HE, HO, Hf⟩ Hk
  iapply (wait_full xs ws κ c d j 5 n (by decide) (by decide) hl hs hN) $$ [HO Hf]
  · isplitr; · iexact HE
    iframe HO Hf
  iintro ⟨HO, Hf⟩
  ihave Hf := (ending_of_ready xs ws c d j) $$ Hf
  icases Hf with ⟨He, Hh⟩
  iapply Hk
  iframe HO He Hh

/-! ## The parts of the kernel in turn -/

theorem run32 (v2 v4 v6 : BitVec 32) (Q : PUnit → sProp 𝕄) :
    iprop(env xs ws κ c ∗ debt c 17 ∗ ready xs ws c 1 1 3 ∗ held xs ws c 0 0 3 ∗ held xs ws c 0 1 3 ∗ held xs ws c 1 0 3 ∗ sready xs ws c 0 0 ∗ sready xs ws c 1 0)
      ⊢ iprop((debt c 18 ∗ flying xs ws c 1 1 3 ∗ sflying xs ws c 0 0 ∗ sflying xs ws c 1 0 -∗ Q ⟨⟩) -∗ Runs c (args (k0_part32 (F := F)) c v2 v4 v6) Q) := by
  iintro ⟨#HE, HO, Na, Hh, Kh, Mh, HS, HT⟩ Hk
  rw [k0_part32_eq_skeleton]
  unfold args k0_part32_skel
  simp only [Prog.lift, Prog.bind_op, Prog.bind_ret, Prog.pure_eq_ret]
  iapply (send_full xs ws κ c 1 1 3 17 (by decide) (by decide) rfl (off15 c 0 1) (dev_eq 1 k0_dev18 k0_dev18_lt (by decide) c) rfl rfl) $$ [HO Na]
  · isplitr; · iexact HE
    iframe HO Na
  iintro ⟨HO, Na, Nh⟩
  iapply (store_box xs ws κ c 0 (by decide) 0 rfl (off16 c) rfl) $$ [Hh Kh HS]
  · isplitr; · iapply (env_records xs ws κ c); iexact HE
    iframe Hh Kh HS
  iintro HS
  iapply (store_box xs ws κ c 1 (by decide) 1 rfl (off17 c) rfl) $$ [Mh Nh HT]
  · isplitr; · iapply (env_records xs ws κ c); iexact HE
    iframe Mh Nh HT
  iintro HT
  iapply (runs_ret c)
  iapply Hk
  iframe HO Na HS HT

theorem run33 (v2 v4 v6 : BitVec 32) (Q : PUnit → sProp 𝕄) :
    iprop(env xs ws κ c ∗ debt c 18 ∗ flying xs ws c 0 0 3 ∗ flying xs ws c 1 0 3 ∗ sready xs ws c 2 0)
      ⊢ iprop((debt c 19 ∗ flying xs ws c 0 0 4 ∗ ready xs ws c 1 0 4 ∗ sflying xs ws c 2 0 -∗ Q ⟨⟩) -∗ Runs c (args (k0_part33 (F := F)) c v2 v4 v6) Q) := by
  iintro ⟨#HE, HO, Ha, Ma, HS⟩ Hk
  rw [k0_part33_eq_skeleton]
  unfold args k0_part33_skel
  simp only [Prog.lift, Prog.bind_op, Prog.bind_ret, Prog.pure_eq_ret]
  iapply (wait_full xs ws κ c 0 0 3 18 (by decide) (by decide) (by decide) rfl rfl) $$ [HO Ha]
  · isplitr; · iexact HE
    iframe HO Ha
  iintro ⟨HO, Ha⟩
  iapply (send_full xs ws κ c 0 0 4 18 (by decide) (by decide) rfl (off14 c 1 0) (dev_eq 0 k0_dev19 k0_dev19_lt (by decide) c) rfl rfl) $$ [HO Ha]
  · isplitr; · iexact HE
    iframe HO Ha
  iintro ⟨HO, Ha, Hh⟩
  iapply (store_start xs ws κ c 2 0 (by decide) (by decide) 0 0 4 rfl rfl rfl (off4' c 0 0) rfl) $$ [Hh HS]
  · isplitr; · iapply (env_records xs ws κ c); iexact HE
    iframe Hh HS
  iintro HS
  iapply (wait_full xs ws κ c 1 0 3 19 (by decide) (by decide) (by decide) rfl rfl) $$ [HO Ma]
  · isplitr; · iexact HE
    iframe HO Ma
  iintro ⟨HO, Ma⟩
  iapply (runs_ret c)
  iapply Hk
  iframe HO Ha Ma HS

theorem run34 (v2 v6 : BitVec 32) (Q : BitVec 32 → sProp 𝕄) :
    iprop(env xs ws κ c ∗ debt c 19 ∗ ready xs ws c 1 0 4 ∗ flying xs ws c 0 1 3 ∗ sready xs ws c 3 0)
      ⊢ iprop((∀ w, debt c 21 ∗ flying xs ws c 1 0 4 ∗ flying xs ws c 0 1 4 ∗ held xs ws c 0 1 4 ∗ sflying xs ws c 3 0 -∗ Q w) -∗ Runs c (args (k0_part34 (F := F)) c v2 v6) Q) := by
  iintro ⟨#HE, HO, Ma, Ka, HS⟩ Hk
  rw [k0_part34_eq_skeleton]
  unfold args k0_part34_skel
  simp only [Prog.lift, Prog.bind_op, Prog.bind_ret, Prog.pure_eq_ret]
  iapply (send_full xs ws κ c 1 0 4 19 (by decide) (by decide) rfl (off15 c 1 0) (dev_eq 1 k0_dev20 k0_dev20_lt (by decide) c) rfl rfl) $$ [HO Ma]
  · isplitr; · iexact HE
    iframe HO Ma
  iintro ⟨HO, Ma, Mh⟩
  iapply (store_start xs ws κ c 3 0 (by decide) (by decide) 1 0 4 rfl rfl rfl (off6' c 0 0) rfl) $$ [Mh HS]
  · isplitr; · iapply (env_records xs ws κ c); iexact HE
    iframe Mh HS
  iintro HS
  iapply (wait_full xs ws κ c 0 1 3 20 (by decide) (by decide) (by decide) rfl rfl) $$ [HO Ka]
  · isplitr; · iexact HE
    iframe HO Ka
  iintro ⟨HO, Ka⟩
  iapply (send_full xs ws κ c 0 1 4 20 (by decide) (by decide) rfl (off14 c 1 1) (dev_eq 0 k0_dev21 k0_dev21_lt (by decide) c) rfl rfl) $$ [HO Ka]
  · isplitr; · iexact HE
    iframe HO Ka
  iintro ⟨HO, Ka, Kh⟩
  iapply (runs_ret c)
  iapply Hk $$ %_
  iframe HO Ma Ka Kh HS

theorem run35 (v2 v4 v0 : BitVec 32) (Q : (Σ' (_ : BitVec 32), BitVec 32) → sProp 𝕄) :
    iprop(env xs ws κ c ∗ debt c 21 ∗ sflying xs ws c 0 0 ∗ held xs ws c 0 1 4 ∗ flying xs ws c 1 1 3)
      ⊢ iprop((∀ w, debt c 22 ∗ sflying xs ws c 0 1 ∗ flying xs ws c 1 1 4 ∗ held xs ws c 1 1 4 -∗ Q ⟨w, 16#32⟩) -∗ Runs c (args (k0_part35 (F := F)) c v2 v4 v0) Q) := by
  iintro ⟨#HE, HO, HS, Hh, Ka⟩ Hk
  rw [k0_part35_eq_skeleton]
  unfold args k0_part35_skel
  simp only [Prog.lift, Prog.bind_op, Prog.bind_ret, Prog.pure_eq_ret]
  iapply (store_wait xs ws κ c 0 0 21 (by decide) (by decide) rfl rfl) $$ [HO HS]
  · isplitr; · iapply (env_records xs ws κ c); iexact HE
    iframe HO HS
  iintro ⟨HO, HS⟩
  iapply (store_start xs ws κ c 0 1 (by decide) (by decide) 0 1 4 rfl rfl rfl (off4' c 0 1) rfl) $$ [Hh HS]
  · isplitr; · iapply (env_records xs ws κ c); iexact HE
    iframe Hh HS
  iintro HS
  iapply (wait_full xs ws κ c 1 1 3 21 (by decide) (by decide) (by decide) rfl rfl) $$ [HO Ka]
  · isplitr; · iexact HE
    iframe HO Ka
  iintro ⟨HO, Ka⟩
  iapply (send_full xs ws κ c 1 1 4 21 (by decide) (by decide) rfl (off15 c 1 1) (dev_eq 1 k0_dev22 k0_dev22_lt (by decide) c) rfl rfl) $$ [HO Ka]
  · isplitr; · iexact HE
    iframe HO Ka
  iintro ⟨HO, Ka, Kh⟩
  iapply (runs_ret c)
  iapply Hk $$ %_
  iframe HO HS Ka Kh

theorem run36 (v2 v6 v987 v0 : BitVec 32) (Q : (Σ' (_ : BitVec 32), BitVec 32) → sProp 𝕄) :
    iprop(env xs ws κ c ∗ debt c 22 ∗ sflying xs ws c 1 0 ∗ held xs ws c 1 1 4 ∗ flying xs ws c 0 0 4)
      ⊢ iprop((∀ w, debt c 23 ∗ sflying xs ws c 1 1 ∗ flying xs ws c 0 0 5 ∗ held xs ws c 0 0 5 -∗ Q ⟨w, 4#32⟩) -∗ Runs c (args (k0_part36 (F := F)) c v2 v6 v987 v0) Q) := by
  iintro ⟨#HE, HO, HS, Hh, Ka⟩ Hk
  rw [k0_part36_eq_skeleton]
  unfold args k0_part36_skel
  simp only [Prog.lift, Prog.bind_op, Prog.bind_ret, Prog.pure_eq_ret]
  iapply (store_wait xs ws κ c 1 0 22 (by decide) (by decide) rfl rfl) $$ [HO HS]
  · isplitr; · iapply (env_records xs ws κ c); iexact HE
    iframe HO HS
  iintro ⟨HO, HS⟩
  iapply (store_start xs ws κ c 1 1 (by decide) (by decide) 1 1 4 rfl rfl rfl (off6' c 0 1) rfl) $$ [Hh HS]
  · isplitr; · iapply (env_records xs ws κ c); iexact HE
    iframe Hh HS
  iintro HS
  iapply (wait_full xs ws κ c 0 0 4 22 (by decide) (by decide) (by decide) rfl rfl) $$ [HO Ka]
  · isplitr; · iexact HE
    iframe HO Ka
  iintro ⟨HO, Ka⟩
  iapply (send_full xs ws κ c 0 0 5 22 (by decide) (by decide) rfl (off14 c 2 0) (dev_eq 0 k0_dev23 k0_dev23_lt (by decide) c) rfl rfl) $$ [HO Ka]
  · isplitr; · iexact HE
    iframe HO Ka
  iintro ⟨HO, Ka, Kh⟩
  iapply (runs_ret c)
  iapply Hk $$ %_
  iframe HO HS Ka Kh

theorem run37 (v2 v4 v1015 v0 : BitVec 32) (Q : (Σ' (_ : BitVec 32), BitVec 32) → sProp 𝕄) :
    iprop(env xs ws κ c ∗ debt c 23 ∗ sflying xs ws c 2 0 ∗ held xs ws c 0 0 5 ∗ flying xs ws c 1 0 4)
      ⊢ iprop((∀ w, debt c 24 ∗ sflying xs ws c 2 1 ∗ flying xs ws c 1 0 5 ∗ held xs ws c 1 0 5 -∗ Q ⟨w, 1024#32⟩) -∗ Runs c (args (k0_part37 (F := F)) c v2 v4 v1015 v0) Q) := by
  iintro ⟨#HE, HO, HS, Hh, Ka⟩ Hk
  rw [k0_part37_eq_skeleton]
  unfold args k0_part37_skel
  simp only [Prog.lift, Prog.bind_op, Prog.bind_ret, Prog.pure_eq_ret]
  iapply (store_wait xs ws κ c 2 0 23 (by decide) (by decide) rfl rfl) $$ [HO HS]
  · isplitr; · iapply (env_records xs ws κ c); iexact HE
    iframe HO HS
  iintro ⟨HO, HS⟩
  iapply (store_start xs ws κ c 2 1 (by decide) (by decide) 0 0 5 rfl rfl rfl (off4' c 1 0) rfl) $$ [Hh HS]
  · isplitr; · iapply (env_records xs ws κ c); iexact HE
    iframe Hh HS
  iintro HS
  iapply (wait_full xs ws κ c 1 0 4 23 (by decide) (by decide) (by decide) rfl rfl) $$ [HO Ka]
  · isplitr; · iexact HE
    iframe HO Ka
  iintro ⟨HO, Ka⟩
  iapply (send_full xs ws κ c 1 0 5 23 (by decide) (by decide) rfl (off15 c 2 0) (dev_eq 1 k0_dev24 k0_dev24_lt (by decide) c) rfl rfl) $$ [HO Ka]
  · isplitr; · iexact HE
    iframe HO Ka
  iintro ⟨HO, Ka, Kh⟩
  iapply (runs_ret c)
  iapply Hk $$ %_
  iframe HO HS Ka Kh

theorem run38 (v2 v6 v1043 v0 : BitVec 32) (Q : (Σ' (_ : BitVec 32), BitVec 32) → sProp 𝕄) :
    iprop(env xs ws κ c ∗ debt c 24 ∗ sflying xs ws c 3 0 ∗ held xs ws c 1 0 5 ∗ flying xs ws c 0 1 4)
      ⊢ iprop((∀ w, debt c 25 ∗ sflying xs ws c 3 1 ∗ flying xs ws c 0 1 5 ∗ held xs ws c 0 1 5 -∗ Q ⟨w, 512#32⟩) -∗ Runs c (args (k0_part38 (F := F)) c v2 v6 v1043 v0) Q) := by
  iintro ⟨#HE, HO, HS, Hh, Ka⟩ Hk
  rw [k0_part38_eq_skeleton]
  unfold args k0_part38_skel
  simp only [Prog.lift, Prog.bind_op, Prog.bind_ret, Prog.pure_eq_ret]
  iapply (store_wait xs ws κ c 3 0 24 (by decide) (by decide) rfl rfl) $$ [HO HS]
  · isplitr; · iapply (env_records xs ws κ c); iexact HE
    iframe HO HS
  iintro ⟨HO, HS⟩
  iapply (store_start xs ws κ c 3 1 (by decide) (by decide) 1 0 5 rfl rfl rfl (off6' c 1 0) rfl) $$ [Hh HS]
  · isplitr; · iapply (env_records xs ws κ c); iexact HE
    iframe Hh HS
  iintro HS
  iapply (wait_full xs ws κ c 0 1 4 24 (by decide) (by decide) (by decide) rfl rfl) $$ [HO Ka]
  · isplitr; · iexact HE
    iframe HO Ka
  iintro ⟨HO, Ka⟩
  iapply (send_full xs ws κ c 0 1 5 24 (by decide) (by decide) rfl (off14 c 2 1) (dev_eq 0 k0_dev25 k0_dev25_lt (by decide) c) rfl rfl) $$ [HO Ka]
  · isplitr; · iexact HE
    iframe HO Ka
  iintro ⟨HO, Ka, Kh⟩
  iapply (runs_ret c)
  iapply Hk $$ %_
  iframe HO HS Ka Kh

theorem run39 (v2 v4 v1071 v0 : BitVec 32) (Q : PUnit → sProp 𝕄) :
    iprop(env xs ws κ c ∗ debt c 25 ∗ sflying xs ws c 0 1 ∗ held xs ws c 0 1 5 ∗ flying xs ws c 1 1 4)
      ⊢ iprop((debt c 26 ∗ sflying xs ws c 0 2 ∗ flying xs ws c 1 1 5 ∗ held xs ws c 1 1 5 -∗ Q ⟨⟩) -∗ Runs c (args (k0_part39 (F := F)) c v2 v4 v1071 v0) Q) := by
  iintro ⟨#HE, HO, HS, Hh, Ka⟩ Hk
  rw [k0_part39_eq_skeleton]
  unfold args k0_part39_skel
  simp only [Prog.lift, Prog.bind_op, Prog.bind_ret, Prog.pure_eq_ret]
  iapply (store_wait xs ws κ c 0 1 25 (by decide) (by decide) rfl rfl) $$ [HO HS]
  · isplitr; · iapply (env_records xs ws κ c); iexact HE
    iframe HO HS
  iintro ⟨HO, HS⟩
  iapply (store_start xs ws κ c 0 2 (by decide) (by decide) 0 1 5 rfl rfl rfl (off4' c 1 1) rfl) $$ [Hh HS]
  · isplitr; · iapply (env_records xs ws κ c); iexact HE
    iframe Hh HS
  iintro HS
  iapply (wait_full xs ws κ c 1 1 4 25 (by decide) (by decide) (by decide) rfl rfl) $$ [HO Ka]
  · isplitr; · iexact HE
    iframe HO Ka
  iintro ⟨HO, Ka⟩
  iapply (send_full xs ws κ c 1 1 5 25 (by decide) (by decide) rfl (off15 c 2 1) (dev_eq 1 k0_dev26 k0_dev26_lt (by decide) c) rfl rfl) $$ [HO Ka]
  · isplitr; · iexact HE
    iframe HO Ka
  iintro ⟨HO, Ka, Kh⟩
  iapply (runs_ret c)
  iapply Hk
  iframe HO HS Ka Kh

theorem run40 (v2 v6 : BitVec 32) (Q : PUnit → sProp 𝕄) :
    iprop(env xs ws κ c ∗ debt c 26 ∗ sflying xs ws c 1 1 ∗ held xs ws c 1 1 5 ∗ flying xs ws c 0 0 5 ∗ sflying xs ws c 2 1)
      ⊢ iprop((debt c 26 ∗ sflying xs ws c 1 2 ∗ ending xs ws c 0 0 3 ∗ sflying xs ws c 2 2 -∗ Q ⟨⟩) -∗ Runs c (args (k0_part40 (F := F)) c v2 v6) Q) := by
  iintro ⟨#HE, HO, HS, Nh, Ha, HT⟩ Hk
  rw [k0_part40_eq_skeleton]
  unfold args k0_part40_skel
  simp only [Prog.lift, Prog.bind_op, Prog.bind_ret, Prog.pure_eq_ret]
  iapply (store_wait xs ws κ c 1 1 26 (by decide) (by decide) rfl rfl) $$ [HO HS]
  · isplitr; · iapply (env_records xs ws κ c); iexact HE
    iframe HO HS
  iintro ⟨HO, HS⟩
  iapply (store_start xs ws κ c 1 2 (by decide) (by decide) 1 1 5 rfl rfl rfl (off6' c 1 1) rfl) $$ [Nh HS]
  · isplitr; · iapply (env_records xs ws κ c); iexact HE
    iframe Nh HS
  iintro HS
  iapply (wait_last xs ws κ c 0 0 26 (by decide) rfl rfl) $$ [HO Ha]
  · isplitr; · iexact HE
    iframe HO Ha
  iintro ⟨HO, Ha, Hh⟩
  iapply (store_wait xs ws κ c 2 1 26 (by decide) (by decide) rfl rfl) $$ [HO HT]
  · isplitr; · iapply (env_records xs ws κ c); iexact HE
    iframe HO HT
  iintro ⟨HO, HT⟩
  iapply (store_start xs ws κ c 2 2 (by decide) (by decide) 0 0 6 rfl rfl rfl (off4' c 2 0) rfl) $$ [Hh HT]
  · isplitr; · iapply (env_records xs ws κ c); iexact HE
    iframe Hh HT
  iintro HT
  iapply (runs_ret c)
  iapply Hk
  iframe HO HS Ha HT

theorem run41 (v2 v4 v6 : BitVec 32) (Q : BitVec 32 → sProp 𝕄) :
    iprop(env xs ws κ c ∗ debt c 26 ∗ flying xs ws c 1 0 5 ∗ sflying xs ws c 3 1 ∗ flying xs ws c 0 1 5)
      ⊢ iprop((∀ w, debt c 26 ∗ ending xs ws c 1 0 3 ∗ sflying xs ws c 3 2 ∗ ending xs ws c 0 1 3 ∗ held xs ws c 0 1 6 -∗ Q w) -∗ Runs c (args (k0_part41 (F := F)) c v2 v4 v6) Q) := by
  iintro ⟨#HE, HO, Ma, HS, Ka⟩ Hk
  rw [k0_part41_eq_skeleton]
  unfold args k0_part41_skel
  simp only [Prog.lift, Prog.bind_op, Prog.bind_ret, Prog.pure_eq_ret]
  iapply (wait_last xs ws κ c 1 0 26 (by decide) rfl rfl) $$ [HO Ma]
  · isplitr; · iexact HE
    iframe HO Ma
  iintro ⟨HO, Ma, Mh⟩
  iapply (store_wait xs ws κ c 3 1 26 (by decide) (by decide) rfl rfl) $$ [HO HS]
  · isplitr; · iapply (env_records xs ws κ c); iexact HE
    iframe HO HS
  iintro ⟨HO, HS⟩
  iapply (store_start xs ws κ c 3 2 (by decide) (by decide) 1 0 6 rfl rfl rfl (off6' c 2 0) rfl) $$ [Mh HS]
  · isplitr; · iapply (env_records xs ws κ c); iexact HE
    iframe Mh HS
  iintro HS
  iapply (wait_last xs ws κ c 0 1 26 (by decide) rfl rfl) $$ [HO Ka]
  · isplitr; · iexact HE
    iframe HO Ka
  iintro ⟨HO, Ka, Kh⟩
  iapply (runs_ret c)
  iapply Hk $$ %_
  iframe HO Ma HS Ka Kh

theorem run42 (v2 v4 v1155 : BitVec 32) (Q : PUnit → sProp 𝕄) :
    iprop(env xs ws κ c ∗ debt c 26 ∗ sflying xs ws c 0 2 ∗ held xs ws c 0 1 6 ∗ flying xs ws c 1 1 5 ∗ sflying xs ws c 1 2)
      ⊢ iprop((debt c 26 ∗ sflying xs ws c 0 3 ∗ ending xs ws c 1 1 3 ∗ sflying xs ws c 1 3 -∗ Q ⟨⟩) -∗ Runs c (args (k0_part42 (F := F)) c v2 v4 v1155) Q) := by
  iintro ⟨#HE, HO, HS, Kh, Na, HT⟩ Hk
  rw [k0_part42_eq_skeleton]
  unfold args k0_part42_skel
  simp only [Prog.lift, Prog.bind_op, Prog.bind_ret, Prog.pure_eq_ret]
  iapply (store_wait xs ws κ c 0 2 26 (by decide) (by decide) rfl rfl) $$ [HO HS]
  · isplitr; · iapply (env_records xs ws κ c); iexact HE
    iframe HO HS
  iintro ⟨HO, HS⟩
  iapply (store_start xs ws κ c 0 3 (by decide) (by decide) 0 1 6 rfl rfl rfl (off4' c 2 1) rfl) $$ [Kh HS]
  · isplitr; · iapply (env_records xs ws κ c); iexact HE
    iframe Kh HS
  iintro HS
  iapply (wait_last xs ws κ c 1 1 26 (by decide) rfl rfl) $$ [HO Na]
  · isplitr; · iexact HE
    iframe HO Na
  iintro ⟨HO, Na, Nh⟩
  iapply (store_wait xs ws κ c 1 2 26 (by decide) (by decide) rfl rfl) $$ [HO HT]
  · isplitr; · iapply (env_records xs ws κ c); iexact HE
    iframe HO HT
  iintro ⟨HO, HT⟩
  iapply (store_start xs ws κ c 1 3 (by decide) (by decide) 1 1 6 rfl rfl rfl (off6' c 2 1) rfl) $$ [Nh HT]
  · isplitr; · iapply (env_records xs ws κ c); iexact HE
    iframe Nh HT
  iintro HT
  iapply (runs_ret c)
  iapply Hk
  iframe HO HS Na HT

theorem run43 (Q : PUnit → sProp 𝕄) :
    iprop(env xs ws κ c ∗ debt c 26 ∗ sflying xs ws c 0 3 ∗ sflying xs ws c 1 3 ∗ sflying xs ws c 2 2 ∗ sflying xs ws c 3 2 ∗ ending xs ws c 0 0 3 ∗ ending xs ws c 1 0 3)
      ⊢ iprop((debt c 26 ∗ sready xs ws c 0 4 ∗ sready xs ws c 1 4 ∗ sready xs ws c 2 3 ∗ sready xs ws c 3 3 ∗ ending xs ws c 0 0 4 ∗ ending xs ws c 1 0 4 -∗ Q ⟨⟩) -∗ Runs c (args (k0_part43 (F := F)) c) Q) := by
  iintro ⟨#HE, HO, HS, HT, HU, HV, Ha, Ma⟩ Hk
  rw [k0_part43_eq_skeleton]
  unfold args k0_part43_skel
  simp only [Prog.lift, Prog.bind_op, Prog.bind_ret, Prog.pure_eq_ret]
  iapply (store_wait xs ws κ c 0 3 26 (by decide) (by decide) rfl rfl) $$ [HO HS]
  · isplitr; · iapply (env_records xs ws κ c); iexact HE
    iframe HO HS
  iintro ⟨HO, HS⟩
  iapply (store_wait xs ws κ c 1 3 26 (by decide) (by decide) rfl rfl) $$ [HO HT]
  · isplitr; · iapply (env_records xs ws κ c); iexact HE
    iframe HO HT
  iintro ⟨HO, HT⟩
  iapply (store_wait xs ws κ c 2 2 26 (by decide) (by decide) rfl rfl) $$ [HO HU]
  · isplitr; · iapply (env_records xs ws κ c); iexact HE
    iframe HO HU
  iintro ⟨HO, HU⟩
  iapply (store_wait xs ws κ c 3 2 26 (by decide) (by decide) rfl rfl) $$ [HO HV]
  · isplitr; · iapply (env_records xs ws κ c); iexact HE
    iframe HO HV
  iintro ⟨HO, HV⟩
  iapply (wait_gone xs ws κ c 0 0 3 26 (by decide) (by decide) (by decide) rfl rfl) $$ [HO Ha]
  · isplitr; · iexact HE
    iframe HO Ha
  iintro ⟨HO, Ha⟩
  iapply (wait_gone xs ws κ c 1 0 3 26 (by decide) (by decide) (by decide) rfl rfl) $$ [HO Ma]
  · isplitr; · iexact HE
    iframe HO Ma
  iintro ⟨HO, Ma⟩
  iapply (runs_ret c)
  iapply Hk
  iframe HO HS HT HU HV Ha Ma

theorem run44 (Q : PUnit → sProp 𝕄) :
    iprop(env xs ws κ c ∗ debt c 26 ∗ ending xs ws c 0 0 4 ∗ ending xs ws c 1 0 4 ∗ ending xs ws c 0 1 3 ∗ ending xs ws c 1 1 3)
      ⊢ iprop((debt c 26 ∗ ending xs ws c 0 0 5 ∗ ending xs ws c 1 0 5 ∗ ending xs ws c 0 1 5 ∗ ending xs ws c 1 1 4 -∗ Q ⟨⟩) -∗ Runs c (args (k0_part44 (F := F)) c) Q) := by
  iintro ⟨#HE, HO, Ha, Ma, Ka, Na⟩ Hk
  rw [k0_part44_eq_skeleton]
  unfold args k0_part44_skel
  simp only [Prog.lift, Prog.bind_op, Prog.bind_ret, Prog.pure_eq_ret]
  iapply (wait_gone xs ws κ c 0 1 3 26 (by decide) (by decide) (by decide) rfl rfl) $$ [HO Ka]
  · isplitr; · iexact HE
    iframe HO Ka
  iintro ⟨HO, Ka⟩
  iapply (wait_gone xs ws κ c 1 1 3 26 (by decide) (by decide) (by decide) rfl rfl) $$ [HO Na]
  · isplitr; · iexact HE
    iframe HO Na
  iintro ⟨HO, Na⟩
  iapply (wait_gone xs ws κ c 0 0 4 26 (by decide) (by decide) (by decide) rfl rfl) $$ [HO Ha]
  · isplitr; · iexact HE
    iframe HO Ha
  iintro ⟨HO, Ha⟩
  iapply (wait_gone xs ws κ c 1 0 4 26 (by decide) (by decide) (by decide) rfl rfl) $$ [HO Ma]
  · isplitr; · iexact HE
    iframe HO Ma
  iintro ⟨HO, Ma⟩
  iapply (wait_gone xs ws κ c 0 1 4 26 (by decide) (by decide) (by decide) rfl rfl) $$ [HO Ka]
  · isplitr; · iexact HE
    iframe HO Ka
  iintro ⟨HO, Ka⟩
  iapply (runs_ret c)
  iapply Hk
  iframe HO Ha Ma Ka Na

end Cert.KernelIdeal.Ring

end
-- ==== Proof.Body.lean ====
/- The whole kernel: what a device needs at the start, and what it has at the end. -/
module

public import proofs.«01_k».proof.Proof.First
public import proofs.«01_k».proof.Proof.Gather

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → S4096x1024.Idx → Elt F .f32) (ws : Dev nD → S1024x2048.Idx → Elt F .f32)

/-! ## The transfers' rights -/

section Lists

variable {M : Type} [URA M]

theorem sep_six (Φ : Fin 6 → sProp M) : bigSep Finset.univ Φ = iprop(Φ 0 ∗ Φ 1 ∗ Φ 2 ∗ Φ 3 ∗ Φ 4 ∗ Φ 5) :=
  bigSep_eq_bigSepL_of_eq [0, 1, 2, 3, 4, 5] (by decide) (by decide) Φ
theorem sep_two (Φ : Fin 2 → sProp M) : bigSep Finset.univ Φ = iprop(Φ 0 ∗ Φ 1) := bigSep_eq_bigSepL_of_eq [0, 1] (by decide) (by decide) Φ
theorem sep_three (Φ : Fin 3 → sProp M) : bigSep Finset.univ Φ = iprop(Φ 0 ∗ Φ 1 ∗ Φ 2) :=
  bigSep_eq_bigSepL_of_eq [0, 1, 2] (by decide) (by decide) Φ
theorem sep_four (Φ : Fin 4 → sProp M) : bigSep Finset.univ Φ = iprop(Φ 0 ∗ Φ 1 ∗ Φ 2 ∗ Φ 3) :=
  bigSep_eq_bigSepL_of_eq [0, 1, 2, 3] (by decide) (by decide) Φ

end Lists

/-- What a device needs for a transfer, the place it goes to aside. -/
def seat (c : Dev nD) (d j : Fin 2) (t : Fin 6) : sProp 𝕄 :=
  iprop(dutyTok ER (cell c (.snd d t j)) 0 0 ∗ dutyTok ER (cell (nx d c) (.rcv d t j)) 0 0
    ∗ pos (F := F) c (.snd d t j) 0 ∗ pos (F := F) c (.rcv d t j) 0 ∗ cred (tallyAt (cell c (.rcv d t j)) () nP))
theorem tok_seat (c : Dev nD) (d j : Fin 2) (t : Fin 3) :
    iprop(seat (F := F) c d j (t.castLE (by decide)) ∗ Any (F := F) (nx d c) (slot d t j)) ⊢ tok (F := F) c d j t.val := by
  unfold tok
  rw [if_pos t.isLt, show tr t.val = t.castLE (by decide) from by revert t; decide, show sl t.val = t from by revert t; decide]
  exact .rfl
theorem tok_seat' (c : Dev nD) (d j : Fin 2) (t : Fin 3) : seat (F := F) c d j (t.natAdd 3) ⊢ tok (F := F) c d j (3 + t.val) := by
  unfold tok
  rw [if_neg (by omega), show tr (3 + t.val) = t.natAdd 3 from by revert t; decide]
  show seat (F := F) c d j (t.natAdd 3) ⊢ iprop(seat (F := F) c d j (t.natAdd 3) ∗ emp)
  iintro H; isplitl [H]; · iexact H
  iempintro

/-- With the places, all that a stream needs. -/
theorem lane_toks (c : Dev nD) (d j : Fin 2) :
    iprop((bigSep Finset.univ fun t : Fin 6 => seat (F := F) c d j t) ∗ bigSep Finset.univ fun t : Fin 3 => Any (F := F) (nx d c) (slot d t j))
      ⊢ toks (F := F) c d j 6 := by
  rw [sep_six, sep_three]
  iintro ⟨⟨H0, H1, H2, H3, H4, H5⟩, S0, S1, S2⟩
  iapply (show iprop(tok (F := F) c d j 0 ∗ tok (F := F) c d j 1 ∗ tok (F := F) c d j 2 ∗ tok (F := F) c d j 3 ∗ tok (F := F) c d j 4 ∗ tok (F := F) c d j 5 ∗ emp)
    ⊢ toks (F := F) c d j 6 from .rfl)
  isplitl [H0 S0]; · iapply (tok_seat c d j 0); iframe H0 S0
  isplitl [H1 S1]; · iapply (tok_seat c d j 1); iframe H1 S1
  isplitl [H2 S2]; · iapply (tok_seat c d j 2); iframe H2 S2
  isplitl [H3]; · iapply (tok_seat' c d j 0); iexact H3
  isplitl [H4]; · iapply (tok_seat' c d j 1); iexact H4
  isplitl [H5]; · iapply (tok_seat' c d j 2); iexact H5
  iempintro

/-- What a device needs for all its transfers in one direction. -/
def seats (c : Dev nD) (d : Fin 2) : sProp 𝕄 := bigSep Finset.univ fun j : Fin 2 => bigSep Finset.univ fun t : Fin 6 => seat (F := F) c d j t
theorem dir_toks (c : Dev nD) (d : Fin 2) :
    iprop(seats (F := F) c d ∗ bigSep Finset.univ fun p : Fin 3 × Fin 2 => Any (F := F) (nx d c) (slot d p.1 p.2))
      ⊢ iprop(toks (F := F) c d 0 6 ∗ toks (F := F) c d 1 6) := by
  unfold seats
  rw [bigSep_univ_prod, bigSep_univ_comm (fun (a : Fin 3) (b : Fin 2) => Any (F := F) (nx d c) (slot d a b)), sep_two, sep_two]
  iintro ⟨⟨A0, A1⟩, S0, S1⟩
  isplitl [A0 S0]
  · iapply (lane_toks c d 0); iframe A0 S0
  · iapply (lane_toks c d 1); iframe A1 S1

/-- Once both neighbours have been heard of. -/
theorem met (κ : GSem nD τ sig → ℕ) (c : Dev nD) :
    iprop(records xs ws κ ∗ barPay (F := F) c 0 ∗ barPay (F := F) c 1 ∗ seats (F := F) c 0 ∗ seats (F := F) c 1)
      ⊢ iprop(env xs ws κ c ∗ (toks (F := F) c 0 0 6 ∗ toks (F := F) c 0 1 6) ∗ toks (F := F) c 1 0 6 ∗ toks (F := F) c 1 1 6) := by
  unfold barPay env
  rw [bigSep_univ_prod (fun p : Fin 2 × Fin 6 × Fin 2 => (reached ER (cell (nx p.1 c) (.rcv p.1 p.2.1 p.2.2)) 0 : sProp 𝕄)), sep_two]
  iintro ⟨HR, ⟨S0, R0⟩, ⟨S1, R1⟩, T0, T1⟩
  isplitl [HR R0 R1]
  · isplitl [HR]; · iexact HR
    isplitl [R0]; · iexact R0
    iexact R1
  isplitl [S0 T0]
  · iapply (dir_toks c 0); iframe T0 S0
  · iapply (dir_toks c 1); iframe T1 S1

/-- A device's summands for the three other chunks, in the order in which they are needed. -/
theorem sup_all (c : Dev nD) (d j : Fin 2) :
    iprop(own xs ws c d j (c + 3) ∗ own xs ws c d j (xq c 0 1) ∗ own xs ws c d j (xq c 1 1)) ⊢ sup xs ws c d j 0 := by
  rw [show xq c 0 1 = c + 1 from rfl, show xq c 1 1 = c + 2 from rfl]
  show _ ⊢ iprop(own xs ws c d j (ck d c 1) ∗ own xs ws c d j (ck d c 2) ∗ own xs ws c d j (ck d c 3))
  match d with
  | 0 =>
    rw [show ck 0 c 1 = c + 3 from by revert c; decide, show ck 0 c 2 = c + 2 from by revert c; decide, show ck 0 c 3 = c + 1 from by revert c; decide]
    iintro ⟨H3, H1, H2⟩; iframe H3 H2 H1
  | 1 =>
    rw [show ck 1 c 1 = c + 1 from by revert c; decide, show ck 1 c 2 = c + 2 from by revert c; decide, show ck 1 c 3 = c + 3 from by revert c; decide]
    iintro ⟨H3, H1, H2⟩; iframe H1 H2 H3

/-! ## From start to end -/

/-- What a device gives and gets at the barrier; -/
def greet (c : Dev nD) : sProp 𝕄 :=
  iprop((dutyTok ER (cell (nx 1 c) .bar) 0 0 ∗ dutyTok ER (cell (nx 0 c) .bar) 0 1)
    ∗ ((bigSep Finset.univ fun p : Fin 3 × Fin 2 => Any (F := F) c (slot 0 p.1 p.2))
      ∗ bigSep Finset.univ fun p : Fin 3 × Fin 2 => Any (F := F) c (slot 1 p.1 p.2))
    ∗ ((bigSep Finset.univ fun p : Fin 6 × Fin 2 => reached ER (cell c (.rcv 0 p.1 p.2)) 0)
      ∗ bigSep Finset.univ fun p : Fin 6 × Fin 2 => reached ER (cell c (.rcv 1 p.1 p.2)) 0)
    ∗ pos (F := F) c .bar 0 ∗ cred (tallyAt (cell c .bar) () 2))
/-- the chunks of `x`; -/
def chunks (c : Dev nD) : sProp 𝕄 :=
  iprop(xck xs c (xq c 0 0) ∗ xck xs c (xq c 1 0) ∗ xck xs c (xq c 0 1) ∗ xck xs c (xq c 1 1))
/-- the places its summands go to; -/
def places (c : Dev nD) : sProp 𝕄 :=
  iprop((Any (F := F) c (piece resM c 0 0) ∗ Any (F := F) c (piece resM c 1 0)) ∗ Any (F := F) c (box resM c 1)
    ∗ (Any (F := F) c (box resM (c + 3) 0) ∗ Any (F := F) c (box resM (c + 3) 1))
    ∗ (Any (F := F) c (box resM (xq c 0 1) 0) ∗ Any (F := F) c (box resM (xq c 0 1) 1))
    ∗ (Any (F := F) c (box resM (xq c 1 1) 0) ∗ Any (F := F) c (box resM (xq c 1 1) 1)))
/-- the operands in the working type. -/
def cols (c : Dev nD) : sProp 𝕄 :=
  iprop((Any (F := F) c (wcol 0) ∗ Any (F := F) c (wcol 1)) ∗ Any (F := F) c (xhbox 0) ∗ Any (F := F) c (xhbox 1))
theorem any_whas (c : Dev nD) (d : Fin 2) : whas ws c d ⊢ Any (F := F) c (wcol d) := any_of_owns c (wcol d) _
theorem any_xhas (c : Dev nD) (s : Fin 2) (q : Fin 4) : xhas xs c s q ⊢ Any (F := F) c (xhbox s) := any_of_owns c (xhbox s) _

def start (c : Dev nD) : sProp 𝕄 :=
  iprop(debt (F := F) c 0 ∗ greet (F := F) c ∗ (seats (F := F) c 0 ∗ seats (F := F) c 1) ∗ chunks xs c ∗ (xready (F := F) c 0 0 ∗ xready (F := F) c 1 0)
    ∗ wraw ws c ∗ cols (F := F) c ∗ places (F := F) c
    ∗ (sready xs ws c 0 0 ∗ sready xs ws c 1 0 ∗ sready xs ws c 2 0 ∗ sready xs ws c 3 0))
def finish (c : Dev nD) : sProp 𝕄 :=
  iprop(debt (F := F) c 26 ∗ pos (F := F) c .bar 1 ∗ chunks xs c ∗ (xready (F := F) c 0 2 ∗ xready (F := F) c 1 2)
    ∗ wraw ws c ∗ cols (F := F) c
    ∗ (ending xs ws c 0 0 6 ∗ ending xs ws c 0 1 6 ∗ ending xs ws c 1 0 6 ∗ ending xs ws c 1 1 6)
    ∗ (sready xs ws c 0 4 ∗ sready xs ws c 1 4 ∗ sready xs ws c 2 3 ∗ sready xs ws c 3 3))

theorem runs_seq {α β : Type} (c : Dev nD) (p : Prog (TpuEff nD τ sig (Elt F) Λ₀ .tc) α) (k : α → Prog (TpuEff nD τ sig (Elt F) Λ₀ .tc) β) (Q : β → sProp 𝕄) :
    Runs c p (fun a => Runs c (k a) Q) ⊢ Runs c (p >>= k) Q := by
  show _ ⊢ wp _ _ _ _ _
  rw [wp_bind]

variable (κ : GSem nD τ sig → ℕ) (c : Dev nD)

set_option maxHeartbeats 4000000 in
/-- The kernel runs on each device from `start` to `finish`. -/
theorem run_body (Q : PUnit → sProp 𝕄) :
    iprop(records xs ws κ ∗ start xs ws c)
      ⊢ iprop((finish xs ws c -∗ Q ⟨⟩) -∗ Runs c (args (cc0_body (F := F))) Q) := by
  unfold start greet chunks cols places
  iintro ⟨#HR, HO, ⟨Hbt, Hsl, Hre, Hbp, Hbc⟩, ⟨Hs0, Hs1⟩, ⟨C0, C1, C2, C3⟩, ⟨L0, L1⟩, Hw, ⟨⟨W0, W1⟩, X0, X1⟩, ⟨⟨P00, P10⟩, P1, ⟨P30, P31⟩, ⟨Pa0, Pa1⟩, Pb0, Pb1⟩, T0, T1, T2, T3⟩ Hk
  rw [cc0_body_eq_skeleton]
  unfold args cc0_body_skel
  iapply (runs_seq c)
  rw [k0_part45_eq_skeleton]
  unfold k0_part45_skel
  iapply (runs_seq c)
  iapply (run1 xs ws κ c _) $$ [HO Hbt Hsl Hre]
  · isplitr; · iexact HR
    iframe HO Hbt Hsl Hre
  iintro %_ %_ %_ %_ HO
  iapply (runs_seq c)
  iapply (run_words c _ ⟨_, rfl⟩ _)
  iintro %_
  iapply (runs_seq c)
  iapply (run_words c _ ⟨_, rfl⟩ _)
  iintro %_
  iapply (runs_seq c)
  iapply (run_words c _ ⟨_, rfl⟩ _)
  iintro %_
  iapply (runs_seq c)
  iapply (run_words c _ ⟨_, rfl⟩ _)
  iintro %_
  iapply (runs_seq c)
  iapply (run_words c _ ⟨_, rfl⟩ _)
  iintro %_
  iapply (runs_seq c)
  iapply (run_words c _ ⟨_, rfl⟩ _)
  iintro %_
  iapply (runs_seq c)
  iapply (run8 xs ws κ c _ _ _ _) $$ [HO C0 L0 Hw W0]
  · isplitr; · iexact HR
    iframe HO C0 L0 Hw W0
  iintro %_ ⟨HO, C0, L0, Hw, W0⟩
  iapply (runs_seq c)
  iapply (run9 xs ws κ c _ _ _) $$ [HO C1 L1 L0 X0 W0 P00 Hbp Hbc]
  · isplitr; · iexact HR
    iframe HO C1 L1 L0 X0 W0 P00 Hbp Hbc
  iintro %_ ⟨HO, L1, L0, X0, W0, P00, Hbp, B0, B1⟩
  ihave Hm := (met xs ws κ c) $$ [B0 B1 Hs0 Hs1]
  · isplitr; · iexact HR
    iframe B0 B1 Hs0 Hs1
  icases Hm with ⟨#HE, ⟨A, K⟩, M, N⟩
  ihave A := (ready_start xs ws c 0 0) $$ [P00 A]
  · iframe P00 A
  iapply (runs_seq c)
  iapply (run10 xs ws κ c _ _ _ _) $$ [HO A X0 W0 P10 K]
  · isplitr; · iexact HE
    iframe HO A X0 W0 P10 K
  iintro ⟨HO, A, K, X0, W0⟩
  iapply (runs_seq c)
  iapply (run11 xs ws κ c _ _ _) $$ [HO Hw W1 X0 P1 M N]
  · isplitr; · iexact HE
    iframe HO Hw W1 X0 P1 M N
  iintro %_ ⟨HO, Hw, W1, X0, M, N⟩
  iapply (runs_seq c)
  iapply (run12 xs ws κ c _ _ _) $$ [HO N L1 C2 L0 X1]
  · isplitr; · iexact HE
    iframe HO N L1 C2 L0 X1
  iintro %_ ⟨HO, N, C1, L1, L0, X1⟩
  iapply (runs_seq c)
  iapply (run13 xs ws κ c _ _ _) $$ [HO X1 W0 W1 P30 P31 L0]
  · isplitr; · iexact HE
    iframe HO X1 W0 W1 P30 P31 L0
  iintro %_ ⟨HO, X1, W0, W1, O30, O31, C2, L0⟩
  ihave X0 := (any_xhas xs c 0 _) $$ X0
  iapply (runs_seq c)
  iapply (run14 xs ws κ c _ _ _ _) $$ [HO C3 L1 L0 X0 W0 W1 Pa0]
  · isplitr; · iexact HE
    iframe HO C3 L1 L0 X0 W0 W1 Pa0
  iintro %_ ⟨HO, L1, L0, X0, W0, W1, Oa0⟩
  ihave X1 := (any_xhas xs c 1 _) $$ X1
  iapply (runs_seq c)
  iapply (run15 xs ws κ c _ _ _) $$ [HO Pa1 L1 X1 W0]
  · isplitr; · iexact HE
    iframe HO Pa1 L1 X1 W0
  iintro %_ ⟨HO, Oa1, C3, L1, X1, W0⟩
  iapply (runs_seq c)
  iapply (run16 xs ws κ c _ _ _) $$ [HO Pb0 Pb1 X1 W1 A]
  · isplitr; · iexact HE
    iframe HO Pb0 Pb1 X1 W1 A
  iintro ⟨HO, Ob0, Ob1, X1, W1, A⟩
  icases O30 with ⟨O300, O301⟩
  icases O31 with ⟨O310, O311⟩
  icases Oa0 with ⟨Oa00, Oa01⟩
  icases Oa1 with ⟨Oa10, Oa11⟩
  icases Ob0 with ⟨Ob00, Ob01⟩
  icases Ob1 with ⟨Ob10, Ob11⟩
  ihave SA := (sup_all xs ws c 0 0) $$ [O300 Oa00 Ob00]
  · iframe O300 Oa00 Ob00
  ihave SK := (sup_all xs ws c 0 1) $$ [O301 Oa01 Ob01]
  · iframe O301 Oa01 Ob01
  ihave SM := (sup_all xs ws c 1 0) $$ [O310 Oa10 Ob10]
  · iframe O310 Oa10 Ob10
  ihave SN := (sup_all xs ws c 1 1) $$ [O311 Oa11 Ob11]
  · iframe O311 Oa11 Ob11
  iapply (runs_seq c)
  iapply (run17 xs ws κ c _ _ _) $$ [HO A SA]
  · isplitr; · iexact HE
    iframe HO A SA
  iintro ⟨HO, A, SA⟩
  iapply (runs_seq c)
  iapply (run18 xs ws κ c _ _ _) $$ [HO M SM]
  · isplitr; · iexact HE
    iframe HO M SM
  iintro ⟨HO, M, SM⟩
  iapply (runs_seq c)
  iapply (run19 xs ws κ c _ _ _) $$ [HO M K SK]
  · isplitr; · iexact HE
    iframe HO M K SK
  iintro %_ ⟨HO, M, K, Ho, SK⟩
  iapply (runs_seq c)
  iapply (run20 xs ws κ c _ _ _ _) $$ [HO K Ho N]
  · isplitr; · iexact HE
    iframe HO K Ho N
  iintro ⟨HO, K, N⟩
  iapply (runs_seq c)
  iapply (run21 xs ws κ c _ _ _) $$ [HO N SN]
  · isplitr; · iexact HE
    iframe HO N SN
  iintro ⟨HO, N, SN⟩
  iapply (runs_seq c)
  iapply (run22 xs ws κ c _ _ _) $$ [HO A SA]
  · isplitr; · iexact HE
    iframe HO A SA
  iintro ⟨HO, A, SA⟩
  iapply (runs_seq c)
  iapply (run23 xs ws κ c _ _ _) $$ [HO A M SM]
  · isplitr; · iexact HE
    iframe HO A M SM
  iintro %_ ⟨HO, A, M, Ho, SM⟩
  iapply (runs_seq c)
  iapply (run24 xs ws κ c _ _ _ _) $$ [HO M Ho K]
  · isplitr; · iexact HE
    iframe HO M Ho K
  iintro ⟨HO, M, K⟩
  iapply (runs_seq c)
  iapply (run25 xs ws κ c _ _ _) $$ [HO K SK]
  · isplitr; · iexact HE
    iframe HO K SK
  iintro ⟨HO, K, SK⟩
  iapply (runs_seq c)
  iapply (run26 xs ws κ c _ _ _) $$ [HO N SN]
  · isplitr; · iexact HE
    iframe HO N SN
  iintro ⟨HO, N, SN⟩
  iapply (runs_seq c)
  iapply (run27 xs ws κ c _ _ _) $$ [HO N A SA]
  · isplitr; · iexact HE
    iframe HO N A SA
  iintro %_ ⟨HO, N, A, Ho, SA⟩
  iapply (runs_seq c)
  iapply (run28 xs ws κ c _ _ _ _ _) $$ [HO A Ho M]
  · isplitr; · iexact HE
    iframe HO A Ho M
  iintro %_ ⟨HO, A, HA, M⟩
  iapply (runs_seq c)
  iapply (run29 xs ws κ c _ _ _ _) $$ [HO M SM K]
  · isplitr; · iexact HE
    iframe HO M SM K
  iintro ⟨HO, M, HM, SM, K⟩
  iapply (runs_seq c)
  iapply (run30 xs ws κ c _ _ _) $$ [HO K SK]
  · isplitr; · iexact HE
    iframe HO K SK
  iintro ⟨HO, K, HK, SK⟩
  iapply (runs_seq c)
  iapply (run31 xs ws κ c _ _ _) $$ [HO N SN]
  · isplitr; · iexact HE
    iframe HO N SN
  iintro ⟨HO, N, SN⟩
  iapply (runs_seq c)
  iapply (run32 xs ws κ c _ _ _ _) $$ [HO N HA HK HM T0 T1]
  · isplitr; · iexact HE
    iframe HO N HA HK HM T0 T1
  iintro ⟨HO, N, T0, T1⟩
  iapply (runs_seq c)
  iapply (run33 xs ws κ c _ _ _ _) $$ [HO A M T2]
  · isplitr; · iexact HE
    iframe HO A M T2
  iintro ⟨HO, A, M, T2⟩
  iapply (runs_seq c)
  iapply (run34 xs ws κ c _ _ _) $$ [HO M K T3]
  · isplitr; · iexact HE
    iframe HO M K T3
  iintro %_ ⟨HO, M, K, HK, T3⟩
  iapply (runs_seq c)
  iapply (run35 xs ws κ c _ _ _ _) $$ [HO T0 HK N]
  · isplitr; · iexact HE
    iframe HO T0 HK N
  iintro %_ ⟨HO, T0, N, HN⟩
  iapply (runs_seq c)
  iapply (run36 xs ws κ c _ _ _ _ _) $$ [HO T1 HN A]
  · isplitr; · iexact HE
    iframe HO T1 HN A
  iintro %_ ⟨HO, T1, A, HA⟩
  iapply (runs_seq c)
  iapply (run37 xs ws κ c _ _ _ _ _) $$ [HO T2 HA M]
  · isplitr; · iexact HE
    iframe HO T2 HA M
  iintro %_ ⟨HO, T2, M, HM⟩
  iapply (runs_seq c)
  iapply (run38 xs ws κ c _ _ _ _ _) $$ [HO T3 HM K]
  · isplitr; · iexact HE
    iframe HO T3 HM K
  iintro %_ ⟨HO, T3, K, HK⟩
  iapply (runs_seq c)
  iapply (run39 xs ws κ c _ _ _ _ _) $$ [HO T0 HK N]
  · isplitr; · iexact HE
    iframe HO T0 HK N
  iintro ⟨HO, T0, N, HN⟩
  iapply (runs_seq c)
  iapply (run40 xs ws κ c _ _ _) $$ [HO T1 HN A T2]
  · isplitr; · iexact HE
    iframe HO T1 HN A T2
  iintro ⟨HO, T1, A, T2⟩
  iapply (runs_seq c)
  iapply (run41 xs ws κ c _ _ _ _) $$ [HO M T3 K]
  · isplitr; · iexact HE
    iframe HO M T3 K
  iintro %_ ⟨HO, M, T3, K, HK⟩
  iapply (runs_seq c)
  iapply (run42 xs ws κ c _ _ _ _) $$ [HO T0 HK N T1]
  · isplitr; · iexact HE
    iframe HO T0 HK N T1
  iintro ⟨HO, T0, N, T1⟩
  iapply (runs_seq c)
  iapply (run43 xs ws κ c _) $$ [HO T0 T1 T2 T3 A M]
  · isplitr; · iexact HE
    iframe HO T0 T1 T2 T3 A M
  iintro ⟨HO, T0, T1, T2, T3, A, M⟩
  iapply (runs_seq c)
  iapply (run44 xs ws κ c _) $$ [HO A M K N]
  · isplitr; · iexact HE
    iframe HO A M K N
  iintro ⟨HO, A, M, K, N⟩
  simp only [Prog.lift, Prog.bind_op, Prog.bind_ret, Prog.pure_eq_ret]
  iapply (wait_gone xs ws κ c 1 1 4 26 (by decide) (by decide) (by decide) rfl rfl) $$ [HO N]
  · isplitr; · iexact HE
    iframe HO N
  iintro ⟨HO, N⟩
  iapply (runs_ret c)
  iapply (wait_gone xs ws κ c 0 0 5 26 (by decide) (by decide) (by decide) rfl rfl) $$ [HO A]
  · isplitr; · iexact HE
    iframe HO A
  iintro ⟨HO, A⟩
  iapply (wait_gone xs ws κ c 1 0 5 26 (by decide) (by decide) (by decide) rfl rfl) $$ [HO M]
  · isplitr; · iexact HE
    iframe HO M
  iintro ⟨HO, M⟩
  iapply (wait_gone xs ws κ c 0 1 5 26 (by decide) (by decide) (by decide) rfl rfl) $$ [HO K]
  · isplitr; · iexact HE
    iframe HO K
  iintro ⟨HO, K⟩
  iapply (wait_gone xs ws κ c 1 1 5 26 (by decide) (by decide) (by decide) rfl rfl) $$ [HO N]
  · isplitr; · iexact HE
    iframe HO N
  iintro ⟨HO, N⟩
  iapply (runs_ret c)
  ihave W0 := (any_whas ws c 0) $$ W0
  ihave W1 := (any_whas ws c 1) $$ W1
  ihave X0 := (any_xhas xs c 0 _) $$ X0
  ihave X1 := (any_xhas xs c 1 _) $$ X1
  iapply Hk
  unfold finish chunks cols
  isplitl [HO]; · iexact HO
  isplitl [Hbp]; · iexact Hbp
  isplitl [C0 C1 C2 C3]; · iframe C0 C1 C2 C3
  isplitl [L0 L1]; · iframe L0 L1
  isplitl [Hw]; · iexact Hw
  isplitl [W0 W1 X0 X1]
  · isplitl [W0 W1]; · iframe W0 W1
    iframe X0 X1
  isplitl [A K M N]; · iframe A K M N
  iframe T0 T1 T2 T3

end Cert.KernelIdeal.Ring

end
-- ==== Proof.Split.lean ====
/- Whole buffers as their parts, and the parts as the whole: what the run of a device begins and ends with. -/
module

public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any memref -/

section Any

variable {sp : Space} {sh : Shape} {e : EltTy} (c : Dev nD) (M : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A memref at some contents is its parts, each at some contents, -/
theorem any_split : Any (F := F) c M ⊢ bigSep Finset.univ fun t => Any (F := F) c (M.slice (r t) (hr t)) := by
  unfold Any
  iintro ⟨%X, H⟩
  ihave H := (owns_rects (c : Thread nD τ) M fullShare r hr hd hcov X) $$ H
  iapply (show (bigSep Finset.univ fun t => (owns (c : Thread nD τ) (M.slice (r t) (hr t)) fullShare (fun j => X ((r t).emb j)) : sProp 𝕄))
    ⊢ bigSep Finset.univ fun t => Any c (M.slice (r t) (hr t)) from bigSep_mono fun t _ => any_of_owns c (M.slice (r t) (hr t)) _) $$ H

/-- and the parts are the memref: contents are chosen part by part. -/
theorem any_join : (bigSep Finset.univ fun t => Any (F := F) c (M.slice (r t) (hr t))) ⊢ Any (F := F) c M := by
  unfold Any
  refine BIBase.Entails.trans (bigSep_exists_pi Finset.univ _) ?_
  iintro ⟨%Xs, H⟩
  classical
  let X : sh.Idx → Elt F e := fun i =>
    if h : ∃ t, ∃ j, (r t).emb j = i then Xs h.choose h.choose_spec.choose else Classical.arbitrary _
  have hX (t : T) : Xs t = fun j => X ((r t).emb j) := by
    funext j
    have h : ∃ t', ∃ j', (r t').emb j' = (r t).emb j := ⟨t, j, rfl⟩
    have key (t' : T) (j' : (r t').shape.Idx) (e' : (r t').emb j' = (r t).emb j) : Xs t' j' = Xs t j := by
      have ht : t' = t := by
        by_contra hne
        have hdis : ∀ ⦃i⦄, i ∈ (r t').set → i ∉ (r t).set := Finset.disjoint_left.mp (hd t' t hne)
        refine hdis (i := (r t).emb j) ?_ ?_
        · rw [← e', ← Rect.map_emb_univ]; exact Finset.mem_map_of_mem _ (Finset.mem_univ j')
        · rw [← Rect.map_emb_univ]; exact Finset.mem_map_of_mem _ (Finset.mem_univ j)
      subst ht
      rw [(r t').emb.injective e']
    show _ = if h : ∃ t', ∃ j', (r t').emb j' = (r t).emb j then Xs h.choose h.choose_spec.choose else _
    rw [dif_pos h]
    exact (key _ _ h.choose_spec.choose_spec).symm
  iexists X
  iapply (owns_of_rects (c : Thread nD τ) M fullShare r hr hd hcov X)
  iapply (Entails.of_eq (bigSep_congr fun t _ => congrArg (owns (c : Thread nD τ) (M.slice (r t) (hr t)) fullShare) (hX t))) $$ H

end Any

theorem any_squeeze {sp : Space} {sh sh' : Shape} {e : EltTy} (c : Dev nD) (M : Memref sig .tc sp sh e) (hq : sh.Squeezes sh') :
    Any (F := F) c M ⊢ Any (F := F) c (M.squeeze sh' hq) := by
  unfold Any
  iintro ⟨%X, H⟩
  iexists fun i => X (Shape.reshapeEquiv hq.numel_eq i)
  rw [owns_squeeze]
  simp only [Equiv.apply_symm_apply]
  iexact H
theorem any_unsqueeze {sp : Space} {sh sh' : Shape} {e : EltTy} (c : Dev nD) (M : Memref sig .tc sp sh e) (hq : sh.Squeezes sh') :
    Any (F := F) c (M.squeeze sh' hq) ⊢ Any (F := F) c M := by
  unfold Any
  iintro ⟨%X, H⟩
  iexists fun i => X ((Shape.reshapeEquiv hq.numel_eq).symm i)
  iapply (Entails.of_eq (owns_squeeze c M hq fullShare X)) $$ H

/-! ## The families of parts -/

abbrev boxR (p : Fin 4 × Fin 2) : Rect S4096x2048 := Rect.unit (s := S4096x2048) (boxOff p.1 p.2) S1024x1024.size (boxOff_inb p.1 p.2)
theorem box_disjoint (p p' : Fin 4 × Fin 2) (h : p ≠ p') : Disjoint (boxR p).set (boxR p').set := by
  by_cases hq : p.1 = p'.1
  · exact Rect.unit_disjoint (1 : Fin 2) (by revert p p'; decide)
  · exact Rect.unit_disjoint (0 : Fin 2) (by revert p p'; decide)
theorem box_cover : (Finset.univ : Finset (Fin 4 × Fin 2)).biUnion (fun p => (boxR p).set) = Finset.univ := by
  refine Finset.eq_univ_iff_forall.mpr fun i => Finset.mem_biUnion.mpr ?_
  have h0 : (i (0 : Fin 2)).val < 4096 := (i (0 : Fin 2)).isLt
  have h1 : (i (1 : Fin 2)).val < 2048 := (i (1 : Fin 2)).isLt
  refine ⟨(⟨(i (0 : Fin 2)).val / 1024, by omega⟩, ⟨(i (1 : Fin 2)).val / 1024, by omega⟩), Finset.mem_univ _,
    Rect.mem_set_unit.mpr (Fin.forall_fin_two.mpr ⟨?_, ?_⟩)⟩
  · show 1024 * ((i (0 : Fin 2)).val / 1024) ≤ _ ∧ _ < 1024 * ((i (0 : Fin 2)).val / 1024) + 1024; omega
  · show 1024 * ((i (1 : Fin 2)).val / 1024) ≤ _ ∧ _ < 1024 * ((i (1 : Fin 2)).val / 1024) + 1024; omega

abbrev chunkR (q : Fin 4) : Rect S4096x1024 := Rect.unit (s := S4096x1024) (chunkOff q) S1024x1024.size (chunkOff_inb q)
theorem chunk_disjoint (q q' : Fin 4) (h : q ≠ q') : Disjoint (chunkR q).set (chunkR q').set :=
  Rect.unit_disjoint (0 : Fin 2) (by revert q q'; decide)
theorem chunk_cover : (Finset.univ : Finset (Fin 4)).biUnion (fun q => (chunkR q).set) = Finset.univ := by
  refine Finset.eq_univ_iff_forall.mpr fun i => Finset.mem_biUnion.mpr ?_
  have h0 : (i (0 : Fin 2)).val < 4096 := (i (0 : Fin 2)).isLt
  have h1 : (i (1 : Fin 2)).val < 1024 := (i (1 : Fin 2)).isLt
  refine ⟨⟨(i (0 : Fin 2)).val / 1024, by omega⟩, Finset.mem_univ _, Rect.mem_set_unit.mpr (Fin.forall_fin_two.mpr ⟨?_, ?_⟩)⟩
  · show 1024 * ((i (0 : Fin 2)).val / 1024) ≤ _ ∧ _ < 1024 * ((i (0 : Fin 2)).val / 1024) + 1024; omega
  · show 0 ≤ _ ∧ _ < 0 + 1024; omega

abbrev colR (d : Fin 2) : Rect S1024x2048 := Rect.unit (s := S1024x2048) (colOff d) S1024x1024.size (colOff_inb d)
theorem col_disjoint (d d' : Fin 2) (h : d ≠ d') : Disjoint (colR d).set (colR d').set :=
  Rect.unit_disjoint (1 : Fin 2) (by revert d d'; decide)
theorem col_cover : (Finset.univ : Finset (Fin 2)).biUnion (fun d => (colR d).set) = Finset.univ := by
  refine Finset.eq_univ_iff_forall.mpr fun i => Finset.mem_biUnion.mpr ?_
  have h0 : (i (0 : Fin 2)).val < 1024 := (i (0 : Fin 2)).isLt
  have h1 : (i (1 : Fin 2)).val < 2048 := (i (1 : Fin 2)).isLt
  refine ⟨⟨(i (1 : Fin 2)).val / 1024, by omega⟩, Finset.mem_univ _, Rect.mem_set_unit.mpr (Fin.forall_fin_two.mpr ⟨?_, ?_⟩)⟩
  · show 0 ≤ _ ∧ _ < 0 + 1024; omega
  · show 1024 * ((i (1 : Fin 2)).val / 1024) ≤ _ ∧ _ < 1024 * ((i (1 : Fin 2)).val / 1024) + 1024; omega

abbrev pairR (s : Fin 2) : Rect S2x1024x1024 := Rect.unit (s := S2x1024x1024) (pairOff s) S1x1024x1024.size (pairOff_inb s)
theorem pair_disjoint (s s' : Fin 2) (h : s ≠ s') : Disjoint (pairR s).set (pairR s').set :=
  Rect.unit_disjoint (0 : Fin 3) (by revert s s'; decide)
theorem pair_cover : (Finset.univ : Finset (Fin 2)).biUnion (fun s => (pairR s).set) = Finset.univ := by
  refine Finset.eq_univ_iff_forall.mpr fun i => Finset.mem_biUnion.mpr ?_
  have h0 : (i (0 : Fin 3)).val < 2 := (i (0 : Fin 3)).isLt
  have h1 : (i (1 : Fin 3)).val < 1024 := (i (1 : Fin 3)).isLt
  have h2 : (i (2 : Fin 3)).val < 1024 := (i (2 : Fin 3)).isLt
  refine ⟨⟨(i (0 : Fin 3)).val, h0⟩, Finset.mem_univ _, Rect.mem_set_unit.mpr (Fin.forall_fin_succ.mpr ⟨?_, Fin.forall_fin_two.mpr ⟨?_, ?_⟩⟩)⟩
  · show (i (0 : Fin 3)).val ≤ (i (0 : Fin 3)).val ∧ (i (0 : Fin 3)).val < (i (0 : Fin 3)).val + 1; omega
  · show 0 ≤ (i (1 : Fin 3)).val ∧ (i (1 : Fin 3)).val < 0 + 1024; omega
  · show 0 ≤ (i (2 : Fin 3)).val ∧ (i (2 : Fin 3)).val < 0 + 1024; omega

abbrev slotR (p : Fin 3 × Fin 2) : Rect S3x1024x1024 := Rect.unit (s := S3x1024x1024) (slotOff p.1 p.2) S1x512x1024.size (slotOff_inb p.1 p.2)
theorem slot_disjoint (p p' : Fin 3 × Fin 2) (h : p ≠ p') : Disjoint (slotR p).set (slotR p').set := by
  by_cases hq : p.1 = p'.1
  · exact Rect.unit_disjoint (1 : Fin 3) (by revert p p'; decide)
  · exact Rect.unit_disjoint (0 : Fin 3) (by revert p p'; decide)
theorem slot_cover : (Finset.univ : Finset (Fin 3 × Fin 2)).biUnion (fun p => (slotR p).set) = Finset.univ := by
  refine Finset.eq_univ_iff_forall.mpr fun i => Finset.mem_biUnion.mpr ?_
  have h0 : (i (0 : Fin 3)).val < 3 := (i (0 : Fin 3)).isLt
  have h1 : (i (1 : Fin 3)).val < 1024 := (i (1 : Fin 3)).isLt
  have h2 : (i (2 : Fin 3)).val < 1024 := (i (2 : Fin 3)).isLt
  refine ⟨(⟨(i (0 : Fin 3)).val, h0⟩, ⟨(i (1 : Fin 3)).val / 512, by omega⟩), Finset.mem_univ _,
    Rect.mem_set_unit.mpr (Fin.forall_fin_succ.mpr ⟨?_, Fin.forall_fin_two.mpr ⟨?_, ?_⟩⟩)⟩
  · show (i (0 : Fin 3)).val ≤ (i (0 : Fin 3)).val ∧ (i (0 : Fin 3)).val < (i (0 : Fin 3)).val + 1; omega
  · show 512 * ((i (1 : Fin 3)).val / 512) ≤ (i (1 : Fin 3)).val ∧ (i (1 : Fin 3)).val < 512 * ((i (1 : Fin 3)).val / 512) + 512; omega
  · show 0 ≤ (i (2 : Fin 3)).val ∧ (i (2 : Fin 3)).val < 0 + 1024; omega

/-! ## The buffers -/

section Buffers

variable (c : Dev nD)

/-- The places of a direction in which summands arrive. -/
theorem slots_split (d : Fin 2) : Any (F := F) c (slotM d) ⊢ bigSep Finset.univ fun p : Fin 3 × Fin 2 => Any (F := F) c (slot d p.1 p.2) :=
  (any_split c (slotM d) slotR (fun _ _ => rfl) slot_disjoint slot_cover).trans
    (bigSep_mono fun p _ => any_squeeze c (slotBox d p.1 p.2) squeezes_S1x512x1024_S512x1024)
theorem slots_join (d : Fin 2) : (bigSep Finset.univ fun p : Fin 3 × Fin 2 => Any (F := F) c (slot d p.1 p.2)) ⊢ Any (F := F) c (slotM d) :=
  BIBase.Entails.trans (bigSep_mono fun p _ => any_unsqueeze c (slotBox d p.1 p.2) squeezes_S1x512x1024_S512x1024)
    (any_join c (slotM d) slotR (fun _ _ => rfl) slot_disjoint slot_cover)

/-- The two places for chunks of `x`, -/
theorem xbuf_split : Any (F := F) c xbufM ⊢ iprop(Any (F := F) c (xslot 0) ∗ Any (F := F) c (xslot 1)) :=
  ((any_split c xbufM pairR (fun _ _ => rfl) pair_disjoint pair_cover).trans
    (bigSep_mono fun s _ => any_squeeze c (xbox s) squeezes_S1x1024x1024_S1024x1024)).trans (Entails.of_eq (sep_two _))
theorem xbuf_join : iprop(Any (F := F) c (xslot 0) ∗ Any (F := F) c (xslot 1)) ⊢ Any (F := F) c xbufM :=
  (Entails.of_eq (sep_two fun s => Any (F := F) c (xslot s)).symm).trans
    (BIBase.Entails.trans (bigSep_mono fun s _ => any_unsqueeze c (xbox s) squeezes_S1x1024x1024_S1024x1024)
      (any_join c xbufM pairR (fun _ _ => rfl) pair_disjoint pair_cover))
/-- the two in the working type, -/
theorem xhbuf_split : Any (F := F) c xhM ⊢ iprop(Any (F := F) c (xhbox 0) ∗ Any (F := F) c (xhbox 1)) :=
  (any_split c xhM pairR (fun _ _ => rfl) pair_disjoint pair_cover).trans (Entails.of_eq (sep_two _))
theorem xhbuf_join : iprop(Any (F := F) c (xhbox 0) ∗ Any (F := F) c (xhbox 1)) ⊢ Any (F := F) c xhM :=
  (Entails.of_eq (sep_two fun s => Any (F := F) c (xhbox s)).symm).trans (any_join c xhM pairR (fun _ _ => rfl) pair_disjoint pair_cover)
/-- and the weights' two halves. -/
theorem whbuf_split : Any (F := F) c whM ⊢ iprop(Any (F := F) c (wcol 0) ∗ Any (F := F) c (wcol 1)) :=
  (any_split c whM colR (fun _ _ => rfl) col_disjoint col_cover).trans (Entails.of_eq (sep_two _))
theorem whbuf_join : iprop(Any (F := F) c (wcol 0) ∗ Any (F := F) c (wcol 1)) ⊢ Any (F := F) c whM :=
  (Entails.of_eq (sep_two fun d => Any (F := F) c (wcol d)).symm).trans (any_join c whM colR (fun _ _ => rfl) col_disjoint col_cover)

end Buffers

/-! ## The chunks, from a device on -/

section Turns

variable {M : Type} [URA M]

/-- Four things in the order in which a device comes to them. -/
theorem sep_turn (c : Dev nD) (Φ : Fin 4 → sProp M) :
    bigSep Finset.univ Φ = iprop(Φ (xq c 0 0) ∗ Φ (xq c 1 0) ∗ Φ (xq c 0 1) ∗ Φ (xq c 1 1)) :=
  bigSep_eq_bigSepL_of_eq [xq c 0 0, xq c 1 0, xq c 0 1, xq c 1 1] (by revert c; decide) (by revert c; decide) Φ
/-- The same in the order in which a direction of the ring brings them. -/
theorem sep_ring (d : Fin 2) (c : Dev nD) (Φ : Fin 4 → sProp M) :
    bigSep Finset.univ Φ = iprop(Φ (ck d c 3) ∗ Φ (ck d c 4) ∗ Φ (ck d c 5) ∗ Φ (ck d c 6)) :=
  bigSep_eq_bigSepL_of_eq [ck d c 3, ck d c 4, ck d c 5, ck d c 6] (by revert d c; decide) (by revert d c; decide) Φ

end Turns

variable (xs : Dev nD → S4096x1024.Idx → Elt F .f32) (ws : Dev nD → S1024x2048.Idx → Elt F .f32) (c : Dev nD)

theorem chunks_split : (owns (c : Thread nD τ) xM fullShare (xs c) : sProp 𝕄) ⊢ chunks xs c :=
  (owns_rects (c : Thread nD τ) xM fullShare chunkR (fun _ _ => rfl) chunk_disjoint chunk_cover (xs c)).trans (Entails.of_eq (sep_turn c _))
theorem chunks_join : chunks xs c ⊢ (owns (c : Thread nD τ) xM fullShare (xs c) : sProp 𝕄) :=
  (Entails.of_eq (sep_turn c fun q => xck xs c q).symm).trans
    (owns_of_rects (c : Thread nD τ) xM fullShare chunkR (fun _ _ => rfl) chunk_disjoint chunk_cover (xs c))

/-! ## The sums and the result -/

theorem any_box {sp : Space} (M : Memref sig .tc sp S4096x2048 .bf16) (q : Fin 4) (d : Fin 2) :
    Any (F := F) c (box M q d) ⊢ iprop(Any (F := F) c (piece M q 0 d) ∗ Any (F := F) c (piece M q 1 d)) := by
  unfold Any
  iintro ⟨%X, H⟩
  ihave H := (box_split M c q d fullShare X) $$ H
  icases H with ⟨H0, H1⟩
  isplitl [H0]
  · iexists _; iexact H0
  · iexists _; iexact H1
theorem any_unbox {sp : Space} (M : Memref sig .tc sp S4096x2048 .bf16) (q : Fin 4) (d : Fin 2) :
    iprop(Any (F := F) c (piece M q 0 d) ∗ Any (F := F) c (piece M q 1 d)) ⊢ Any (F := F) c (box M q d) := by
  unfold Any
  iintro ⟨⟨%X0, H0⟩, ⟨%X1, H1⟩⟩
  iexists glue ![X0, X1]
  iapply (box_join M c q d fullShare (glue ![X0, X1]))
  rw [rows_glue, rows_glue]
  iframe H0 H1

/-- Where the sums go, all of it. -/
theorem res_split : Any (F := F) c resM ⊢ places (F := F) c := by
  refine (any_split c resM boxR (fun _ _ => rfl) box_disjoint box_cover).trans ?_
  rw [bigSep_univ_prod, sep_turn c]
  simp only [sep_two]
  unfold places
  iintro ⟨⟨A0, A1⟩, ⟨B0, B1⟩, ⟨C0, C1⟩, D0, D1⟩
  ihave A0 := (show Any (F := F) c (resM.slice (boxR (xq c 0 0, 0)) (fun _ => rfl)) ⊢ _ from any_box c resM c 0) $$ A0
  iframe A0 A1 B0 B1 C0 C1 D0 D1

/-- The result: each device's complete chunks, side by side. -/
def result : S4096x2048.Idx → Elt F .bf16 := fun i =>
  fullBox xs ws ⟨(i (1 : Fin 2)).val / 1024, by have h : (i (1 : Fin 2)).val < 2048 := (i (1 : Fin 2)).isLt; omega⟩
    ⟨(i (0 : Fin 2)).val / 1024, by have h : (i (0 : Fin 2)).val < 4096 := (i (0 : Fin 2)).isLt; omega⟩
    (Idealize.ShloMosaic.ValueIdx.ix2 ⟨(i (0 : Fin 2)).val % 1024, Nat.mod_lt _ (by decide)⟩ ⟨(i (1 : Fin 2)).val % 1024, Nat.mod_lt _ (by decide)⟩)

theorem result_box (q : Fin 4) (d : Fin 2) : (fun i => result xs ws ((boxR (q, d)).emb i)) = fullBox xs ws d q := by
  funext i
  have h0 : (i (0 : Fin 2)).val < 1024 := (i (0 : Fin 2)).isLt
  have h1 : (i (1 : Fin 2)).val < 1024 := (i (1 : Fin 2)).isLt
  have e0 : ((boxR (q, d)).emb i (0 : Fin 2)).val = 1024 * q.val + 1 * (i (0 : Fin 2)).val := rfl
  have e1 : ((boxR (q, d)).emb i (1 : Fin 2)).val = 1024 * d.val + 1 * (i (1 : Fin 2)).val := rfl
  show fullBox xs ws _ _ _ = _
  congr 1
  · apply Fin.ext; show _ / 1024 = d.val; rw [e1]; omega
  · apply Fin.ext; show _ / 1024 = q.val; rw [e0]; omega
  · funext a; revert a
    refine Fin.forall_fin_two.mpr ⟨?_, ?_⟩
    · apply Fin.ext; show _ % 1024 = _; rw [e0]; omega
    · apply Fin.ext; show _ % 1024 = _; rw [e1]; omega

theorem fullBox_rows (d : Fin 2) (q : Fin 4) (j : Fin 2) : rows j (fullBox xs ws d q) = full xs ws d q j := by
  unfold fullBox; rw [rows_glue]

/-- A chunk of it from its pieces. -/
theorem full_join {sp : Space} (M : Memref sig .tc sp S4096x2048 .bf16) (q : Fin 4) (d : Fin 2) (sh : PosShare TreeShare) :
    iprop(owns (c : Thread nD τ) (piece M q 0 d) sh (full xs ws d q 0) ∗ owns (c : Thread nD τ) (piece M q 1 d) sh (full xs ws d q 1))
      ⊢ (owns (c : Thread nD τ) (box M q d) sh (fullBox xs ws d q) : sProp 𝕄) := by
  refine BIBase.Entails.trans (Entails.of_eq ?_) (box_join M c q d sh (fullBox xs ws d q))
  rw [fullBox_rows, fullBox_rows]

/-- The result from its boxes; -/
theorem out_join {sp : Space} (M : Memref sig .tc sp S4096x2048 .bf16) :
    (bigSep Finset.univ fun d : Fin 2 => bigSep Finset.univ fun q : Fin 4 => owns (c : Thread nD τ) (box M q d) fullShare (fullBox xs ws d q))
      ⊢ (owns (c : Thread nD τ) M fullShare (result xs ws) : sProp 𝕄) := by
  refine BIBase.Entails.trans (Entails.of_eq ?_) (owns_of_rects (c : Thread nD τ) M fullShare boxR (fun _ _ => rfl) box_disjoint box_cover (result xs ws))
  rw [bigSep_univ_comm (fun (d : Fin 2) (q : Fin 4) => owns (c : Thread nD τ) (box M q d) fullShare (fullBox xs ws d q)), bigSep_univ_prod]
  refine bigSep_congr fun q _ => bigSep_congr fun d _ => ?_
  rw [result_box]

end Cert.KernelIdeal.Ring

end
-- ==== Proof.Ends.lean ====
/- A device's start from its whole buffers, and its end: the buffers whole again, the result in place, every semaphore
   at rest. -/
module

public import proofs.«01_k».proof.Proof.Split

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the semaphores -/

section Families

variable {M : Type} [URA M]

theorem sep_sum {A B : Type} [Fintype A] [Fintype B] (Φ : A ⊕ B → sProp M) :
    bigSep Finset.univ Φ = iprop((bigSep Finset.univ fun a => Φ (.inl a)) ∗ bigSep Finset.univ fun b => Φ (.inr b)) := bigSep_univ_sum Φ
theorem sep_sc (Φ : Sc → sProp M) :
    bigSep Finset.univ Φ = iprop(((bigSep Finset.univ fun p : Tr => Φ (.inl (.inl p))) ∗ bigSep Finset.univ fun p : Tr => Φ (.inl (.inr p)))
      ∗ (bigSep Finset.univ fun s : Fin 2 => Φ (.inr (.inl s))) ∗ bigSep Finset.univ fun k : Fin 4 => Φ (.inr (.inr k))) := by
  rw [sep_sum, sep_sum (fun a => Φ (.inl a)), sep_sum (fun a => Φ (.inr a))]
theorem sep_tr (Φ : Fin 2 → Fin 2 → Fin 6 → sProp M) :
    (bigSep Finset.univ fun p : Tr => Φ p.1 p.2.1 p.2.2)
      = iprop((bigSep Finset.univ fun j => bigSep Finset.univ fun t => Φ 0 j t) ∗ bigSep Finset.univ fun j => bigSep Finset.univ fun t => Φ 1 j t) := by
  rw [bigSep_univ_prod (fun p : Tr => Φ p.1 p.2.1 p.2.2), sep_two, bigSep_univ_prod (fun p : Fin 2 × Fin 6 => Φ 0 p.1 p.2),
    bigSep_univ_prod (fun p : Fin 2 × Fin 6 => Φ 1 p.1 p.2)]
/-- The same with the halves of a transfer next to each other. -/
theorem sep_tr' (Φ : Fin 2 → Fin 2 → Fin 6 → sProp M) :
    (bigSep Finset.univ fun p : Tr => Φ p.1 p.2.1 p.2.2)
      = iprop((bigSep Finset.univ fun p : Fin 6 × Fin 2 => Φ 0 p.2 p.1) ∗ bigSep Finset.univ fun p : Fin 6 × Fin 2 => Φ 1 p.2 p.1) := by
  rw [sep_tr, bigSep_univ_comm (fun (j : Fin 2) (t : Fin 6) => Φ 0 j t), bigSep_univ_comm (fun (j : Fin 2) (t : Fin 6) => Φ 1 j t),
    bigSep_univ_prod (fun p : Fin 6 × Fin 2 => Φ 0 p.2 p.1), bigSep_univ_prod (fun p : Fin 6 × Fin 2 => Φ 1 p.2 p.1)]

end Families

variable (xs : Dev nD → S4096x1024.Idx → Elt F .f32) (ws : Dev nD → S1024x2048.Idx → Elt F .f32) (c : Dev nD)

/-! ## The start -/

/-- The payments a device may make: at the barrier, its copies at their source and at their target, its loads and its
    stores. -/
def rights : sProp 𝕄 :=
  iprop((dutyTok ER (cell (nx 1 c) .bar) 0 0 ∗ dutyTok ER (cell (nx 0 c) .bar) 0 1)
    ∗ (bigSep Finset.univ fun p : Tr => dutyTok ER (cell c (.snd p.1 p.2.2 p.2.1)) 0 0)
    ∗ (bigSep Finset.univ fun p : Tr => dutyTok ER (cell (nx p.1 c) (.rcv p.1 p.2.2 p.2.1)) 0 0)
    ∗ (bigSep Finset.univ fun s : Fin 2 => bigSep Finset.univ fun r : Fin 2 => dutyTok ER (cell c (.xl s)) r.val 0)
    ∗ bigSep Finset.univ fun k : Fin 4 => bigSep Finset.univ fun r : Fin 4 => dutyTok ER (cell c (.st k)) r.val 0)
/-- What its neighbours will pay to it. -/
def promises : sProp 𝕄 :=
  iprop(cred (tallyAt (cell c .bar) () 2) ∗ bigSep Finset.univ fun p : Tr => cred (tallyAt (cell c (.rcv p.1 p.2.2 p.2.1)) () nP))
/-- It has used none of its semaphores but the barrier's; it has used all of them. -/
def fresh : sProp 𝕄 := bigSep Finset.univ fun s : Sc => pos (F := F) c (scCell s) 0
def used : sProp 𝕄 := bigSep Finset.univ fun s : Sc => pos (F := F) c (scCell s) (uses (scCell s))
/-- The buffers the kernel works in. -/
def room : sProp 𝕄 :=
  iprop(Any (F := F) c resM ∗ Any (F := F) c (slotM 0) ∗ Any (F := F) c (slotM 1) ∗ Any (F := F) c xbufM ∗ Any (F := F) c xhM ∗ Any (F := F) c whM)

theorem seats_all :
    iprop((bigSep Finset.univ fun p : Tr => dutyTok ER (cell c (.snd p.1 p.2.2 p.2.1)) 0 0)
      ∗ (bigSep Finset.univ fun p : Tr => dutyTok ER (cell (nx p.1 c) (.rcv p.1 p.2.2 p.2.1)) 0 0)
      ∗ (bigSep Finset.univ fun p : Tr => pos (F := F) c (.snd p.1 p.2.2 p.2.1) 0)
      ∗ (bigSep Finset.univ fun p : Tr => pos (F := F) c (.rcv p.1 p.2.2 p.2.1) 0)
      ∗ bigSep Finset.univ fun p : Tr => cred (tallyAt (cell c (.rcv p.1 p.2.2 p.2.1)) () nP))
      ⊢ iprop(seats (F := F) c 0 ∗ seats (F := F) c 1) := by
  unfold seats
  rw [← sep_tr (fun d j t => seat (F := F) c d j t)]
  unfold seat
  rw [bigSep_sep', bigSep_sep', bigSep_sep', bigSep_sep']

theorem pos_heard (x : Cell) : pos (F := F) c x 0 ⊢ iprop(pos (F := F) c x 0 ∗ reached ER (cell c x) 0) := by
  unfold pos
  iintro ⟨H, #HR⟩
  isplitl [H]
  · isplitl [H]; · iexact H
    iexact HR
  · iexact HR
/-- A device knows of its own semaphores that they are in use. -/
theorem heard : (bigSep Finset.univ fun p : Tr => pos (F := F) c (.rcv p.1 p.2.2 p.2.1) 0)
    ⊢ iprop((bigSep Finset.univ fun p : Tr => pos (F := F) c (.rcv p.1 p.2.2 p.2.1) 0)
      ∗ (bigSep Finset.univ fun p : Fin 6 × Fin 2 => reached ER (cell c (.rcv 0 p.1 p.2)) 0)
      ∗ bigSep Finset.univ fun p : Fin 6 × Fin 2 => reached ER (cell c (.rcv 1 p.1 p.2)) 0) := by
  rw [← sep_tr' (fun d j t => (reached ER (cell c (.rcv d t j)) 0 : sProp 𝕄)), ← bigSep_sep']
  exact bigSep_mono fun p _ => pos_heard c _

/-- The places of a direction's stores: a chunk whole, the others in their two pieces. -/
theorem out_places (d : Fin 2) :
    (bigSep Finset.univ fun q : Fin 4 => Any (F := F) c (box outM q d))
      ⊢ iprop(Any (F := F) c (box outM (ck d c 3) d)
        ∗ (Any (F := F) c (piece outM (ck d c 4) 0 d) ∗ Any (F := F) c (piece outM (ck d c 5) 0 d) ∗ Any (F := F) c (piece outM (ck d c 6) 0 d))
        ∗ (Any (F := F) c (piece outM (ck d c 4) 1 d) ∗ Any (F := F) c (piece outM (ck d c 5) 1 d) ∗ Any (F := F) c (piece outM (ck d c 6) 1 d))) := by
  rw [sep_ring d c]
  iintro ⟨H3, H4, H5, H6⟩
  ihave H4 := (any_box c outM (ck d c 4) d) $$ H4
  ihave H5 := (any_box c outM (ck d c 5) d) $$ H5
  ihave H6 := (any_box c outM (ck d c 6) d) $$ H6
  icases H4 with ⟨A4, B4⟩
  icases H5 with ⟨A5, B5⟩
  icases H6 with ⟨A6, B6⟩
  iframe H3 A4 A5 A6 B4 B5 B6

/-- Ready for the stores counted by one semaphore: four for the first two, -/
theorem store_fresh (k : Fin 4) (hk : k.val < 2) :
    iprop((bigSep Finset.univ fun r : Fin 4 => dutyTok ER (cell c (.st k)) r.val 0) ∗ pos (F := F) c (.st k) 0
      ∗ Any (F := F) c (box outM (ck (stD k) c 3) (stD k)) ∗ Any (F := F) c (piece outM (ck (stD k) c 4) 1 (stD k))
      ∗ Any (F := F) c (piece outM (ck (stD k) c 5) 1 (stD k)) ∗ Any (F := F) c (piece outM (ck (stD k) c 6) 1 (stD k)))
      ⊢ sready xs ws c k 0 := by
  unfold sready
  have hu : uses (.st k) = 4 := if_pos hk
  rw [stoks_at c k 0 (by omega), stoks_at c k 1 (by omega), stoks_at c k 2 (by omega), stoks_at c k 3 (by omega), hu]
  unfold place
  rw [if_pos ⟨rfl, hk⟩, if_neg (by omega), if_neg (by omega), if_neg (by omega), sep_four]
  have hj : stJ k = 1 := if_pos hk
  have ht (r : ℕ) : stT k r = r + 3 := if_pos hk
  rw [hj, ht, ht, ht]
  iintro ⟨⟨T0, T1, T2, T3⟩, Hp, P0, P1, P2, P3⟩
  isplitr [Hp]
  · isplitl [T0 P0]; · isplitl [T0] <;> [iexact T0; iexact P0]
    isplitl [T1 P1]; · isplitl [T1] <;> [iexact T1; iexact P1]
    isplitl [T2 P2]; · isplitl [T2] <;> [iexact T2; iexact P2]
    isplitl [T3 P3]; · isplitl [T3] <;> [iexact T3; iexact P3]
    unfold stoks; iempintro
  isplitr
  · unfold stored; iempintro
  · iexact Hp
/-- three for the others. -/
theorem store_fresh' (k : Fin 4) (hk : ¬ k.val < 2) :
    iprop((bigSep Finset.univ fun r : Fin 4 => dutyTok ER (cell c (.st k)) r.val 0) ∗ pos (F := F) c (.st k) 0
      ∗ Any (F := F) c (piece outM (ck (stD k) c 4) 0 (stD k)) ∗ Any (F := F) c (piece outM (ck (stD k) c 5) 0 (stD k))
      ∗ Any (F := F) c (piece outM (ck (stD k) c 6) 0 (stD k)))
      ⊢ sready xs ws c k 0 := by
  unfold sready
  have hu : uses (.st k) = 3 := if_neg hk
  rw [stoks_at c k 0 (by omega), stoks_at c k 1 (by omega), stoks_at c k 2 (by omega), hu]
  unfold place
  rw [if_neg (by omega), if_neg (by omega), if_neg (by omega), sep_four]
  have hj : stJ k = 0 := if_neg hk
  have ht (r : ℕ) : stT k r = r + 4 := if_neg hk
  rw [hj, ht, ht, ht]
  iintro ⟨⟨T0, T1, T2, -⟩, Hp, P0, P1, P2⟩
  isplitr [Hp]
  · isplitl [T0 P0]; · isplitl [T0] <;> [iexact T0; iexact P0]
    isplitl [T1 P1]; · isplitl [T1] <;> [iexact T1; iexact P1]
    isplitl [T2 P2]; · isplitl [T2] <;> [iexact T2; iexact P2]
    unfold stoks; iempintro
  isplitr
  · unfold stored; iempintro
  · iexact Hp

theorem stores_fresh :
    iprop((bigSep Finset.univ fun k : Fin 4 => bigSep Finset.univ fun r : Fin 4 => dutyTok ER (cell c (.st k)) r.val 0)
      ∗ (bigSep Finset.univ fun k : Fin 4 => pos (F := F) c (.st k) 0) ∗ Any (F := F) c outM)
      ⊢ iprop(sready xs ws c 0 0 ∗ sready xs ws c 1 0 ∗ sready xs ws c 2 0 ∗ sready xs ws c 3 0) := by
  rw [sep_four fun k : Fin 4 => bigSep Finset.univ fun r : Fin 4 => (dutyTok ER (cell c (.st k)) r.val 0 : sProp 𝕄),
    sep_four fun k : Fin 4 => pos (F := F) c (.st k) 0]
  iintro ⟨⟨T0, T1, T2, T3⟩, ⟨Q0, Q1, Q2, Q3⟩, HA⟩
  ihave HA := (show Any (F := F) c outM ⊢ iprop((bigSep Finset.univ fun q : Fin 4 => Any (F := F) c (box outM q 0))
      ∗ bigSep Finset.univ fun q : Fin 4 => Any (F := F) c (box outM q 1)) from by
    refine (any_split c outM boxR (fun _ _ => rfl) box_disjoint box_cover).trans (Entails.of_eq ?_)
    rw [bigSep_univ_prod, bigSep_univ_comm (fun (q : Fin 4) (d : Fin 2) => Any (F := F) c (box outM q d)), sep_two]) $$ HA
  icases HA with ⟨A, B⟩
  ihave A := (out_places c 0) $$ A
  ihave B := (out_places c 1) $$ B
  icases A with ⟨A3, A0, A1⟩
  icases B with ⟨B3, B0, B1⟩
  isplitl [T0 Q0 A3 A1]
  · iapply (store_fresh xs ws c 0 (by decide))
    isplitl [T0]; · iexact T0
    isplitl [Q0]; · iexact Q0
    isplitl [A3]; · iexact A3
    iexact A1
  isplitl [T1 Q1 B3 B1]
  · iapply (store_fresh xs ws c 1 (by decide))
    isplitl [T1]; · iexact T1
    isplitl [Q1]; · iexact Q1
    isplitl [B3]; · iexact B3
    iexact B1
  isplitl [T2 Q2 A0]
  · iapply (store_fresh' xs ws c 2 (by decide))
    isplitl [T2]; · iexact T2
    isplitl [Q2]; · iexact Q2
    iexact A0
  iapply (store_fresh' xs ws c 3 (by decide))
  isplitl [T3]; · iexact T3
  isplitl [Q3]; · iexact Q3
  iexact B0

theorem loads_fresh :
    iprop((bigSep Finset.univ fun s : Fin 2 => bigSep Finset.univ fun r : Fin 2 => dutyTok ER (cell c (.xl s)) r.val 0)
      ∗ (bigSep Finset.univ fun s : Fin 2 => pos (F := F) c (.xl s) 0) ∗ Any (F := F) c xbufM)
      ⊢ iprop(xready (F := F) c 0 0 ∗ xready (F := F) c 1 0) := by
  rw [sep_two fun s : Fin 2 => bigSep Finset.univ fun r : Fin 2 => (dutyTok ER (cell c (.xl s)) r.val 0 : sProp 𝕄),
    sep_two fun s : Fin 2 => pos (F := F) c (.xl s) 0, sep_two, sep_two]
  iintro ⟨⟨T0, T1⟩, ⟨Q0, Q1⟩, HA⟩
  ihave HA := (xbuf_split c) $$ HA
  icases HA with ⟨A0, A1⟩
  have ht (s : Fin 2) : iprop(dutyTok ER (cell c (.xl s)) 0 0 ∗ dutyTok ER (cell c (.xl s)) 1 0) ⊢ xtoks (F := F) c s 0 := .rfl
  unfold xready
  isplitl [T0 Q0 A0]
  · isplitl [T0]; · iapply (ht 0); iexact T0
    isplitl [Q0]; · iexact Q0
    iexact A0
  · isplitl [T1]; · iapply (ht 1); iexact T1
    isplitl [Q1]; · iexact Q1
    iexact A1

/-- A device starts from its whole buffers. -/
theorem start_intro :
    iprop(debt (F := F) c 0 ∗ rights (F := F) c ∗ promises (F := F) c ∗ pos (F := F) c .bar 0 ∗ fresh (F := F) c
      ∗ owns (c : Thread nD τ) xM fullShare (xs c) ∗ wraw ws c ∗ Any (F := F) c outM ∗ room (F := F) c)
      ⊢ start xs ws c := by
  unfold rights promises fresh room start greet
  rw [sep_sc]
  iintro ⟨HO, ⟨Hb, Hs, Hr, Hx, Ht⟩, ⟨Hcb, Hcr⟩, Hpb, ⟨⟨Ps, Pr⟩, Px, Pt⟩, Ha, Hw, Hout, Hres, Hs0, Hs1, Hxb, Hxh, Hwh⟩
  ihave Pr := (show (bigSep Finset.univ fun p : Tr => pos (F := F) c (scCell (.inl (.inr p))) 0) ⊢ _ from heard c) $$ Pr
  icases Pr with ⟨Pr, Hreach⟩
  ihave Hs0 := (slots_split c 0) $$ Hs0
  ihave Hs1 := (slots_split c 1) $$ Hs1
  isplitl [HO]; · iexact HO
  isplitl [Hb Hs0 Hs1 Hreach Hpb Hcb]
  · iframe Hb Hs0 Hs1 Hreach Hpb Hcb
  isplitl [Hs Hr Ps Pr Hcr]
  · iapply (seats_all c)
    isplitl [Hs]; · iexact Hs
    isplitl [Hr]; · iexact Hr
    isplitl [Ps]; · iexact Ps
    isplitl [Pr]; · iexact Pr
    iexact Hcr
  isplitl [Ha]; · iapply (chunks_split xs c); iexact Ha
  isplitl [Hx Px Hxb]
  · iapply (loads_fresh c)
    isplitl [Hx]; · iexact Hx
    isplitl [Px]; · iexact Px
    iexact Hxb
  isplitl [Hw]; · iexact Hw
  isplitl [Hwh Hxh]
  · unfold cols
    isplitl [Hwh]; · iapply (whbuf_split c); iexact Hwh
    iapply (xhbuf_split c); iexact Hxh
  isplitl [Hres]; · iapply (res_split c); iexact Hres
  iapply (stores_fresh xs ws c)
  isplitl [Ht]; · iexact Ht
  isplitl [Pt]; · iexact Pt
  iexact Hout

/-! ## The end -/

theorem done_sum (d j : Fin 2) (t : ℕ) (h : t < 3) :
    done xs ws c d j 6 t = iprop(pos (F := F) c (.rcv d (tr t) j) 1 ∗ pos (F := F) c (.snd d (tr t) j) 1 ∗ Any (F := F) c (slot d (sl t) j)) := by
  unfold done; rw [if_pos h]
theorem done_full (d j : Fin 2) (t : ℕ) (h : ¬ t < 3) (h6 : t < 6) :
    done xs ws c d j 6 t = iprop(pos (F := F) c (.rcv d (tr t) j) 1 ∗ pos (F := F) c (.snd d (tr t) j) 1
      ∗ owns (c : Thread nD τ) (piece resM (ck d c t) j d) fullShare.left (full xs ws d (ck d c t) j)) := by
  unfold done; rw [if_neg h, if_pos h6]

/-- What is left of a direction's transfers. -/
theorem ending_dir (d : Fin 2) :
    iprop(ending xs ws c d 0 6 ∗ ending xs ws c d 1 6)
      ⊢ iprop((bigSep Finset.univ fun q : Fin 4 => owns (c : Thread nD τ) (box resM q d) fullShare.left (fullBox xs ws d q))
        ∗ (bigSep Finset.univ fun p : Fin 3 × Fin 2 => Any (F := F) c (slot d p.1 p.2))
        ∗ (bigSep Finset.univ fun j : Fin 2 => bigSep Finset.univ fun t : Fin 6 => pos (F := F) c (.snd d t j) 1)
        ∗ bigSep Finset.univ fun j : Fin 2 => bigSep Finset.univ fun t : Fin 6 => pos (F := F) c (.rcv d t j) 1) := by
  rw [bigSep_univ_prod, sep_ring d c]
  have l0 (j : Fin 2) := done_sum xs ws c d j 0 (by decide)
  have l1 (j : Fin 2) := done_sum xs ws c d j 1 (by decide)
  have l2 (j : Fin 2) := done_sum xs ws c d j 2 (by decide)
  have l3 (j : Fin 2) := done_full xs ws c d j 3 (by decide) (by decide)
  have l4 (j : Fin 2) := done_full xs ws c d j 4 (by decide) (by decide)
  have l5 (j : Fin 2) := done_full xs ws c d j 5 (by decide) (by decide)
  simp only [sep_two, sep_three, sep_six]
  unfold ending
  simp only [l0, l1, l2, l3, l4, l5]
  iintro ⟨⟨E6, ⟨R0, S0, A0⟩, ⟨R1, S1, A1⟩, ⟨R2, S2, A2⟩, ⟨R3, S3, E3⟩, ⟨R4, S4, E4⟩, ⟨R5, S5, E5⟩⟩,
    ⟨F6, ⟨T0, U0, B0⟩, ⟨T1, U1, B1⟩, ⟨T2, U2, B2⟩, ⟨T3, U3, F3⟩, ⟨T4, U4, F4⟩, ⟨T5, U5, F5⟩⟩⟩
  isplitl [E3 E4 E5 E6 F3 F4 F5 F6]
  · isplitl [E3 F3]; · iapply (full_join xs ws c resM (ck d c 3) d fullShare.left); isplitl [E3] <;> iassumption
    isplitl [E4 F4]; · iapply (full_join xs ws c resM (ck d c 4) d fullShare.left); isplitl [E4] <;> iassumption
    isplitl [E5 F5]; · iapply (full_join xs ws c resM (ck d c 5) d fullShare.left); isplitl [E5] <;> iassumption
    iapply (full_join xs ws c resM (ck d c 6) d fullShare.left); isplitl [E6] <;> iassumption
  isplitl [A0 A1 A2 B0 B1 B2]
  · isplitl [A0 B0]; · isplitl [A0] <;> [iexact A0; iexact B0]
    isplitl [A1 B1]; · isplitl [A1] <;> [iexact A1; iexact B1]
    isplitl [A2] <;> [iexact A2; iexact B2]
  isplitl [S0 S1 S2 S3 S4 S5 U0 U1 U2 U3 U4 U5]
  · isplitl [S0 S1 S2 S3 S4 S5]
    · isplitl [S0]; · iexact S0
      isplitl [S1]; · iexact S1
      isplitl [S2]; · iexact S2
      isplitl [S3]; · iexact S3
      isplitl [S4]; · iexact S4
      iexact S5
    · isplitl [U0]; · iexact U0
      isplitl [U1]; · iexact U1
      isplitl [U2]; · iexact U2
      isplitl [U3]; · iexact U3
      isplitl [U4]; · iexact U4
      iexact U5
  · isplitl [R0 R1 R2 R3 R4 R5]
    · isplitl [R0]; · iexact R0
      isplitl [R1]; · iexact R1
      isplitl [R2]; · iexact R2
      isplitl [R3]; · iexact R3
      isplitl [R4]; · iexact R4
      iexact R5
    · isplitl [T0]; · iexact T0
      isplitl [T1]; · iexact T1
      isplitl [T2]; · iexact T2
      isplitl [T3]; · iexact T3
      isplitl [T4]; · iexact T4
      iexact T5

/-- What is left of a direction's stores: its half of the result and of the right to read the sums. -/
theorem stored_dir (k k' : Fin 4) (d : Fin 2) (hk : k.val < 2) (hk' : ¬ k'.val < 2) (hd : stD k = d) (hd' : stD k' = d) :
    iprop(stored xs ws c k 4 ∗ stored xs ws c k' 3)
      ⊢ iprop((bigSep Finset.univ fun q : Fin 4 => owns (c : Thread nD τ) (box outM q d) fullShare (fullBox xs ws d q))
        ∗ bigSep Finset.univ fun q : Fin 4 => owns (c : Thread nD τ) (box resM q d) fullShare.right (fullBox xs ws d q)) := by
  have hj : stJ k = 1 := if_pos hk
  have ht (r : ℕ) : stT k r = r + 3 := if_pos hk
  have hj' : stJ k' = 0 := if_neg hk'
  have ht' (r : ℕ) : stT k' r = r + 4 := if_neg hk'
  rw [sep_ring d c, sep_ring d c]
  simp only [stored, stPay, hj, ht, hj', ht', hd, hd', hk, hk', and_true, and_false, if_true, if_false, one_ne_zero,
    OfNat.ofNat_ne_zero, Nat.zero_add, Nat.reduceAdd]
  iintro ⟨⟨⟨⟨⟨-, O3, R3⟩, O4, R4⟩, O5, R5⟩, O6, R6⟩, ⟨⟨-, P4, S4⟩, P5, S5⟩, P6, S6⟩
  isplitl [O3 O4 O5 O6 P4 P5 P6]
  · isplitl [O3]; · iexact O3
    isplitl [O4 P4]; · iapply (full_join xs ws c outM (ck d c 4) d fullShare); isplitl [P4] <;> iassumption
    isplitl [O5 P5]; · iapply (full_join xs ws c outM (ck d c 5) d fullShare); isplitl [P5] <;> iassumption
    iapply (full_join xs ws c outM (ck d c 6) d fullShare); isplitl [P6] <;> iassumption
  · isplitl [R3]; · iexact R3
    isplitl [R4 S4]; · iapply (full_join xs ws c resM (ck d c 4) d fullShare.right); isplitl [S4] <;> iassumption
    isplitl [R5 S5]; · iapply (full_join xs ws c resM (ck d c 5) d fullShare.right); isplitl [S5] <;> iassumption
    iapply (full_join xs ws c resM (ck d c 6) d fullShare.right); isplitl [S6] <;> iassumption

/-- The sums, no longer read by anyone. -/
theorem res_join :
    iprop(((bigSep Finset.univ fun q : Fin 4 => owns (c : Thread nD τ) (box resM q 0) fullShare.left (fullBox xs ws 0 q))
        ∗ bigSep Finset.univ fun q : Fin 4 => owns (c : Thread nD τ) (box resM q 1) fullShare.left (fullBox xs ws 1 q))
      ∗ (bigSep Finset.univ fun q : Fin 4 => owns (c : Thread nD τ) (box resM q 0) fullShare.right (fullBox xs ws 0 q))
        ∗ bigSep Finset.univ fun q : Fin 4 => owns (c : Thread nD τ) (box resM q 1) fullShare.right (fullBox xs ws 1 q))
      ⊢ Any (F := F) c resM := by
  refine BIBase.Entails.trans ?_ ((out_join xs ws c resM).trans (any_of_owns c resM _))
  rw [sep_two fun d : Fin 2 => bigSep Finset.univ fun q : Fin 4 => (owns (c : Thread nD τ) (box resM q d) fullShare (fullBox xs ws d q) : sProp 𝕄)]
  have half (d : Fin 2) : iprop((bigSep Finset.univ fun q : Fin 4 => owns (c : Thread nD τ) (box resM q d) fullShare.left (fullBox xs ws d q))
      ∗ bigSep Finset.univ fun q : Fin 4 => owns (c : Thread nD τ) (box resM q d) fullShare.right (fullBox xs ws d q))
      ⊢ (bigSep Finset.univ fun q : Fin 4 => owns (c : Thread nD τ) (box resM q d) fullShare (fullBox xs ws d q) : sProp 𝕄) := by
    rw [← bigSep_sep']
    exact bigSep_mono fun q _ => owns_unhalve c (box resM q d) _
  iintro ⟨⟨A0, A1⟩, B0, B1⟩
  isplitl [A0 B0]
  · iapply (half 0); isplitl [A0] <;> iassumption
  · iapply (half 1); isplitl [A1] <;> iassumption

/-- The device ends with its buffers whole, the result where it belongs. -/
theorem finish_elim :
    finish xs ws c
      ⊢ iprop(debt (F := F) c 26 ∗ pos (F := F) c .bar 1 ∗ used (F := F) c
        ∗ owns (c : Thread nD τ) xM fullShare (xs c) ∗ wraw ws c ∗ owns (c : Thread nD τ) outM fullShare (result xs ws) ∗ room (F := F) c) := by
  unfold finish used room sready xready cols
  rw [sep_sc]
  iintro ⟨HO, Hpb, Hck, ⟨⟨-, X0, A0⟩, -, X1, A1⟩, Hw, ⟨Hwh, Hxh⟩, ⟨E00, E01, E10, E11⟩, ⟨-, D0, P0⟩, ⟨-, D1, P1⟩, ⟨-, D2, P2⟩, -, D3, P3⟩
  ihave E0 := (ending_dir xs ws c 0) $$ [E00 E01]
  · isplitl [E00] <;> iassumption
  ihave E1 := (ending_dir xs ws c 1) $$ [E10 E11]
  · isplitl [E10] <;> iassumption
  ihave S0 := (stored_dir xs ws c 0 2 0 (by decide) (by decide) rfl rfl) $$ [D0 D2]
  · isplitl [D0] <;> iassumption
  ihave S1 := (stored_dir xs ws c 1 3 1 (by decide) (by decide) rfl rfl) $$ [D1 D3]
  · isplitl [D1] <;> iassumption
  icases E0 with ⟨L0, Sl0, Ps0, Pr0⟩
  icases E1 with ⟨L1, Sl1, Ps1, Pr1⟩
  icases S0 with ⟨O0, R0⟩
  icases S1 with ⟨O1, R1⟩
  isplitl [HO]; · iexact HO
  isplitl [Hpb]; · iexact Hpb
  isplitl [Ps0 Ps1 Pr0 Pr1 X0 X1 P0 P1 P2 P3]
  · isplitl [Ps0 Ps1 Pr0 Pr1]
    · isplitl [Ps0 Ps1]
      · iapply (Entails.of_eq (sep_tr fun d j t => pos (F := F) c (.snd d t j) 1).symm)
        isplitl [Ps0] <;> iassumption
      · iapply (Entails.of_eq (sep_tr fun d j t => pos (F := F) c (.rcv d t j) 1).symm)
        isplitl [Pr0] <;> iassumption
    isplitl [X0 X1]
    · iapply (Entails.of_eq (sep_two fun s : Fin 2 => pos (F := F) c (.xl s) 2).symm)
      isplitl [X0] <;> iassumption
    · iapply (Entails.of_eq (sep_four fun k : Fin 4 => pos (F := F) c (.st k) (uses (.st k))).symm)
      isplitl [P0]; · iexact P0
      isplitl [P1]; · iexact P1
      isplitl [P2]; · iexact P2
      iexact P3
  isplitl [Hck]; · iapply (chunks_join xs c); iexact Hck
  isplitl [Hw]; · iexact Hw
  isplitl [O0 O1]
  · iapply (out_join xs ws c outM)
    iapply (Entails.of_eq (sep_two fun d : Fin 2 => bigSep Finset.univ fun q : Fin 4 =>
      (owns (c : Thread nD τ) (box outM q d) fullShare (fullBox xs ws d q) : sProp 𝕄)).symm)
    isplitl [O0] <;> iassumption
  isplitl [L0 L1 R0 R1]
  · iapply (res_join xs ws c)
    isplitl [L0 L1]
    · isplitl [L0] <;> iassumption
    · isplitl [R0] <;> iassumption
  isplitl [Sl0]; · iapply (slots_join c 0); iexact Sl0
  isplitl [Sl1]; · iapply (slots_join c 1); iexact Sl1
  isplitl [A0 A1]
  · iapply (xbuf_join c); isplitl [A0] <;> iassumption
  isplitl [Hxh]; · iapply (xhbuf_join c); iexact Hxh
  iapply (whbuf_join c); iexact Hwh

/-! ## The semaphores at rest -/

theorem rest_one (κ : GSem nD τ sig → ℕ) (x : Cell) : iprop(records xs ws κ ∗ pos (F := F) c x (uses x)) ⊢ |={Set.univ}=> semVal (cell c x) 0 := by
  unfold pos
  iintro ⟨#HR, Hat, -⟩
  iapply (Rounds.cell_close ER (Rd xs ws) (Set.mem_univ (κ (cell c x))) id (duties_later xs ws c x)) $$ [Hat]
  isplitr
  · iapply (inv_at xs ws κ c x); iexact HR
  · iexact Hat

theorem rest_all (κ : GSem nD τ sig → ℕ) :
    iprop(records xs ws κ ∗ used (F := F) c) ⊢ |={Set.univ}=> bigSep Finset.univ fun s : Sc => semVal (cell c (scCell s)) 0 :=
  (bigSep_with_persistent fun s _ => rest_one xs ws c κ (scCell s)).trans (bigSep_fupd _ _)

end Cert.KernelIdeal.Ring

end
-- ==== Proof.Deal.lean ====
/- What the launch deals: the rights to pay the semaphores, each to the device that pays, and the promises that a device's
   own semaphores will be paid. -/
module

public import proofs.«01_k».proof.Proof.Ends

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rights -/

/-- The rights to pay one device's semaphores: two payments to the barrier, one to either semaphore of a transfer, two to
    a load's, up to four to a store's. -/
abbrev Tk : Type := Fin 2 ⊕ Tr ⊕ Tr ⊕ (Fin 2 × Fin 2) ⊕ (Fin 4 × Fin 4)

def rightOf (p : Dev nD × Tk) : GSem nD τ sig × ℕ × Fin 2 :=
  match p.2 with
  | .inl i => (cell p.1 .bar, 0, i)
  | .inr (.inl q) => (cell p.1 (.snd q.1 q.2.2 q.2.1), 0, 0)
  | .inr (.inr (.inl q)) => (cell p.1 (.rcv q.1 q.2.2 q.2.1), 0, 0)
  | .inr (.inr (.inr (.inl q))) => (cell p.1 (.xl q.1), q.2.val, 0)
  | .inr (.inr (.inr (.inr q))) => (cell p.1 (.st q.1), q.2.val, 0)

theorem right_inj : Function.Injective rightOf := by
  rintro ⟨c, a⟩ ⟨c', a'⟩ h
  have hc : c = c' := by
    have h1 := congrArg Prod.fst h
    rcases a with i | q | q | q | q <;> rcases a' with i' | q' | q' | q' | q' <;> exact (cell_inj h1).1
  subst hc
  refine Prod.ext rfl ?_
  have h1 := congrArg Prod.fst h
  have h2 := congrArg Prod.snd h
  rcases a with i | ⟨d, j, t⟩ | ⟨d, j, t⟩ | ⟨s, r⟩ | ⟨k, r⟩ <;> rcases a' with i' | ⟨d', j', t'⟩ | ⟨d', j', t'⟩ | ⟨s', r'⟩ | ⟨k', r'⟩ <;>
    have h3 := (cell_inj h1).2 <;> first | (exfalso; cases h3; done) | skip
  · exact congrArg Sum.inl (congrArg Prod.snd h2)
  · cases h3; rfl
  · cases h3; rfl
  · have h4 : r.val = r'.val := congrArg Prod.fst h2
    cases h3; rw [Fin.ext h4]
  · have h4 : r.val = r'.val := congrArg Prod.fst h2
    cases h3; rw [Fin.ext h4]

def rightEmb : Dev nD × Tk ↪ GSem nD τ sig × ℕ × Fin 2 := ⟨rightOf, right_inj⟩
abbrev allRights : Finset (GSem nD τ sig × ℕ × Fin 2) := Finset.univ.map rightEmb

/-- The neighbour, as a change of the device's name. -/
def nxE (d : Fin 2) : Dev nD ≃ Dev nD := ⟨nx d, fr d, fr_nx d, nx_fr d⟩

section

variable {M : Type} [URA M]

/-- What is said of every device is said of every device's neighbour. -/
theorem sep_nx (d : Fin 2) (Φ : Dev nD → sProp M) :
    bigSep Finset.univ Φ = bigSep Finset.univ fun c => Φ (nx d c) := bigSep_univ_equiv (nxE d) Φ

theorem sep_nx_tr (Φ : Dev nD → Tr → sProp M) :
    (bigSep Finset.univ fun c => bigSep Finset.univ fun p : Tr => Φ c p)
      = bigSep Finset.univ fun c => bigSep Finset.univ fun p : Tr => Φ (nx p.1 c) p := by
  rw [bigSep_univ_comm (fun c p => Φ c p), bigSep_univ_comm (fun c (p : Tr) => Φ (nx p.1 c) p)]
  exact bigSep_congr fun p _ => sep_nx p.1 fun c => Φ c p

end

/-- The rights to pay device `c`'s semaphores, kind by kind. -/
theorem rights_at (c : Dev nD) :
    (bigSep Finset.univ fun a : Tk => (dutyTok ER (rightOf (c, a)).1 (rightOf (c, a)).2.1 (rightOf (c, a)).2.2 : sProp 𝕄))
      = iprop((dutyTok ER (cell c .bar) 0 0 ∗ dutyTok ER (cell c .bar) 0 1)
        ∗ (bigSep Finset.univ fun p : Tr => dutyTok ER (cell c (.snd p.1 p.2.2 p.2.1)) 0 0)
        ∗ (bigSep Finset.univ fun p : Tr => dutyTok ER (cell c (.rcv p.1 p.2.2 p.2.1)) 0 0)
        ∗ (bigSep Finset.univ fun s : Fin 2 => bigSep Finset.univ fun r : Fin 2 => dutyTok ER (cell c (.xl s)) r.val 0)
        ∗ bigSep Finset.univ fun k : Fin 4 => bigSep Finset.univ fun r : Fin 4 => dutyTok ER (cell c (.st k)) r.val 0) := by
  rw [sep_sum, sep_two, sep_sum, sep_sum, sep_sum]
  rw [bigSep_univ_prod (fun b : Fin 2 × Fin 2 => (dutyTok ER (rightOf (c, .inr (.inr (.inr (.inl b))))).1 (rightOf (c, .inr (.inr (.inr (.inl b))))).2.1
      (rightOf (c, .inr (.inr (.inr (.inl b))))).2.2 : sProp 𝕄)),
    bigSep_univ_prod (fun b : Fin 4 × Fin 4 => (dutyTok ER (rightOf (c, .inr (.inr (.inr (.inr b))))).1 (rightOf (c, .inr (.inr (.inr (.inr b))))).2.1
      (rightOf (c, .inr (.inr (.inr (.inr b))))).2.2 : sProp 𝕄))]
  rfl

/-- The rights, each with the device that pays. -/
theorem rights_deal :
    (bigSep allRights fun x => (dutyTok ER x.1 x.2.1 x.2.2 : sProp 𝕄)) = bigSep Finset.univ fun c : Dev nD => rights (F := F) c := by
  unfold allRights rights
  rw [bigSep_map rightEmb]
  refine (bigSep_univ_prod fun p : Dev nD × Tk => (dutyTok ER (rightOf p).1 (rightOf p).2.1 (rightOf p).2.2 : sProp 𝕄)).trans ?_
  rw [bigSep_congr fun c _ => rights_at (F := F) c]
  simp only [bigSep_sep']
  rw [sep_nx 1 fun c => (dutyTok ER (cell c .bar) 0 0 : sProp 𝕄), sep_nx 0 fun c => (dutyTok ER (cell c .bar) 0 1 : sProp 𝕄),
    sep_nx_tr fun c p => (dutyTok ER (cell c (.rcv p.1 p.2.2 p.2.1)) 0 0 : sProp 𝕄)]

/-! ## The promises -/

/-- What a device owes when it starts. -/
abbrev O₀ (c : Dev nD) : CellTallies nD τ sig Unit := owed c plan

/-- Every payment of the list is made once to each device, by its neighbour. -/
theorem owed_sum (l : List (Fin 2 × Cell)) (c : Dev nD) (x : Cell) :
    ∑ d : Dev nD, owed d l (cell c x) () = (l.countP fun i => i.2 = x) * amt x 0 := by
  induction l with
  | nil => simp [owed]
  | cons i l ih =>
    have h : ∑ d : Dev nD, (tallyAt (cell (nx i.1 d) i.2) () (amt i.2 0) : CellTallies nD τ sig Unit) (cell c x) () = if i.2 = x then amt x 0 else 0 := by
      rw [Finset.sum_eq_single (fr i.1 c)]
      · rw [tallyAt_apply, nx_fr]
        by_cases hx : i.2 = x
        · rw [if_pos hx, hx, if_pos ⟨rfl, rfl⟩]
        · rw [if_neg hx, if_neg fun h => hx (cell_inj h.1).2.symm]
      · intro d _ hd
        exact tallyAt_apply .. |>.trans (if_neg fun hh => hd (by rw [(cell_inj hh.1).1, fr_nx]))
      · exact fun h => absurd (Finset.mem_univ _) h
    have h' (d : Dev nD) : owed d (i :: l) (cell c x) ()
        = owed d l (cell c x) () + (tallyAt (cell (nx i.1 d) i.2) () (amt i.2 0) : CellTallies nD τ sig Unit) (cell c x) () := by
      rw [owed_cons, Pi.add_apply, Finsupp.add_apply]
    rw [Finset.sum_congr rfl fun d _ => h' d, Finset.sum_add_distrib, ih, h, List.countP_cons]
    by_cases hx : i.2 = x
    · simp [hx, Nat.add_mul]
    · simp [hx]

theorem plan_bar : (plan.countP fun i => i.2 = .bar) = 2 := by decide
theorem plan_rcv (d : Fin 2) (t : Fin 6) (j : Fin 2) : (plan.countP fun i => i.2 = .rcv d t j) = 1 := by revert d t j; decide

theorem credit_eq (c : Dev nD) (x : Cell) (n : ℕ) (h : ∑ d : Dev nD, owed d plan (cell c x) () = n) :
    tallyOn (cell c x) (launchCredit (Pipeline.owing O₀) 0 (cell c x)) = (tallyAt (cell c x) () n : CellTallies nD τ sig Unit) := by
  unfold tallyAt
  refine congrArg _ (Finsupp.ext fun u => ?_)
  rw [Pipeline.launchCredit_owing, Finsupp.single_eq_same, ← h]

/-- The semaphores that a device is promised payments to: the barrier's and those at which its neighbours' copies arrive. -/
def promEmb : Unit ⊕ Tr ↪ SemLoc sig :=
  ⟨fun | .inl _ => Cell.bar.sem | .inr p => (Cell.rcv p.1 p.2.2 p.2.1).sem, by
    rintro (⟨⟩ | ⟨d, j, t⟩) (⟨⟩ | ⟨d', j', t'⟩) h
    · rfl
    · have := sem_inj h; cases this
    · have := sem_inj h; cases this
    · have := sem_inj h; cases this; rfl⟩

theorem promises_intro (c : Dev nD) : (Pipeline.launchCred O₀ c : sProp 𝕄) ⊢ promises c := by
  have hb : (cred (tallyOn (cell c .bar) (launchCredit (Pipeline.owing O₀) 0 (cell c .bar))) : sProp 𝕄) = cred (tallyAt (cell c .bar) () 2) :=
    congrArg cred (credit_eq c .bar 2 (by rw [owed_sum, plan_bar]; rfl))
  have hr (p : Tr) : (cred (tallyOn (cell c (.rcv p.1 p.2.2 p.2.1)) (launchCredit (Pipeline.owing O₀) 0 (cell c (.rcv p.1 p.2.2 p.2.1)))) : sProp 𝕄)
      = cred (tallyAt (cell c (.rcv p.1 p.2.2 p.2.1)) () nP) :=
    congrArg cred (credit_eq c (.rcv p.1 p.2.2 p.2.1) nP (by rw [owed_sum, plan_rcv, Nat.one_mul]; rfl))
  have h : bigSep (Finset.univ.map promEmb) (fun sm => (cred (tallyOn ((c : Thread nD τ), sm) (launchCredit (Pipeline.owing O₀) 0 ((c : Thread nD τ), sm))) : sProp 𝕄))
      = promises c := by
    unfold promises
    rw [bigSep_map promEmb, sep_sum, Finset.univ_unique, bigSep_singleton, ← hb, bigSep_congr fun p _ => (hr p).symm]
    rfl
  rw [← h]
  exact bigSep_subset (Finset.subset_univ _)

end Cert.KernelIdeal.Ring

end
-- ==== Proof.Region.lean ====
/- The kernel as the program launches it: what it is given when it starts and what it leaves. -/
module

public import proofs.«01_k».proof.Proof.Deal
public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]

local notation "𝕄" => MT nD τ sig Unit (Elt F) ℕ UU ℕ

variable (m : (ℓ : Loc nD τ sig) → Buf (Elt F) ℓ)

/-- A device's columns of `x` and its rows of the weights, as the program is given them. -/
def xsOf (c : Dev nD) : S4096x1024.Idx → Elt F .f32 := m ((c : Thread nD τ).loc main_arg0)
def wsOf (c : Dev nD) : S1024x2048.Idx → Elt F .f32 :=
  ((cfg0.win 0).blk t0_0).view.read (Elt F) (m ((cfg0.win 0).arr.view.loc (c : Thread nD τ)))

/-- What a device brings to the kernel, and what it takes from it. -/
def entering (c : Dev nD) : sProp 𝕄 :=
  iprop((∃ κ, records (xsOf m) (wsOf m) κ) ∗ rights (F := F) c ∗ promises (F := F) c ∗ pos (F := F) c .bar 0 ∗ fresh (F := F) c
    ∗ owns (c : Thread nD τ) xM fullShare (xsOf m c) ∗ Any (F := F) c outM ∗ room (F := F) c)
def returning (c : Dev nD) : sProp 𝕄 :=
  iprop(semVal (cell c .bar) 0 ∗ (bigSep Finset.univ fun s : Sc => semVal (cell c (scCell s)) 0)
    ∗ owns (c : Thread nD τ) xM fullShare (xsOf m c) ∗ owns (c : Thread nD τ) outM fullShare (result (xsOf m) (wsOf m)) ∗ room (F := F) c)

/-- The kernel takes a device from the one to the other. -/
theorem run_device (c : Dev nD) (Q : PUnit → sProp 𝕄) :
    iprop(entering m c ∗ debt (F := F) c 0 ∗ wraw (wsOf m) c)
      ⊢ iprop((iprop(returning m c ∗ debt (F := F) c 26 ∗ wraw (wsOf m) c) -∗ Q ⟨⟩) -∗ Runs c (args (cc0_body (F := F))) Q) := by
  unfold entering returning
  iintro ⟨⟨⟨%κ, #HR⟩, Hrt, Hpr, Hb, Hf, Hx, Ho, Hr⟩, HO, Hw⟩ Hk
  iapply (wp_fupd _ _ _ _)
  iapply (run_body (xsOf m) (wsOf m) κ c _) $$ [Hrt Hpr Hb Hf Hx Ho Hr HO Hw]
  · isplitr; · iexact HR
    iapply (start_intro (xsOf m) (wsOf m) c)
    isplitl [HO]; · iexact HO
    isplitl [Hrt]; · iexact Hrt
    isplitl [Hpr]; · iexact Hpr
    isplitl [Hb]; · iexact Hb
    isplitl [Hf]; · iexact Hf
    isplitl [Hx]; · iexact Hx
    isplitl [Hw]; · iexact Hw
    isplitl [Ho]; · iexact Ho
    iexact Hr
  iintro Hfin
  ihave H := (finish_elim (xsOf m) (wsOf m) c) $$ Hfin
  icases H with ⟨HO, Hb, Hu, Hx, Hw, Ho, Hr⟩
  imod (rest_one (xsOf m) (wsOf m) c κ .bar) $$ [Hb] with Hb
  · isplitr; · iexact HR
    iexact Hb
  imod (rest_all (xsOf m) (wsOf m) c κ) $$ [Hu] with Hu
  · isplitr; · iexact HR
    iexact Hu
  imodintro
  iapply Hk
  isplitl [Hb Hu Hx Ho Hr]
  · isplitl [Hb]; · iexact Hb
    isplitl [Hu]; · iexact Hu
    isplitl [Hx]; · iexact Hx
    isplitl [Ho]; · iexact Ho
    iexact Hr
  isplitl [HO]; · iexact HO
  iexact Hw

/-- The launch's account of the kernel: the weights staged whole and left as they were, everything else the kernel's own. -/
def dat0 (c : Dev nD) : Pipeline.Dat τ (Elt F) Unit ℕ UU ℕ cfg0 c where
  A w := m ((cfg0.win w).arr.view.loc (c : Thread nD τ))
  after w _ := match w with
    | ⟨0, _⟩ => wsOf m c
  Φ t := if t.val = 0 then entering m c else returning m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem before_in (c : Dev nD) (d : (cfg0.win 0).block.Idx → Elt F (cfg0.win 0).elt) : (dat0 m c).before 0 t0_0 d = wsOf m c := by
  unfold Pipeline.Dat.before; rw [if_pos (by decide)]; rfl

theorem Φ_start (c : Dev nD) : (dat0 m c).Φ t0_0.castSucc = entering m c := rfl
theorem Φ_end (c : Dev nD) : (dat0 m c).Φ t0_0.succ = returning m c := rfl
theorem owed_end (c : Dev nD) : (dat0 m c).owed t0_0.succ = 0 := rfl

theorem owes_start (c : Dev nD) : (dat0 m c).owesAt () t0_0.castSucc ⊢ debt (F := F) c 0 := by
  unfold Pipeline.Dat.owesAt Pipeline.owesWithin debt
  iintro ⟨%W, -, HO⟩; iexists W; iexact HO
theorem owes_end (c : Dev nD) : debt (F := F) c 26 ⊢ (dat0 m c).owesAt () t0_0.succ := by
  unfold Pipeline.Dat.owesAt Pipeline.owesWithin debt
  rw [owed_end]
  iintro ⟨%W, HO⟩; iexists W
  isplitr; · ipureintro; exact fun _ _ => Or.inl trivial
  iexact HO

set_option maxRecDepth 4000 in
theorem body_obligation (c : Dev nD) : BodyObligation (dat0 (F := F) m c) (defs₀ (F := F)) 𝒱₀ () Set.univ := fun t => by
  obtain rfl := fin_N0 t
  rw [bigSep_W0, bigSep_W0, Φ_start, Φ_end]
  iintro ⟨HΦ, HO, ⟨%d0, Hw⟩⟩
  rw [before_in]
  ihave HO := (owes_start m c) $$ HO
  iapply (run_device m c _) $$ [HΦ HO Hw]
  · isplitl [HΦ]; · iexact HΦ
    isplitl [HO]; · iexact HO
    iexact Hw
  iintro ⟨HΦ, HO, Hw⟩
  isplitl [HΦ]; · iexact HΦ
  isplitl [HO]; · iapply (owes_end m c); iexact HO
  iexact Hw

end Cert.KernelIdeal.Ring

end
-- ==== Proof.Launch.lean ====
/- The whole program: the kernel, then the widening of its result, on every device, from any memory with every semaphore at
   rest to a memory with the result in place and every semaphore at rest again. -/
module

public import proofs.«01_k».proof.Proof.Region

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

/-- A buffer of device `c`, held whole. -/
abbrev pl (c : Dev nD) (b : Ref sig .tc) (f : b.ty.Contents (Elt F)) : sProp 𝕄 := ((c : Thread nD τ).loc b) ↦{fullShare} f

theorem any_whole (c : Dev nD) (b : Ref sig .tc) :
    (Any (F := F) c (Memref.whole b) : sProp 𝕄) = iprop(∃ f : Buf (Elt F) ((c : Thread nD τ).loc b), ((c : Thread nD τ).loc b) ↦{fullShare} f) := by
  unfold Any
  exact congrArg BIBase.exists (funext fun f => owns_whole (c : Thread nD τ) b fullShare f)

/-- The kernel's working buffers are what the program lends it. -/
theorem room_eq (c : Dev nD) : room (F := F) c = Pipeline.scopedRest spec0 c := by
  rw [scopedRest0_eq, ← any_whole, ← any_whole, ← any_whole, ← any_whole, ← any_whole, ← any_whole]
  rfl

/-! ## The kernel's semaphores, opened -/

/-- The kernel's own semaphores as the launch names them. -/
def oSem (s : Sc) : SemLoc sig := (scCell s).sem

theorem own_sems : Pipeline.OwnSemFacts spec0 oSem := by decide
theorem ownSems0_eq (c : Dev nD) :
    (Pipeline.ownSems0 oSem c : sProp 𝕄) = bigSep Finset.univ fun s : Sc => semVal (cell c (scCell s)) 0 := rfl

theorem open_one (c : Dev nD) (κ : GSem nD τ sig → ℕ) (s : Sc) :
    iprop(records (xsOf m) (wsOf m) κ ∗ (openTok ER (cell c (scCell s)) ∗ semVal (cell c (scCell s)) 0))
      ⊢ |={Set.univ}=> pos (F := F) c (scCell s) 0 := by
  unfold pos
  iintro ⟨#HR, Ho, Hv⟩
  iapply (Rounds.cell_open ER (Rd (xsOf m) (wsOf m)) (Set.mem_univ (κ (cell c (scCell s)))))
  isplitr; · iapply (inv_at (xsOf m) (wsOf m) κ c (scCell s)); iexact HR
  isplitl [Ho]; · iexact Ho
  iexact Hv

theorem open_all (c : Dev nD) (κ : GSem nD τ sig → ℕ) :
    iprop(records (xsOf m) (wsOf m) κ ∗ (bigSep Finset.univ fun s : Sc => openTok ER (cell c (scCell s)))
        ∗ bigSep Finset.univ fun s : Sc => semVal (cell c (scCell s)) 0)
      ⊢ |={Set.univ}=> fresh (F := F) c := by
  rw [← bigSep_sep']
  exact (bigSep_with_persistent fun s _ => open_one m c κ s).trans (bigSep_fupd _ _)

/-! ## The kernel as a segment of the program -/

/-- While the weights are fetched a device may owe all it owes: everything of that is paid later. -/
theorem mayWait_stage (c : Dev nD) (q : DmaSem sig) (hq : kind (.dma q) = none) :
    (levAts L lv : sProp 𝕄) ⊢ MayWait (c : Thread nD τ) (.dma q) () (O₀ c) :=
  MayOwe.of_cut (L := L) (lev := lv) 0
    (fun p hp => by rw [Finset.mem_singleton.mp hp, L_tc]; exact Finset.mem_singleton_self _)
    (fun g u hg => by
      obtain ⟨i, -, rfl⟩ := owed_pos c plan g u hg
      rw [L_tc]; exact Finset.mem_singleton_self _)
    (fun p hp => by
      rw [Finset.mem_singleton.mp hp]
      show (match kind (.dma q) with | some x => lvl x | none => 0) ≤ 0
      rw [hq])
    (fun g u hg => by
      obtain ⟨i, hi, rfl⟩ := owed_pos c plan g u hg
      have h : ∀ i ∈ plan, 0 < lvl i.2 := by decide
      exact (h i hi).trans_eq (lv_cell _ _).symm)

/-- The device's buffers as the program is given them, and with the kernel's result in place. -/
abbrev V₀ (c : Dev nD) : Valuation τ sig (Elt F) := fun b => m ((c : Dev nD), b)
abbrev V₁ (c : Dev nD) : Valuation τ sig (Elt F) := Function.update (V₀ m c) (Proc.devRef .tc main_v1) (result (xsOf m) (wsOf m))

theorem V₁_v1 (c : Dev nD) : V₁ m c main_v1 = result (xsOf m) (wsOf m) := Function.update_self ..
theorem V₁_v2 (c : Dev nD) : V₁ m c main_v2 = m ((c : Thread nD τ).loc main_v2) := Function.update_of_ne (by decide) ..

/-- The buffers of the widening. -/
def S12 : Finset (DevRef τ sig) := {Proc.devRef .tc main_v1, Proc.devRef .tc main_v2}

omit [FloatOps F] in
theorem held12_eq (c : Dev nD) (W : Valuation τ sig (Elt F)) :
    (StableHlo.held (c : Thread nD τ) S12 W : sProp 𝕄) = iprop(pl c main_v1 (W main_v1) ∗ pl c main_v2 (W main_v2)) := by
  unfold StableHlo.held S12
  rw [bigSep_eq_bigSepL_of_eq [Proc.devRef .tc main_v1, Proc.devRef .tc main_v2] (by decide) (by decide)]
  rfl

theorem arrays_eq (c : Dev nD) (Fa) : ((pdats (F := F) m 0 c).arrays Fa : sProp 𝕄) = iprop(pl c main_arg1 (Fa 0)) := by
  rw [Pipeline.arrays_eq (Pipeline.pin (pcfgs (F := F)) adm) (pdats m) 0 c launch0.arr_whole ((pdats m 0 c).share_full fun _ => rfl) Fa, bigSep_W0]
theorem arrAt_w (c : Dev nD) : (pdats (F := F) m 0 c).arrAt 0 (Pipeline.pin (pcfgs (F := F)) adm 0).N = m ((c : Thread nD τ).loc main_arg1) :=
  (dat0 (F := F) m c).arrAt_in 0 rfl _

/-- What a device holds of the kernel's semaphores before it starts. -/
def dealt (c : Dev nD) : sProp 𝕄 :=
  iprop((∃ κ, records (xsOf m) (wsOf m) κ) ∗ rights (F := F) c ∗ promises (F := F) c ∗ pos (F := F) c .bar 0
    ∗ bigSep Finset.univ fun s : Sc => openTok ER (cell c (scCell s)))

/-- What goes with the widening: the arguments as given, nothing owed, the barrier's semaphore at rest. -/
def restC (c : Dev nD) : sProp 𝕄 :=
  iprop(pl c main_arg0 (m ((c : Thread nD τ).loc main_arg0)) ∗ pl c main_arg1 (m ((c : Thread nD τ).loc main_arg1)) ∗ semVal (cell c .bar) 0
    ∗ ∃ W, owes (c : Thread nD τ) (0 : CellTallies nD τ sig Unit) W)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

def reg0 : ℝ𝕊 0 where
  win := launch0.win.to₀
  block_pos := launch0.block_pos
  stage_whole := launch0.stage_whole
  K := Sc
  osem := oSem
  ho := own_sems
  hbody c := (body_obligation m c).loose
  hwaits c := Pipeline.cellsWaits_intro _ (pdats m) () 0 c fun w s t => by
    show (levAts L lv : sProp 𝕄) ⊢ MayWait (c : Thread nD τ) _ () (if t.val = 0 then O₀ c else 0)
    split
    · exact mayWait_stage c _ (by fin_cases w <;> fin_cases s <;> rfl)
    · rw [MayWait_zero]; iintro -; iempintro
  pre c := iprop(unscopedBufs c (fun b => m ((c : Thread nD τ).loc b)) ∗ dealt m c ∗ owes (c : Thread nD τ) (O₀ c) ∅)
  post c := iprop(StableHlo.held (c : Thread nD τ) S12 (V₁ m c) ∗ restC m c)
  X c := iprop((∃ κ, records (xsOf m) (wsOf m) κ) ∗ rights (F := F) c ∗ promises (F := F) c ∗ pos (F := F) c .bar 0 ∗ fresh (F := F) c
    ∗ pl c main_arg0 (m ((c : Thread nD τ).loc main_arg0)) ∗ pl c main_v1 (m ((c : Thread nD τ).loc main_v1)))
  Y c := iprop(semVal (cell c .bar) 0 ∗ pl c main_arg0 (m ((c : Thread nD τ).loc main_arg0)) ∗ pl c main_v1 (result (xsOf m) (wsOf m)))
  Z c := pl c main_v2 (m ((c : Thread nD τ).loc main_v2))
  hentry c := by
    have hsplit := Pipeline.arrays_of_unscopedBufs (pcfgs (F := F)) adm (pdats m) launch0.win launch0.arr_whole c
      ((pdats m 0 c).share_full fun _ => rfl) (fun b => m ((c : Thread nD τ).loc b)) fun _ => rfl
    unfold dealt
    rw [ownSems0_eq]
    iintro ⟨⟨Hub, ⟨⟨%κ, #HR⟩, Hrt, Hpr, Hb, Hop⟩, HO⟩, Hsem, -⟩
    ihave H := hsplit $$ Hub
    rw [unscopedRest0_eq]
    icases H with ⟨Ha, Hx, H1, H2⟩
    imod (open_all m c κ) $$ [Hop Hsem] with Hf
    · isplitr; · iexact HR
      isplitl [Hop]; · iexact Hop
      iexact Hsem
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; exact fun _ _ => Or.inl trivial
      iexact HO
    isplitr [H2]; swap; · iexact H2
    isplitr; · iexists κ; iexact HR
    isplitl [Hrt]; · iexact Hrt
    isplitl [Hpr]; · iexact Hpr
    isplitl [Hb]; · iexact Hb
    isplitl [Hf]; · iexact Hf
    isplitl [Hx]; · iexact Hx
    iexact H1
  hin c := by
    show _ ⊢ entering m c
    unfold entering
    rw [← room_eq]
    iintro ⟨⟨HR, Hrt, Hpr, Hb, Hf, Hx, H1⟩, -, Hroom⟩
    isplitl [HR]; · iexact HR
    isplitl [Hrt]; · iexact Hrt
    isplitl [Hpr]; · iexact Hpr
    isplitl [Hb]; · iexact Hb
    isplitl [Hf]; · iexact Hf
    isplitl [Hx]; · rw [owns_whole]; iexact Hx
    isplitl [H1]
    · rw [any_whole]; iexists _; iexact H1
    iexact Hroom
  hout c := by
    show returning m c ⊢ _
    unfold returning
    rw [ownSems0_eq, ← room_eq, owns_whole, owns_whole]
    iintro ⟨Hb, Hs, Hx, H1, Hroom⟩
    isplitl [Hb Hx H1]
    · isplitl [Hb]; · iexact Hb
      isplitl [Hx]; · iexact Hx
      iexact H1
    isplitl [Hs]; · iexact Hs
    iexact Hroom
  hexit c := by
    unfold restC
    rw [arrays_eq, held12_eq, arrAt_w, V₁_v1, V₁_v2]
    iintro ⟨Hw, HO, ⟨Hb, Hx, H1⟩, H2⟩
    imodintro
    isplitl [H1 H2]
    · isplitl [H1]; · iexact H1
      iexact H2
    isplitl [Hx]; · iexact Hx
    isplitl [Hw]; · iexact Hw
    isplitl [Hb]; · iexact Hb
    unfold Pipeline.Dat.owesAt Pipeline.owesWithin
    icases HO with ⟨%W, -, HO⟩; iexists W; iexact HO

end Cert.KernelIdeal.Ring

end
-- ==== Proof.Run.lean ====
/- The run of the whole program on the four devices. -/
module

public import proofs.«01_k».proof.Proof.Launch

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The widening -/

local notation "ℍ" => Pipeline.HostSeg (Name := ℕ) (U := UU) (pcfgs (F := F)) defs₀ 𝒱₀ L lv

theorem ops1_sub : ∀ op ∈ (hostOps1 : List (HloOp τ sig (Elt F))), op.bufs ⊆ S12 := fun op h => by
  obtain rfl := List.mem_singleton.mp h
  show ({Proc.devRef .tc main_v1, Proc.devRef .tc main_v2} : Finset (DevRef τ sig)) ⊆ S12; decide
theorem ops1_fresh : ∀ op ∈ (hostOps1 : List (HloOp τ sig (Elt F))), op.fresh = ∅ := fun op h => by
  obtain rfl := List.mem_singleton.mp h; rfl

def seg1 : ℍ := Pipeline.HostSeg.ofOps _ _ _ _ _ S12 (hostOps1 (F := F)) ops1_sub ops1_fresh (V₁ m) (restC m)

/-- The program's result. -/
def outOf : S4096x2048.Idx → Elt F .f32 := extf .f32 (result (xsOf m) (wsOf m)) bitsLt_bf16_f32

theorem after_v2 (c : Dev nD) : StableHlo.after (hostOps1 (F := F)) (V₁ m c) main_v2 = outOf m := by
  show (StableHlo.unary main_v1 main_v2 ((extf .f32 · bitsLt_bf16_f32) : (⟨S4096x2048, .bf16⟩ : BufTy).Contents (Elt F)
    → (⟨S4096x2048, .f32⟩ : BufTy).Contents (Elt F))).result (V₁ m c) main_v2 = _
  rw [StableHlo.unary_result, V₁_v1]; rfl

def segs : List (Pipeline.Seg (pcfgs (F := F)) adm (pdats m) () defs₀ 𝒱₀ L lv) := [.region (reg0 m), .host (seg1 m)]

theorem main_eq (c : Dev nD) : main (F := F) c = Pipeline.Seg.run (segs m) := main_segs adm (pdats m) () 𝒱₀ L lv (seg1 m) (reg0 m) rfl c

/-- What a device holds in the end. -/
abbrev Tₙ (c : Dev nD) : sProp 𝕄 :=
  iprop(pl c main_arg0 (m ((c : Thread nD τ).loc main_arg0)) ∗ pl c main_arg1 (m ((c : Thread nD τ).loc main_arg1)) ∗ pl c main_v2 (outOf m)
    ∗ semVal (cell c .bar) 0)

theorem seg1_end (c : Dev nD) : (seg1 m).post c ⊢ iprop(Tₙ m c ∗ ∃ W, owes (c : Thread nD τ) (0 : CellTallies nD τ sig Unit) W) := by
  dsimp only [seg1, Pipeline.HostSeg.ofOps]
  unfold restC Tₙ
  rw [held12_eq, after_v2]
  iintro ⟨⟨-, H2⟩, Hx, Hw, Hb, HO⟩
  isplitr [HO]; swap; · iexact HO
  isplitl [Hx]; · iexact Hx
  isplitl [Hw]; · iexact Hw
  isplitl [H2]; · iexact H2
  iexact Hb

/-! ## The launch -/

/-- The records of the semaphores at the launch: the barriers' in use, the kernel's own not yet, every right to pay. -/
def seeds : URounds (GSem nD τ sig) (Fin 2) := launchOf barCells scCells allRights

def u₀ : UU :=
  (initOf (Pipeline.cells (Pipeline.pin (pcfgs (F := F)) adm) cellOf_inj) (Pipeline.launchToks (Pipeline.pin (pcfgs (F := F)) adm) cellOf_inj), seeds)

/-- They go to device 0 first. -/
def G (c : Dev nD) : sProp 𝕄 := if c = 0 then BI.own (ER seeds) else iprop(emp)

theorem bigSep_G_eq : bigSep Finset.univ (G (F := F)) = (BI.own (ER seeds) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (cell c .bar) 0 := by
  unfold unscopedSems0
  rw [bigSep_eq_bigSepL_of_eq [Cell.bar.sem] (by decide) (by decide)]
  rfl

theorem disjoint_cells : Disjoint barCells scCells := by
  rw [Finset.disjoint_left]
  intro g h h'
  obtain ⟨c, -, rfl⟩ := Finset.mem_map.mp h
  obtain ⟨p, -, h2⟩ := Finset.mem_map.mp h'
  exact scCell_ne p.2 (cell_inj h2).2

/-- The barriers' semaphores at rest and the records deal every device its part of the semaphores. -/
theorem fund :
    iprop((bigSep Finset.univ fun c : Dev nD => semVal (cell c .bar) 0) ∗ BI.own (ER seeds) ∗ (bigSep Finset.univ fun c : Dev nD => promises (F := F) c)
        ∗ levAts L lv)
      ⊢ |={Set.univ}=> bigSep Finset.univ (dealt m) := by
  have hv : (bigSep Finset.univ fun c : Dev nD => (semVal (cell c .bar) 0 : sProp 𝕄)) = bigSep barCells fun g => semVal g 0 :=
    (bigSep_map barEmb (Φ := fun g => (semVal g 0 : sProp 𝕄))).symm
  have hp (κ : GSem nD τ sig → ℕ) : iprop(bigSep barCells (fun g => (reached ER g 0 : sProp 𝕄)) ∗ bigSep barCells fun g => atPos ER g 0 ∅ 0)
      ⊢ bigSep Finset.univ fun c : Dev nD => pos (F := F) c .bar 0 := by
    rw [bigSep_map barEmb, bigSep_map barEmb, ← bigSep_sep']
    refine bigSep_mono fun c _ => ?_
    unfold pos
    show iprop(reached ER (cell c .bar) 0 ∗ atPos ER (cell c .bar) 0 ∅ 0) ⊢ _
    exact sep_comm.1
  have ho : (bigSep scCells fun g => (openTok ER g : sProp 𝕄)) = bigSep Finset.univ fun c : Dev nD => bigSep Finset.univ fun s : Sc => openTok ER (cell c (scCell s)) := by
    rw [bigSep_map scEmb]
    exact bigSep_univ_prod fun p : Dev nD × Sc => (openTok ER (cell p.1 (scCell p.2)) : sProp 𝕄)
  have hd (κ : GSem nD τ sig → ℕ) (c : Dev nD) : iprop(records (xsOf m) (wsOf m) κ ∗ rights (F := F) c ∗ promises (F := F) c ∗ pos (F := F) c .bar 0
      ∗ bigSep Finset.univ fun s : Sc => openTok ER (cell c (scCell s))) ⊢ dealt m c := by
    unfold dealt
    iintro ⟨HR, H⟩
    isplitl [HR]; · iexists κ; iexact HR
    iexact H
  rw [hv]
  unfold seeds
  iintro ⟨Hv, Hu, Hpr, #Hl⟩
  imod (Rounds.fund_launch ER (Rd (xsOf m) (wsOf m)) disjoint_cells (fun g _ h => h) allRights) $$ [Hv Hu] with ⟨%κ, -, #Hinv, #Hr, Hat, Hop, Htok⟩
  · isplitl [Hv] <;> iassumption
  ihave Hpos := (hp κ) $$ [Hat]
  · isplitr; · iexact Hr
    iexact Hat
  ihave Hop := (Entails.of_eq ho) $$ Hop
  ihave Htok := (Entails.of_eq rights_deal) $$ Htok
  imodintro
  iapply (show iprop(records (xsOf m) (wsOf m) κ ∗ bigSep Finset.univ fun c : Dev nD => iprop(rights (F := F) c ∗ promises (F := F) c ∗ pos (F := F) c .bar 0
      ∗ bigSep Finset.univ fun s : Sc => openTok ER (cell c (scCell s)))) ⊢ bigSep Finset.univ (dealt m) from
    bigSep_with_persistent fun c _ => hd κ c)
  isplitr
  · unfold records
    isplitr; · iexact Hinv
    isplitr; · iexact Hr
    iexact Hl
  rw [bigSep_sep', bigSep_sep', bigSep_sep']
  isplitl [Htok]; · iexact Htok
  isplitl [Hpr]; · iexact Hpr
  isplitl [Hpos]; · iexact Hpos
  iexact Hop

/-- The launch deals every device what the kernel starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (reg0 m).pre : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ iprop((unscopedBufs c (fun b => m ((c : Thread nD τ).loc b)) ∗ owes (c : Thread nD τ) (O₀ c) ∅)
        ∗ semVal (cell c .bar) 0 ∗ G (F := F) c ∗ promises (F := F) c) := by
    rw [unscopedSems0_eq]
    iintro ⟨Hub, Hv, HO, Hcr, -, HG⟩
    ihave Hp := (promises_intro c) $$ Hcr
    isplitl [Hub HO]; · isplitl [Hub] <;> iassumption
    isplitl [Hv]; · iexact Hv
    isplitl [HG] <;> iassumption
  have h2 (c : Dev nD) : iprop((unscopedBufs c (fun b => m ((c : Thread nD τ).loc b)) ∗ owes (c : Thread nD τ) (O₀ c) ∅) ∗ dealt m c) ⊢ (reg0 m).pre c := by
    unfold reg0
    iintro ⟨⟨Hub, HO⟩, Hd⟩
    isplitl [Hub]; · iexact Hub
    isplitl [Hd] <;> iassumption
  iintro ⟨H, Hl⟩
  ihave H := (show _ ⊢ iprop((bigSep Finset.univ fun c : Dev nD => iprop(unscopedBufs c (fun b => m ((c : Thread nD τ).loc b)) ∗ owes (c : Thread nD τ) (O₀ c) ∅))
      ∗ (bigSep Finset.univ fun c : Dev nD => semVal (cell c .bar) 0) ∗ bigSep Finset.univ (G (F := F)) ∗ bigSep Finset.univ fun c : Dev nD => promises (F := F) c)
      from by rw [← bigSep_sep', ← bigSep_sep', ← bigSep_sep']; exact bigSep_mono fun c _ => h1 c) $$ H
  icases H with ⟨Hk, Hv, HG, Hp⟩
  ihave Hu := (Entails.of_eq bigSep_G_eq) $$ HG
  imod (fund m) $$ [Hv Hu Hp Hl] with Hd
  · isplitl [Hv]; · iexact Hv
    isplitl [Hu]; · iexact Hu
    isplitl [Hp] <;> iassumption
  imodintro
  iapply (show iprop((bigSep Finset.univ fun c : Dev nD => iprop(unscopedBufs c (fun b => m ((c : Thread nD τ).loc b)) ∗ owes (c : Thread nD τ) (O₀ c) ∅))
      ∗ bigSep Finset.univ (dealt m)) ⊢ bigSep Finset.univ (reg0 m).pre from by rw [← bigSep_sep']; exact bigSep_mono fun c _ => h2 c)
  isplitl [Hk] <;> iassumption

set_option backward.isDefEq.respectTransparency.types false in
/-- At any float values, from any memory with every semaphore at rest, the program ends on every device with its arguments
    as given, `outOf` in its result and every semaphore at rest. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1) ∧ r.2.mem ((c : Thread nD τ).loc main_v2) = outOf m)
      ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G_eq]; iexact HX)
    (T₀ := (reg0 m).pre) (Tₙ := Tₙ m)
    (hch := ⟨fun c => .rfl, fun c => .rfl, seg1_end m⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1) ∧ s.mem ((c : Thread nD τ).loc main_v2) = outOf m)
      ∧ s.sem (cell c .bar) = 0)
    (hfin := fun c s' => by
      iintro ⟨⟨Hx, Hw, H2, Hb⟩, HSI⟩
      icombine HSI Hx gives %hx
      icombine HSI Hw gives %hw
      icombine HSI H2 gives %h2
      icombine HSI Hb gives %hb
      imodintro
      isplitr
      · ipureintro
        exact ⟨⟨Buf.eq_of_forall_mem_univ hx, Buf.eq_of_forall_mem_univ hw, Buf.eq_of_forall_mem_univ h2⟩, by simpa using hb⟩
      iexact HSI)
    (hQ := fun s h hs => ⟨fun c => (h c).1, sem_eq_zero hs fun c sm hsm => by
      have hl : ∀ sm : SemLoc sig, sm.isScoped .tc = false → sm = Cell.bar.sem := by decide
      obtain rfl := hl sm hsm
      exact (h c).2⟩)

end Cert.KernelIdeal.Ring

end
-- ==== Proof.Value.lean ====
/- What the kernel computes, over the extended reals.

   Widening and narrowing change nothing there, and sums may be taken in any order. So a piece of the result, which has
   collected the contributions of the devices in the order in which the ring passes them, is the sum over all devices of
   the product of their columns of `x` and their rows of the weights. -/
module

public import proofs.«01_k».proof.Proof.Split
public import Idealize.ShloMosaic.Lib.MatmulPlain
public import Idealize.ShloMosaic.Lib.Pipeline.Value
public import Idealize.ShloMosaic.PureOps.Ideal.Laws

@[expose] public section

noncomputable section

namespace Cert.KernelIdeal.Ring

open Cert.KernelIdeal Cert.KernelIdeal.Gen
open Idealize.ShloMosaic
open Idealize.ShloMosaic.TcCoe
open Idealize.ShloMosaic.ValueIdx
open scoped BigOperators

variable (xs : Dev nD → S4096x1024.Idx → Elt Ideal .f32) (ws : Dev nD → S1024x2048.Idx → Elt Ideal .f32)

/-! ## The two operands -/

/-- Row `r` of half `j` of chunk `q`, and column `n` of direction `d`, among all rows and columns. -/
def rowAt (q : Fin 4) (j : Fin 2) (r : Fin 512) : Fin 4096 := ⟨1024 * q.val + 512 * j.val + r.val, by omega⟩
def colAt (d : Fin 2) (n : Fin 1024) : Fin 2048 := ⟨1024 * d.val + n.val, by omega⟩

/-- A chunk in the working type is the chunk, with an axis of size one in front. -/
theorem xh_eq (c : Dev nD) (q : Fin 4) :
    xh xs c q = shapeCast S1x1024x1024 (xin xs c q) shapeCasts_S1024x1024_S1x1024x1024 := by
  have h : shapeCast S1024x1024 (unsqX (xin xs c q)) shapeCasts_S1x1024x1024_S1024x1024 = xin xs c q :=
    funext fun i => congrArg (xin xs c q) (Equiv.symm_apply_apply _ i)
  show shapeCast S1x1024x1024 (shapeCast S1024x1024 (unsqX (xin xs c q)) shapeCasts_S1x1024x1024_S1024x1024)
    shapeCasts_S1024x1024_S1x1024x1024 = _
  rw [h]

theorem xin_apply (c : Dev nD) (q : Fin 4) (j : Fin 2) (r : Fin 512) (k : Fin 1024) :
    xin xs c q (ix2 ⟨512 * j.val + r.val, by omega⟩ k) = xs c (ix2 (rowAt q j r) k) := by
  unfold xin
  congr 1
  refine (eq_ix2 _).trans ?_
  congr 1 <;> apply Fin.ext
  · show 1024 * q.val + 1 * (512 * j.val + r.val) = 1024 * q.val + 512 * j.val + r.val
    omega
  · show 0 + 1 * k.val = k.val
    omega

theorem wh_apply (c : Dev nD) (d : Fin 2) (k n : Fin 1024) : wh ws c d (ix2 k n) = ws c (ix2 k (colAt d n)) := by
  have h : ∀ v : S1024x1024.Idx → Elt Ideal .f32, k0_pay1 (F := Ideal) v = v := fun v => by
    show shapeCast S1024x1024 (shapeCast S1024x1024 v _) _ = v
    rw [shapeCast_shapeCast]
  unfold wh
  rw [h]
  congr 1
  refine (eq_ix2 _).trans ?_
  congr 1 <;> apply Fin.ext
  · show 0 + 1 * k.val = k.val
    omega
  · show 1024 * d.val + 1 * n.val = 1024 * d.val + n.val
    omega

/-! ## One device's contribution -/

/-- Entry `(i, l)` of the product of device `c`'s columns of `x` and its rows of the weights. -/
def term (c : Dev nD) (i : Fin 4096) (l : Fin 2048) : EReal := ∑ k : Fin 1024, xs c (ix2 i k) * ws c (ix2 k l)

theorem prod_apply (c : Dev nD) (q : Fin 4) (j d : Fin 2) (r : Fin 512) (n : Fin 1024) :
    rows j (prod xs ws c q d) (ix2 r n) = term xs ws c (rowAt q j r) (colAt d n) := by
  have hx : shapeCast S1024x1024 (xh xs c q) shapeCasts_S1x1024x1024_S1024x1024 = xin xs c q := by
    rw [xh_eq, shapeCast_shapeCast]
  have hi : (Rect.unit (s := S1024x1024) (rowOff j) S512x1024.size (rowOff_inb j)).emb (ix2 r n)
      = ix2 (⟨512 * j.val + r.val, by omega⟩ : Fin 1024) n := by
    refine (eq_ix2 _).trans ?_
    congr 1 <;> apply Fin.ext
    · show 512 * j.val + 1 * r.val = 512 * j.val + r.val
      omega
    · show 0 + 1 * n.val = n.val
      omega
  show shapeCast S1024x1024 (FloatOps.matmul (F := Ideal) (φ₁ := .bf16) (φ₂ := .bf16) (DotDims.plain 1024 1024 1024) none
    (shapeCast S1024x1024 (xh xs c q) shapeCasts_S1x1024x1024_S1024x1024) (wh ws c d) (constant S1024x1024 .f32 0#32)) _
      ((Rect.unit (s := S1024x1024) (rowOff j) S512x1024.size (rowOff_inb j)).emb (ix2 r n)) = _
  rw [shapeCast_self, hx, hi, Ideal.matmul_plain_apply]
  show Ideal.ofBits .f32 0#32 + _ = _
  rw [Ideal.ofBits_zero_f32, zero_add]
  exact Finset.sum_congr rfl fun k _ => by rw [xin_apply, wh_apply]

theorem own_apply (c : Dev nD) (j : Fin 2) (r : Fin 512) (n : Fin 1024) :
    k0_pay3 (rows3 j (xh xs c c)) (wh ws c 0) (ix2 r n) = term xs ws c (rowAt c j r) (colAt 0 n) := by
  have hx : ∀ k : Fin 1024, shapeCast S512x1024 (rows3 j (xh xs c c)) shapeCasts_S1x512x1024_S512x1024 (ix2 r k)
      = xs c (ix2 (rowAt c j r) k) := fun k => by
    refine (shapeCast_dropUnit_apply ![512, 1024] (rows3 j (xh xs c c)) shapeCasts_S1x512x1024_S512x1024 (ix2 r k)).trans ?_
    rw [xh_eq]
    refine (shapeCast_addUnit_apply ![1024, 1024] (xin xs c c) shapeCasts_S1024x1024_S1x1024x1024 _).trans ?_
    refine Eq.trans ?_ (xin_apply xs c c j r k)
    congr 1
    refine (eq_ix2 _).trans ?_
    congr 1 <;> apply Fin.ext
    · show 512 * j.val + 1 * r.val = 512 * j.val + r.val
      omega
    · show 0 + 1 * k.val = k.val
      omega
  show shapeCast S512x1024 (FloatOps.matmul (F := Ideal) (φ₁ := .bf16) (φ₂ := .bf16) (DotDims.plain 512 1024 1024) none
    (shapeCast S512x1024 (rows3 j (xh xs c c)) shapeCasts_S1x512x1024_S512x1024) (wh ws c 0) (constant S512x1024 .f32 0#32)) _
      (ix2 r n) = _
  rw [shapeCast_self, Ideal.matmul_plain_apply]
  show Ideal.ofBits .f32 0#32 + _ = _
  rw [Ideal.ofBits_zero_f32, zero_add]
  exact Finset.sum_congr rfl fun k _ => by rw [hx, wh_apply]

theorem part_apply (c : Dev nD) (q : Fin 4) (j d : Fin 2) (r : Fin 512) (n : Fin 1024) :
    part xs ws c q j d (ix2 r n) = term xs ws c (rowAt q j r) (colAt d n) := by
  by_cases h : q = c ∧ d = 0
  · obtain ⟨rfl, rfl⟩ := h
    rw [part_own, own_apply]
  · rw [part_of_ne xs ws c q j d h, prod_apply]

/-! ## The sum along the ring -/

theorem add_unsq (a b : S512x1024.Idx → Elt Ideal .bf16) (i : S512x1024.Idx) :
    (k0_pay18 (F := Ideal) a (unsq (α := Elt Ideal .bf16) b) i : EReal) = a i + b i := by
  have h : shapeCast (α := Elt Ideal .bf16) S512x1024 (unsq (α := Elt Ideal .bf16) b) shapeCasts_S1x512x1024_S512x1024 = b :=
    funext fun i => congrArg b (Equiv.symm_apply_apply _ i)
  show shapeCast S512x1024 (addf (F := Ideal) (φ := .bf16) a (shapeCast (α := Elt Ideal .bf16) S512x1024 (unsq (α := Elt Ideal .bf16) b) shapeCasts_S1x512x1024_S512x1024)) _ i = _
  rw [shapeCast_self, h]
  rfl

/-- Four steps along the ring, from any device and in either direction, pass every device once. -/
theorem ring_sum (T : Dev nD → EReal) (d : Fin 2) (q : Dev nD) :
    T ((nx d)^[3] q) + (T ((nx d)^[2] q) + (T ((nx d)^[1] q) + T q)) = ∑ c, T c := by
  rw [show ∑ c, T c = T 0 + T 1 + T 2 + T 3 from Fin.sum_univ_four T]
  have e : ∀ (a b e f : Fin 4), ({a, b, e, f} : Multiset (Fin 4)) = {0, 1, 2, 3} → T a + (T b + (T e + T f)) = T 0 + T 1 + T 2 + T 3 :=
    fun a b e f h => by
      have h' := congrArg (fun s => (Multiset.map T s).sum) h
      simp only [Multiset.insert_eq_cons, Multiset.map_cons, Multiset.map_singleton, Multiset.sum_cons, Multiset.sum_singleton] at h'
      rw [h', ← add_assoc, ← add_assoc]
  exact e _ _ _ _ (by revert d q; decide)

theorem full_apply (d : Fin 2) (q : Fin 4) (j : Fin 2) (r : Fin 512) (n : Fin 1024) :
    (full xs ws d q j (ix2 r n) : EReal) = ∑ c, term xs ws c (rowAt q j r) (colAt d n) := by
  rw [← ring_sum _ d q]
  show (val xs ws d q j 3 (ix2 r n) : EReal) = _
  rw [val, add_unsq, val, add_unsq, val, add_unsq, val, part_apply, part_apply, part_apply, part_apply]

/-- The result is the sum over the devices of the product of their columns of `x` and their rows of the weights. -/
theorem result_apply (i : Fin 4096) (l : Fin 2048) : (result xs ws (ix2 i l) : EReal) = ∑ c, term xs ws c i l := by
  show (full xs ws _ _ _ (ix2 _ _) : EReal) = _
  rw [full_apply]
  refine Finset.sum_congr rfl fun c _ => ?_
  congr 1 <;> apply Fin.ext
  · show 1024 * (i.val / 1024) + 512 * ((i.val % 1024) / 512) + (i.val % 1024) % 512 = i.val
    omega
  · show 1024 * (l.val / 1024) + l.val % 1024 = l.val
    omega

/-! ## The whole product -/

/-- A sum over `a * b` positions is the sum over `a` runs of `b` positions each. -/
theorem sum_runs {N : ℕ} (a b : ℕ) (hN : N = a * b) (f : Fin N → EReal) (g : Fin a → Fin b → Fin N)
    (hg : ∀ c k, (g c k).val = c.val * b + k.val) : ∑ k, f k = ∑ c, ∑ k, f (g c k) := by
  subst hN
  rw [← Equiv.sum_comp finProdFinEquiv f, Fintype.sum_prod_type]
  refine Finset.sum_congr rfl fun c _ => Finset.sum_congr rfl fun k _ => congrArg f (Fin.ext ?_)
  rw [hg, finProdFinEquiv_apply_val, Nat.mul_comm, Nat.add_comm]

/-- Cut into the blocks of 1024 columns of `x` and 1024 rows of the weights that the devices hold, the product of the
    whole matrices is the sum of the products of the blocks. -/
theorem sum_blocks (X : (⟨2, ![4096, 4096]⟩ : Shape).Idx → EReal) (W : S4096x2048.Idx → EReal)
    (hx : ∀ c, xs c = Layout.block S4096x1024 ⟨2, ![4096, 4096]⟩ 1 4 c X) (hw : ∀ c, ws c = Layout.block S1024x2048 S4096x2048 0 4 c W)
    (i : Fin 4096) (l : Fin 2048) : ∑ c, term xs ws c i l = ∑ k : Fin 4096, X (ix2 i k) * W (ix2 k l) := by
  rw [sum_runs 4 1024 (by decide) (fun k : Fin 4096 => X (ix2 i k) * W (ix2 k l))
    (fun c k => ⟨c.val * 1024 + k.val, by omega⟩) (fun _ _ => rfl)]
  refine Finset.sum_congr rfl fun c _ => Finset.sum_congr rfl fun k _ => ?_
  rw [hx, hw, Layout.block_apply, Layout.block_apply]
  exact congrArg₂ (· * ·) (congrArg X (eq_ix2 _)) (congrArg W (eq_ix2 _))

end Cert.KernelIdeal.Ring

end
-- ==== Proof.lean ====
/- The proof of the claims: both printings of the kernel and the reference run to the end, leave their arguments as they
   were and every semaphore at zero, and over the extended reals every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.StackMember
public import Idealize.ShloMosaic.Lib.Quiescent
public import Idealize.ShloMosaic.Adequacy
public import Idealize.ShloMosaic.Init

@[expose] public section

noncomputable section

namespace Cert.Proof

open Idealize.ShloMosaic Idealize.SL.Sem Cert.Kernel
open Idealize.ShloMosaic.ValueIdx

/-! ## The programs run, and leave what they were given -/

/-- The kernel's frame, whatever its floats are. -/
theorem frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩)
    (Cert.KernelIdeal.Ring.run_main m ρ)

/-- The kernel's two printings have the same text, so the same bodies. -/
theorem defs₀_eq [Cert.Kernel.Facts] : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))
theorem defs_eq [Cert.Kernel.Facts] : Cert.Kernel.defs (F := Bits) = Cert.KernelIdeal.defs (F := Bits) :=
  congrArg (Pipeline.defs Cert.Kernel.pcfgs) defs₀_eq

theorem frame_kernel : Cert.quiescent_Kernel (hKernel := Cert.Kernel.Gen.facts) := fun m ρ _ => by
  rw [defs_eq]
  exact frame (F := Bits) m ρ

theorem frame_kernelIdeal : Cert.quiescent_KernelIdeal (hKernelIdeal := Cert.KernelIdeal.Gen.facts) := fun m ρ _ =>
  frame (F := Ideal) m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-! ## The result -/

/-- The weights that the kernel is given are the whole of the second argument. -/
theorem wsOf_eq {F : FTy → Type} [FloatOps F]
    (m : (ℓ : Loc Cert.KernelIdeal.nD Cert.KernelIdeal.τ Cert.KernelIdeal.sig) → Buf (Elt F) ℓ) (c : Dev Cert.KernelIdeal.nD) :
    Cert.KernelIdeal.Ring.wsOf m c
      = m ((c.tc : Thread Cert.KernelIdeal.nD Cert.KernelIdeal.τ).loc Cert.KernelIdeal.main_arg1) :=
  funext fun i => congrArg (m ((c.tc : Thread Cert.KernelIdeal.nD Cert.KernelIdeal.τ).loc Cert.KernelIdeal.main_arg1))
    (funext fun a => by
      apply Fin.ext
      fin_cases a
      · show 0 * 1024 + 1 * (i (0 : Fin 2)).val = (i (0 : Fin 2)).val
        omega
      · show 0 * 2048 + 1 * (i (1 : Fin 2)).val = (i (1 : Fin 2)).val
        omega)

/-- Every device ends with the product of the whole matrices. -/
theorem outOf_eq (m : (ℓ : Loc Cert.KernelIdeal.nD Cert.KernelIdeal.τ Cert.KernelIdeal.sig) → Buf (Elt Ideal) ℓ)
    (X : (⟨2, ![4096, 4096]⟩ : Shape).Idx → Elt Ideal .f32) (W : (⟨2, ![4096, 2048]⟩ : Shape).Idx → Elt Ideal .f32)
    (hx : ∀ c : Dev Cert.KernelIdeal.nD, m ((c.tc : Thread Cert.KernelIdeal.nD Cert.KernelIdeal.τ).loc Cert.KernelIdeal.main_arg0)
      = Layout.block ⟨2, ![4096, 1024]⟩ ⟨2, ![4096, 4096]⟩ 1 4 c X)
    (hw : ∀ c : Dev Cert.KernelIdeal.nD, m ((c.tc : Thread Cert.KernelIdeal.nD Cert.KernelIdeal.τ).loc Cert.KernelIdeal.main_arg1)
      = Layout.block ⟨2, ![1024, 2048]⟩ ⟨2, ![4096, 2048]⟩ 0 4 c W) :
    Cert.KernelIdeal.Ring.outOf m = Host.dotGeneral (F := Ideal) (φ₁ := .f32) (φ₂ := .f32) (DotDims.plain 4096 4096 2048) none X W := by
  funext i
  rw [eq_ix2 i]
  refine Eq.trans ?_ (StackMember.dotGeneral_plain_apply none X W (i 0) (i 1)).symm
  refine Eq.trans ?_ (Cert.KernelIdeal.Ring.sum_blocks (Cert.KernelIdeal.Ring.xsOf m) (Cert.KernelIdeal.Ring.wsOf m) X W hx
    (fun c => (wsOf_eq m c).trans (hw c)) (i 0) (i 1))
  exact Cert.KernelIdeal.Ring.result_apply (Cert.KernelIdeal.Ring.xsOf m) (Cert.KernelIdeal.Ring.wsOf m) (i 0) (i 1)

theorem algebraic : Cert.algebraic_KernelIdeal_ReferenceIdeal (hKernelIdeal := Cert.KernelIdeal.Gen.facts)
    (hReferenceIdeal := Cert.ReferenceIdeal.Gen.facts) := fun m g m' g' _ hin =>
  ⟨_, (θ_run Cert.KernelIdeal.defs _ _).mono
      (fun _ h c => ⟨(h.1 c).2.2.trans (outOf_eq m _ _ (fun c => (hin c).1) (fun c => (hin c).2)), (h.1 c).1, (h.1 c).2.1⟩)
      (Cert.KernelIdeal.Ring.run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
